-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_v47) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v44) = v0 c
          ∧ r.2.mem ((c.tc : Thread Cert.Reference5Ideal.nD Cert.Reference5Ideal.τ).loc Cert.Reference5Ideal.main_v57) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16384x8704 : Shape := ⟨2, ![16384, 8704]⟩
abbrev S16384x2048 : Shape := ⟨2, ![16384, 2048]⟩
abbrev S16x1024 : Shape := ⟨2, ![16, 1024]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : FVec F S16384x8704 .bf16) (main_arg1 : FVec F S16384x2048 .f32) (main_arg2 : FVec F S16x1024 .bf16) (main_arg3 : FVec F S16x1024 .f32) : IVec S_ 1 :=
  let main_v0 : FVec F S16384x2048 .f32 := Host.absf main_arg1
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16x1024 .f32 := Host.absf main_arg3
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  main_v8
-- ==== Kernel.lean ====
abbrev S16384x8704 : Shape := ⟨2, ![16384, 8704]⟩
abbrev S16384x2048 : Shape := ⟨2, ![16384, 2048]⟩
abbrev S16x1024 : Shape := ⟨2, ![16, 1024]⟩
abbrev S16384x1024 : Shape := ⟨2, ![16384, 1024]⟩
abbrev S512x1024 : Shape := ⟨2, ![512, 1024]⟩
abbrev S8x128x128 : Shape := ⟨3, ![8, 128, 128]⟩
abbrev S2x512x1024 : Shape := ⟨3, ![2, 512, 1024]⟩
abbrev S2x8x1x1024 : Shape := ⟨4, ![2, 8, 1, 1024]⟩
abbrev S64x64 : Shape := ⟨2, ![64, 64]⟩
abbrev S16x16 : Shape := ⟨2, ![16, 16]⟩
abbrev S16x2048 : Shape := ⟨2, ![16, 2048]⟩
abbrev S1x1024 : Shape := ⟨2, ![1, 1024]⟩
abbrev S16x128 : Shape := ⟨2, ![16, 128]⟩
abbrev S128x128 : Shape := ⟨2, ![128, 128]⟩
abbrev S1x128x128 : Shape := ⟨3, ![1, 128, 128]⟩
abbrev S64x1024 : Shape := ⟨2, ![64, 1024]⟩
abbrev S64x2048 : Shape := ⟨2, ![64, 2048]⟩
abbrev S1x64x1024 : Shape := ⟨3, ![1, 64, 1024]⟩
abbrev S1x1x1x1024 : Shape := ⟨4, ![1, 1, 1, 1024]⟩
abbrev S1x64x128 : Shape := ⟨3, ![1, 64, 128]⟩
abbrev S64x128 : Shape := ⟨2, ![64, 128]⟩
abbrev S1x128 : Shape := ⟨2, ![1, 128]⟩

abbrev nBuf : Space → Nat
  | .hbm => 6
  | .vmem => 24
  | .smem => 0
  | _ => 0

abbrev bufTy : (tb : Table) → Fin (tcTables nBuf tb) → BufTy
  | .hbm, ⟨0, _⟩ => ⟨S16384x8704, .bf16⟩
  | .hbm, ⟨1, _⟩ => ⟨S16384x2048, .f32⟩
  | .hbm, ⟨2, _⟩ => ⟨S16x1024, .bf16⟩
  | .hbm, ⟨3, _⟩ => ⟨S16x1024, .f32⟩
  | .hbm, ⟨4, _⟩ => ⟨S16384x1024, .f32⟩
  | .hbm, ⟨5, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S16x1024, .bf16⟩
  | .local _ .vmem, ⟨13, _⟩ => ⟨S16x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S8x128x128, .f32⟩
  | .local _ .vmem, ⟨19, _⟩ => ⟨S8x128x128, .f32⟩
  | .local _ .vmem, ⟨20, _⟩ => ⟨S2x512x1024, .bf16⟩
  | .local _ .vmem, ⟨21, _⟩ => ⟨S2x512x1024, .bf16⟩
  | .local _ .vmem, ⟨22, _⟩ => ⟨S2x512x1024, .bf16⟩
  | .local _ .vmem, ⟨23, _⟩ => ⟨S2x8x1x1024, .f32⟩
  | _, _ => ⟨S16384x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_309 : BitVec 32 := 0#32
  let c8_i32 : BitVec 32 := 8#32
  let v657 : BitVec 32 := Scalar.addi c0_i32_309 c8_i32
  let c1_i32 : BitVec 32 := 1#32
  ⟨c0_i32_309, v657, c1_i32⟩
def k0_mult1 (k0_t1 : Fin k0_t1_loop.trips) : BitVec 32 :=
  let c0_i32_309 : BitVec 32 := 0#32
  let c1_i32 : BitVec 32 := 1#32
  let arg18 : BitVec 32 := Scf.iv c0_i32_309 c1_i32 k0_t1
  let c64_i32 : BitVec 32 := 64#32
  let v659 : BitVec 32 := Scalar.muli arg18 c64_i32
  v659
def k0_off1 (k0_t1 : Fin k0_t1_loop.trips) : Fin 4 → Nat :=
  let c0_311 : Index := 0#32
  let c0_i32_309 : BitVec 32 := 0#32
  let c1_i32 : BitVec 32 := 1#32
  let arg18 : BitVec 32 := Scf.iv c0_i32_309 c1_i32 k0_t1
  let v661 : Index := Scalar.indexCast arg18
  let c0_312 : Index := 0#32
  let c0_313 : Index := 0#32
  ![0, v661.toNat, 0, 0]
def k0_off2 (k0_t1 : Fin k0_t1_loop.trips) : Fin 3 → Nat :=
  let c0_314 : Index := 0#32
  let c0_i32_309 : BitVec 32 := 0#32
  let c1_i32 : BitVec 32 := 1#32
  let arg18 : BitVec 32 := Scf.iv c0_i32_309 c1_i32 k0_t1
  let c64_i32 : BitVec 32 := 64#32
  let v659 : BitVec 32 := Scalar.muli arg18 c64_i32
  let v660 : BitVec 32 := v659
  let v664 : Index := Scalar.indexCast v660
  let c0_315 : Index := 0#32
  ![0, v664.toNat, 0]
def k0_off3 (k0_t1 : Fin k0_t1_loop.trips) : Fin 2 → Nat :=
  let c0_i32_309 : BitVec 32 := 0#32
  let c1_i32 : BitVec 32 := 1#32
  let arg18 : BitVec 32 := Scf.iv c0_i32_309 c1_i32 k0_t1
  let c64_i32 : BitVec 32 := 64#32
  let v659 : BitVec 32 := Scalar.muli arg18 c64_i32
  let v660 : BitVec 32 := v659
  let v667 : Index := Scalar.indexCast v660
  let c0_316 : Index := 0#32
  ![v667.toNat, 0]
def k0_off4 (k0_t1 : Fin k0_t1_loop.trips) : Fin 3 → Nat :=
  let c0_330 : Index := 0#32
  let c0_i32_309 : BitVec 32 := 0#32
  let c1_i32 : BitVec 32 := 1#32
  let arg18 : BitVec 32 := Scf.iv c0_i32_309 c1_i32 k0_t1
  let c64_i32 : BitVec 32 := 64#32
  let v659 : BitVec 32 := Scalar.muli arg18 c64_i32
  let v660 : BitVec 32 := v659
  let v688 : Index := Scalar.indexCast v660
  let c128_331 : Index := 128#32
  ![0, v688.toNat, 128]
def k0_off5 (k0_t1 : Fin k0_t1_loop.trips) : Fin 2 → Nat :=
  let c0_i32_309 : BitVec 32 := 0#32
  let c1_i32 : BitVec 32 := 1#32
  let arg18 : BitVec 32 := Scf.iv c0_i32_309 c1_i32 k0_t1
  let c64_i32 : BitVec 32 := 64#32
  let v659 : BitVec 32 := Scalar.muli arg18 c64_i32
  let v660 : BitVec 32 := v659
  let v691 : Index := Scalar.indexCast v660
  let c128_332 : Index := 128#32
  ![v691.toNat, 128]
def k0_off6 (k0_t1 : Fin k0_t1_loop.trips) : Fin 3 → Nat :=
  let c0_346 : Index := 0#32
  let c0_i32_309 : BitVec 32 := 0#32
  let c1_i32 : BitVec 32 := 1#32
  let arg18 : BitVec 32 := Scf.iv c0_i32_309 c1_i32 k0_t1
  let c64_i32 : BitVec 32 := 64#32
  let v659 : BitVec 32 := Scalar.muli arg18 c64_i32
  let v660 : BitVec 32 := v659
  let v712 : Index := Scalar.indexCast v660
  let c256_347 : Index := 256#32
  ![0, v712.toNat, 256]
def k0_off7 (k0_t1 : Fin k0_t1_loop.trips) : Fin 2 → Nat :=
  let c0_i32_309 : BitVec 32 := 0#32
  let c1_i32 : BitVec 32 := 1#32
  let arg18 : BitVec 32 := Scf.iv c0_i32_309 c1_i32 k0_t1
  let c64_i32 : BitVec 32 := 64#32
  let v659 : BitVec 32 := Scalar.muli arg18 c64_i32
  let v660 : BitVec 32 := v659
  let v715 : Index := Scalar.indexCast v660
  let c256_348 : Index := 256#32
  ![v715.toNat, 256]
def k0_off8 (k0_t1 : Fin k0_t1_loop.trips) : Fin 3 → Nat :=
  let c0_362 : Index := 0#32
  let c0_i32_309 : BitVec 32 := 0#32
  let c1_i32 : BitVec 32 := 1#32
  let arg18 : BitVec 32 := Scf.iv c0_i32_309 c1_i32 k0_t1
  let c64_i32 : BitVec 32 := 64#32
  let v659 : BitVec 32 := Scalar.muli arg18 c64_i32
  let v660 : BitVec 32 := v659
  let v736 : Index := Scalar.indexCast v660
  let c384_363 : Index := 384#32
  ![0, v736.toNat, 384]
def k0_off9 (k0_t1 : Fin k0_t1_loop.trips) : Fin 2 → Nat :=
  let c0_i32_309 : BitVec 32 := 0#32
  let c1_i32 : BitVec 32 := 1#32
  let arg18 : BitVec 32 := Scf.iv c0_i32_309 c1_i32 k0_t1
  let c64_i32 : BitVec 32 := 64#32
  let v659 : BitVec 32 := Scalar.muli arg18 c64_i32
  let v660 : BitVec 32 := v659
  let v739 : Index := Scalar.indexCast v660
  let c384_364 : Index := 384#32
  ![v739.toNat, 384]
def k0_off10 (k0_t1 : Fin k0_t1_loop.trips) : Fin 3 → Nat :=
  let c0_378 : Index := 0#32
  let c0_i32_309 : BitVec 32 := 0#32
  let c1_i32 : BitVec 32 := 1#32
  let arg18 : BitVec 32 := Scf.iv c0_i32_309 c1_i32 k0_t1
  let c64_i32 : BitVec 32 := 64#32
  let v659 : BitVec 32 := Scalar.muli arg18 c64_i32
  let v660 : BitVec 32 := v659
  let v760 : Index := Scalar.indexCast v660
  let c512 : Index := 512#32
  ![0, v760.toNat, 512]
def k0_off11 (k0_t1 : Fin k0_t1_loop.trips) : Fin 2 → Nat :=
  let c0_i32_309 : BitVec 32 := 0#32
  let c1_i32 : BitVec 32 := 1#32
  let arg18 : BitVec 32 := Scf.iv c0_i32_309 c1_i32 k0_t1
  let c64_i32 : BitVec 32 := 64#32
  let v659 : BitVec 32 := Scalar.muli arg18 c64_i32
  let v660 : BitVec 32 := v659
  let v763 : Index := Scalar.indexCast v660
  let c512_379 : Index := 512#32
  ![v763.toNat, 512]
def k0_off12 (k0_t1 : Fin k0_t1_loop.trips) : Fin 3 → Nat :=
  let c0_393 : Index := 0#32
  let c0_i32_309 : BitVec 32 := 0#32
  let c1_i32 : BitVec 32 := 1#32
  let arg18 : BitVec 32 := Scf.iv c0_i32_309 c1_i32 k0_t1
  let c64_i32 : BitVec 32 := 64#32
  let v659 : BitVec 32 := Scalar.muli arg18 c64_i32
  let v660 : BitVec 32 := v659
  let v784 : Index := Scalar.indexCast v660
  let c640 : Index := 640#32
  ![0, v784.toNat, 640]
def k0_off13 (k0_t1 : Fin k0_t1_loop.trips) : Fin 2 → Nat :=
  let c0_i32_309 : BitVec 32 := 0#32
  let c1_i32 : BitVec 32 := 1#32
  let arg18 : BitVec 32 := Scf.iv c0_i32_309 c1_i32 k0_t1
  let c64_i32 : BitVec 32 := 64#32
  let v659 : BitVec 32 := Scalar.muli arg18 c64_i32
  let v660 : BitVec 32 := v659
  let v787 : Index := Scalar.indexCast v660
  let c640_394 : Index := 640#32
  ![v787.toNat, 640]
def k0_off14 (k0_t1 : Fin k0_t1_loop.trips) : Fin 3 → Nat :=
  let c0_408 : Index := 0#32
  let c0_i32_309 : BitVec 32 := 0#32
  let c1_i32 : BitVec 32 := 1#32
  let arg18 : BitVec 32 := Scf.iv c0_i32_309 c1_i32 k0_t1
  let c64_i32 : BitVec 32 := 64#32
  let v659 : BitVec 32 := Scalar.muli arg18 c64_i32
  let v660 : BitVec 32 := v659
  let v808 : Index := Scalar.indexCast v660
  let c768 : Index := 768#32
  ![0, v808.toNat, 768]
def k0_off15 (k0_t1 : Fin k0_t1_loop.trips) : Fin 2 → Nat :=
  let c0_i32_309 : BitVec 32 := 0#32
  let c1_i32 : BitVec 32 := 1#32
  let arg18 : BitVec 32 := Scf.iv c0_i32_309 c1_i32 k0_t1
  let c64_i32 : BitVec 32 := 64#32
  let v659 : BitVec 32 := Scalar.muli arg18 c64_i32
  let v660 : BitVec 32 := v659
  let v811 : Index := Scalar.indexCast v660
  let c768_409 : Index := 768#32
  ![v811.toNat, 768]
def k0_off16 (k0_t1 : Fin k0_t1_loop.trips) : Fin 3 → Nat :=
  let c0_423 : Index := 0#32
  let c0_i32_309 : BitVec 32 := 0#32
  let c1_i32 : BitVec 32 := 1#32
  let arg18 : BitVec 32 := Scf.iv c0_i32_309 c1_i32 k0_t1
  let c64_i32 : BitVec 32 := 64#32
  let v659 : BitVec 32 := Scalar.muli arg18 c64_i32
  let v660 : BitVec 32 := v659
  let v832 : Index := Scalar.indexCast v660
  let c896 : Index := 896#32
  ![0, v832.toNat, 896]
def k0_off17 (k0_t1 : Fin k0_t1_loop.trips) : Fin 2 → Nat :=
  let c0_i32_309 : BitVec 32 := 0#32
  let c1_i32 : BitVec 32 := 1#32
  let arg18 : BitVec 32 := Scf.iv c0_i32_309 c1_i32 k0_t1
  let c64_i32 : BitVec 32 := 64#32
  let v659 : BitVec 32 := Scalar.muli arg18 c64_i32
  let v660 : BitVec 32 := v659
  let v835 : Index := Scalar.indexCast v660
  let c896_424 : Index := 896#32
  ![v835.toNat, 896]
def k0_mult2 (k0_t1 : Fin k0_t1_loop.trips) : BitVec 32 :=
  let c7_i32 : BitVec 32 := 7#32
  let c0_i32_309 : BitVec 32 := 0#32
  let c1_i32 : BitVec 32 := 1#32
  let arg18 : BitVec 32 := Scf.iv c0_i32_309 c1_i32 k0_t1
  let v658 : BitVec 32 := Scalar.subi c7_i32 arg18
  let c64_i32_438 : BitVec 32 := 64#32
  let v856 : BitVec 32 := Scalar.muli v658 c64_i32_438
  v856
def k0_off18 (k0_t1 : Fin k0_t1_loop.trips) : Fin 4 → Nat :=
  let c1_439 : Index := 1#32
  let c7_i32 : BitVec 32 := 7#32
  let c0_i32_309 : BitVec 32 := 0#32
  let c1_i32 : BitVec 32 := 1#32
  let arg18 : BitVec 32 := Scf.iv c0_i32_309 c1_i32 k0_t1
  let v658 : BitVec 32 := Scalar.subi c7_i32 arg18
  let v858 : Index := Scalar.indexCast v658
  let c0_440 : Index := 0#32
  let c0_441 : Index := 0#32
  ![1, v858.toNat, 0, 0]
def k0_off19 (k0_t1 : Fin k0_t1_loop.trips) : Fin 3 → Nat :=
  let c1_442 : Index := 1#32
  let c7_i32 : BitVec 32 := 7#32
  let c0_i32_309 : BitVec 32 := 0#32
  let c1_i32 : BitVec 32 := 1#32
  let arg18 : BitVec 32 := Scf.iv c0_i32_309 c1_i32 k0_t1
  let v658 : BitVec 32 := Scalar.subi c7_i32 arg18
  let c64_i32_438 : BitVec 32 := 64#32
  let v856 : BitVec 32 := Scalar.muli v658 c64_i32_438
  let v857 : BitVec 32 := v856
  let v861 : Index := Scalar.indexCast v857
  let c0_443 : Index := 0#32
  ![1, v861.toNat, 0]
def k0_off20 (k0_t1 : Fin k0_t1_loop.trips) : Fin 2 → Nat :=
  let c7_i32 : BitVec 32 := 7#32
  let c0_i32_309 : BitVec 32 := 0#32
  let c1_i32 : BitVec 32 := 1#32
  let arg18 : BitVec 32 := Scf.iv c0_i32_309 c1_i32 k0_t1
  let v658 : BitVec 32 := Scalar.subi c7_i32 arg18
  let c64_i32_438 : BitVec 32 := 64#32
  let v856 : BitVec 32 := Scalar.muli v658 c64_i32_438
  let v857 : BitVec 32 := v856
  let v864 : Index := Scalar.indexCast v857
  let c0_444 : Index := 0#32
  ![v864.toNat, 0]
def k0_off21 (k0_t1 : Fin k0_t1_loop.trips) : Fin 3 → Nat :=
  let c1_458 : Index := 1#32
  let c7_i32 : BitVec 32 := 7#32
  let c0_i32_309 : BitVec 32 := 0#32
  let c1_i32 : BitVec 32 := 1#32
  let arg18 : BitVec 32 := Scf.iv c0_i32_309 c1_i32 k0_t1
  let v658 : BitVec 32 := Scalar.subi c7_i32 arg18
  let c64_i32_438 : BitVec 32 := 64#32
  let v856 : BitVec 32 := Scalar.muli v658 c64_i32_438
  let v857 : BitVec 32 := v856
  let v885 : Index := Scalar.indexCast v857
  let c128_459 : Index := 128#32
  ![1, v885.toNat, 128]
def k0_off22 (k0_t1 : Fin k0_t1_loop.trips) : Fin 2 → Nat :=
  let c7_i32 : BitVec 32 := 7#32
  let c0_i32_309 : BitVec 32 := 0#32
  let c1_i32 : BitVec 32 := 1#32
  let arg18 : BitVec 32 := Scf.iv c0_i32_309 c1_i32 k0_t1
  let v658 : BitVec 32 := Scalar.subi c7_i32 arg18
  let c64_i32_438 : BitVec 32 := 64#32
  let v856 : BitVec 32 := Scalar.muli v658 c64_i32_438
  let v857 : BitVec 32 := v856
  let v888 : Index := Scalar.indexCast v857
  let c128_460 : Index := 128#32
  ![v888.toNat, 128]
def k0_off23 (k0_t1 : Fin k0_t1_loop.trips) : Fin 3 → Nat :=
  let c1_474 : Index := 1#32
  let c7_i32 : BitVec 32 := 7#32
  let c0_i32_309 : BitVec 32 := 0#32
  let c1_i32 : BitVec 32 := 1#32
  let arg18 : BitVec 32 := Scf.iv c0_i32_309 c1_i32 k0_t1
  let v658 : BitVec 32 := Scalar.subi c7_i32 arg18
  let c64_i32_438 : BitVec 32 := 64#32
  let v856 : BitVec 32 := Scalar.muli v658 c64_i32_438
  let v857 : BitVec 32 := v856
  let v909 : Index := Scalar.indexCast v857
  let c256_475 : Index := 256#32
  ![1, v909.toNat, 256]
def k0_off24 (k0_t1 : Fin k0_t1_loop.trips) : Fin 2 → Nat :=
  let c7_i32 : BitVec 32 := 7#32
  let c0_i32_309 : BitVec 32 := 0#32
  let c1_i32 : BitVec 32 := 1#32
  let arg18 : BitVec 32 := Scf.iv c0_i32_309 c1_i32 k0_t1
  let v658 : BitVec 32 := Scalar.subi c7_i32 arg18
  let c64_i32_438 : BitVec 32 := 64#32
  let v856 : BitVec 32 := Scalar.muli v658 c64_i32_438
  let v857 : BitVec 32 := v856
  let v912 : Index := Scalar.indexCast v857
  let c256_476 : Index := 256#32
  ![v912.toNat, 256]
def k0_off25 (k0_t1 : Fin k0_t1_loop.trips) : Fin 3 → Nat :=
  let c1_490 : Index := 1#32
  let c7_i32 : BitVec 32 := 7#32
  let c0_i32_309 : BitVec 32 := 0#32
  let c1_i32 : BitVec 32 := 1#32
  let arg18 : BitVec 32 := Scf.iv c0_i32_309 c1_i32 k0_t1
  let v658 : BitVec 32 := Scalar.subi c7_i32 arg18
  let c64_i32_438 : BitVec 32 := 64#32
  let v856 : BitVec 32 := Scalar.muli v658 c64_i32_438
  let v857 : BitVec 32 := v856
  let v933 : Index := Scalar.indexCast v857
  let c384_491 : Index := 384#32
  ![1, v933.toNat, 384]
def k0_off26 (k0_t1 : Fin k0_t1_loop.trips) : Fin 2 → Nat :=
  let c7_i32 : BitVec 32 := 7#32
  let c0_i32_309 : BitVec 32 := 0#32
  let c1_i32 : BitVec 32 := 1#32
  let arg18 : BitVec 32 := Scf.iv c0_i32_309 c1_i32 k0_t1
  let v658 : BitVec 32 := Scalar.subi c7_i32 arg18
  let c64_i32_438 : BitVec 32 := 64#32
  let v856 : BitVec 32 := Scalar.muli v658 c64_i32_438
  let v857 : BitVec 32 := v856
  let v936 : Index := Scalar.indexCast v857
  let c384_492 : Index := 384#32
  ![v936.toNat, 384]
def k0_off27 (k0_t1 : Fin k0_t1_loop.trips) : Fin 3 → Nat :=
  let c1_506 : Index := 1#32
  let c7_i32 : BitVec 32 := 7#32
  let c0_i32_309 : BitVec 32 := 0#32
  let c1_i32 : BitVec 32 := 1#32
  let arg18 : BitVec 32 := Scf.iv c0_i32_309 c1_i32 k0_t1
  let v658 : BitVec 32 := Scalar.subi c7_i32 arg18
  let c64_i32_438 : BitVec 32 := 64#32
  let v856 : BitVec 32 := Scalar.muli v658 c64_i32_438
  let v857 : BitVec 32 := v856
  let v957 : Index := Scalar.indexCast v857
  let c512_507 : Index := 512#32
  ![1, v957.toNat, 512]
def k0_off28 (k0_t1 : Fin k0_t1_loop.trips) : Fin 2 → Nat :=
  let c7_i32 : BitVec 32 := 7#32
  let c0_i32_309 : BitVec 32 := 0#32
  let c1_i32 : BitVec 32 := 1#32
  let arg18 : BitVec 32 := Scf.iv c0_i32_309 c1_i32 k0_t1
  let v658 : BitVec 32 := Scalar.subi c7_i32 arg18
  let c64_i32_438 : BitVec 32 := 64#32
  let v856 : BitVec 32 := Scalar.muli v658 c64_i32_438
  let v857 : BitVec 32 := v856
  let v960 : Index := Scalar.indexCast v857
  let c512_508 : Index := 512#32
  ![v960.toNat, 512]
def k0_off29 (k0_t1 : Fin k0_t1_loop.trips) : Fin 3 → Nat :=
  let c1_522 : Index := 1#32
  let c7_i32 : BitVec 32 := 7#32
  let c0_i32_309 : BitVec 32 := 0#32
  let c1_i32 : BitVec 32 := 1#32
  let arg18 : BitVec 32 := Scf.iv c0_i32_309 c1_i32 k0_t1
  let v658 : BitVec 32 := Scalar.subi c7_i32 arg18
  let c64_i32_438 : BitVec 32 := 64#32
  let v856 : BitVec 32 := Scalar.muli v658 c64_i32_438
  let v857 : BitVec 32 := v856
  let v981 : Index := Scalar.indexCast v857
  let c640_523 : Index := 640#32
  ![1, v981.toNat, 640]
def k0_off30 (k0_t1 : Fin k0_t1_loop.trips) : Fin 2 → Nat :=
  let c7_i32 : BitVec 32 := 7#32
  let c0_i32_309 : BitVec 32 := 0#32
  let c1_i32 : BitVec 32 := 1#32
  let arg18 : BitVec 32 := Scf.iv c0_i32_309 c1_i32 k0_t1
  let v658 : BitVec 32 := Scalar.subi c7_i32 arg18
  let c64_i32_438 : BitVec 32 := 64#32
  let v856 : BitVec 32 := Scalar.muli v658 c64_i32_438
  let v857 : BitVec 32 := v856
  let v984 : Index := Scalar.indexCast v857
  let c640_524 : Index := 640#32
  ![v984.toNat, 640]
def k0_off31 (k0_t1 : Fin k0_t1_loop.trips) : Fin 3 → Nat :=
  let c1_538 : Index := 1#32
  let c7_i32 : BitVec 32 := 7#32
  let c0_i32_309 : BitVec 32 := 0#32
  let c1_i32 : BitVec 32 := 1#32
  let arg18 : BitVec 32 := Scf.iv c0_i32_309 c1_i32 k0_t1
  let v658 : BitVec 32 := Scalar.subi c7_i32 arg18
  let c64_i32_438 : BitVec 32 := 64#32
  let v856 : BitVec 32 := Scalar.muli v658 c64_i32_438
  let v857 : BitVec 32 := v856
  let v1005 : Index := Scalar.indexCast v857
  let c768_539 : Index := 768#32
  ![1, v1005.toNat, 768]
def k0_off32 (k0_t1 : Fin k0_t1_loop.trips) : Fin 2 → Nat :=
  let c7_i32 : BitVec 32 := 7#32
  let c0_i32_309 : BitVec 32 := 0#32
  let c1_i32 : BitVec 32 := 1#32
  let arg18 : BitVec 32 := Scf.iv c0_i32_309 c1_i32 k0_t1
  let v658 : BitVec 32 := Scalar.subi c7_i32 arg18
  let c64_i32_438 : BitVec 32 := 64#32
  let v856 : BitVec 32 := Scalar.muli v658 c64_i32_438
  let v857 : BitVec 32 := v856
  let v1008 : Index := Scalar.indexCast v857
  let c768_540 : Index := 768#32
  ![v1008.toNat, 768]
def k0_off33 (k0_t1 : Fin k0_t1_loop.trips) : Fin 3 → Nat :=
  let c1_554 : Index := 1#32
  let c7_i32 : BitVec 32 := 7#32
  let c0_i32_309 : BitVec 32 := 0#32
  let c1_i32 : BitVec 32 := 1#32
  let arg18 : BitVec 32 := Scf.iv c0_i32_309 c1_i32 k0_t1
  let v658 : BitVec 32 := Scalar.subi c7_i32 arg18
  let c64_i32_438 : BitVec 32 := 64#32
  let v856 : BitVec 32 := Scalar.muli v658 c64_i32_438
  let v857 : BitVec 32 := v856
  let v1029 : Index := Scalar.indexCast v857
  let c896_555 : Index := 896#32
  ![1, v1029.toNat, 896]
def k0_off34 (k0_t1 : Fin k0_t1_loop.trips) : Fin 2 → Nat :=
  let c7_i32 : BitVec 32 := 7#32
  let c0_i32_309 : BitVec 32 := 0#32
  let c1_i32 : BitVec 32 := 1#32
  let arg18 : BitVec 32 := Scf.iv c0_i32_309 c1_i32 k0_t1
  let v658 : BitVec 32 := Scalar.subi c7_i32 arg18
  let c64_i32_438 : BitVec 32 := 64#32
  let v856 : BitVec 32 := Scalar.muli v658 c64_i32_438
  let v857 : BitVec 32 := v856
  let v1032 : Index := Scalar.indexCast v857
  let c896_556 : Index := 896#32
  ![v1032.toNat, 896]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c1_i32_1 : BitVec 32 := 1#32
  let c0_i32 : BitVec 32 := 0#32
  ![v3.toNat, c1_i32_1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c1_i32_1 : BitVec 32 := 1#32
  let c0_i32 : BitVec 32 := 0#32
  ![v3.toNat, c1_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16384x8704 : Shape := ⟨2, ![16384, 8704]⟩
abbrev S16384x2048 : Shape := ⟨2, ![16384, 2048]⟩
abbrev S16x1024 : Shape := ⟨2, ![16, 1024]⟩
abbrev S16384x1024 : Shape := ⟨2, ![16384, 1024]⟩
abbrev S4x4096x8x128 : Shape := ⟨4, ![4, 4096, 8, 128]⟩
abbrev S8x4096x8x128 : Shape := ⟨4, ![8, 4096, 8, 128]⟩
abbrev S16x8x128 : Shape := ⟨3, ![16, 8, 128]⟩
abbrev S_ : Shape := ⟨0, ![]⟩
abbrev S1x8x128 : Shape := ⟨3, ![1, 8, 128]⟩
abbrev S8x128x128 : Shape := ⟨3, ![8, 128, 128]⟩
abbrev S1x8x128x128 : Shape := ⟨4, ![1, 8, 128, 128]⟩
abbrev S4x8x128x128 : Shape := ⟨4, ![4, 8, 128, 128]⟩
abbrev S8x8x128x128 : Shape := ⟨4, ![8, 8, 128, 128]⟩
abbrev S64x64 : Shape := ⟨2, ![64, 64]⟩
abbrev S8x64x64x8x128 : Shape := ⟨5, ![8, 64, 64, 8, 128]⟩
abbrev S64x8x64x8x128 : Shape := ⟨5, ![64, 8, 64, 8, 128]⟩
abbrev S1x8x64x8x128 : Shape := ⟨5, ![1, 8, 64, 8, 128]⟩
abbrev S8x64x8x128 : Shape := ⟨4, ![8, 64, 8, 128]⟩
abbrev S8x1x8x128 : Shape := ⟨4, ![8, 1, 8, 128]⟩
abbrev S8x8x64x64 : Shape := ⟨4, ![8, 8, 64, 64]⟩
abbrev S8x8x128x64 : Shape := ⟨4, ![8, 8, 128, 64]⟩
abbrev S8x8x128 : Shape := ⟨3, ![8, 8, 128]⟩
abbrev S8x8x128x1 : Shape := ⟨4, ![8, 8, 128, 1]⟩

abbrev nBuf : Space → Nat
  | .hbm => 147
  | .vmem => 0
  | .smem => 0
  | _ => 0

abbrev hbmTy0_0 (i : Nat) : BufTy := match i % 128 with
  | 0 => ⟨S16384x8704, .bf16⟩
  | 1 => ⟨S16384x2048, .f32⟩
  | 2 => ⟨S16x1024, .bf16⟩
  | 3 => ⟨S16x1024, .f32⟩
  | 4 => ⟨S16384x1024, .bf16⟩
  | 5 => ⟨S16384x1024, .f32⟩
  | 6 => ⟨S4x4096x8x128, .f32⟩
  | 7 => ⟨S16384x1024, .bf16⟩
  | 8 => ⟨S16384x1024, .f32⟩
  | 9 => ⟨S4x4096x8x128, .f32⟩
  | 10 => ⟨S16384x1024, .f32⟩
  | 11 => ⟨S4x4096x8x128, .f32⟩
  | 12 => ⟨S16384x1024, .f32⟩
  | 13 => ⟨S4x4096x8x128, .f32⟩
  | 14 => ⟨S4x4096x8x128, .f32⟩
  | 15 => ⟨S8x4096x8x128, .f32⟩
  | 16 => ⟨S16x8x128, .f32⟩
  | 17 => ⟨S16x1024, .f32⟩
  | 18 => ⟨S16x8x128, .f32⟩
  | 19 => ⟨S_, .f32⟩
  | 20 => ⟨S_, .f32⟩
  | 21 => ⟨S16x8x128, .f32⟩
  | 22 => ⟨S16x8x128, .f32⟩
  | 23 => ⟨S_, .f32⟩
  | 24 => ⟨S16x8x128, .f32⟩
  | 25 => ⟨S16x8x128, .f32⟩
  | 26 => ⟨S1x8x128, .f32⟩
  | 27 => ⟨S16x8x128, .f32⟩
  | 28 => ⟨S16x8x128, .f32⟩
  | 29 => ⟨S16x8x128, .f32⟩
  | 30 => ⟨S16x8x128, .f32⟩
  | 31 => ⟨S8x128x128, .f32⟩
  | 32 => ⟨S1x8x128x128, .f32⟩
  | 33 => ⟨S4x8x128x128, .f32⟩
  | 34 => ⟨S_, .f32⟩
  | 35 => ⟨S4x8x128x128, .f32⟩
  | 36 => ⟨S8x8x128x128, .f32⟩
  | 37 => ⟨S4x4096x8x128, .f32⟩
  | 38 => ⟨S8x4096x8x128, .f32⟩
  | 39 => ⟨S8x4096x8x128, .f32⟩
  | 40 => ⟨S_, .f32⟩
  | 41 => ⟨S8x4096x8x128, .f32⟩
  | 42 => ⟨S8x4096x8x128, .f32⟩
  | 43 => ⟨S4x4096x8x128, .f32⟩
  | 44 => ⟨S8x4096x8x128, .f32⟩
  | 45 => ⟨S_, .i1⟩
  | 46 => ⟨S64x64, .i1⟩
  | 47 => ⟨S64x64, .i32⟩
  | 48 => ⟨S_, .i32⟩
  | 49 => ⟨S64x64, .i32⟩
  | 50 => ⟨S64x64, .i32⟩
  | 51 => ⟨S64x64, .i32⟩
  | 52 => ⟨S64x64, .i1⟩
  | 53 => ⟨S_, .i1⟩
  | 54 => ⟨S64x64, .i1⟩
  | 55 => ⟨S64x64, .i1⟩
  | 56 => ⟨S8x64x64x8x128, .f32⟩
  | 57 => ⟨S64x8x64x8x128, .f32⟩
  | 58 => ⟨S8x64x64x8x128, .f32⟩
  | 59 => ⟨S64x8x64x8x128, .f32⟩
  | 60 => ⟨S8x64x64x8x128, .f32⟩
  | 61 => ⟨S64x8x64x8x128, .f32⟩
  | 62 => ⟨S8x64x64x8x128, .f32⟩
  | 63 => ⟨S64x8x64x8x128, .f32⟩
  | 64 => ⟨S_, .f32⟩
  | 65 => ⟨S64x8x64x8x128, .f32⟩
  | 66 => ⟨S_, .i32⟩
  | 67 => ⟨S64x8x64x8x128, .f32⟩
  | 68 => ⟨S64x8x64x8x128, .f32⟩
  | 69 => ⟨S64x8x64x8x128, .f32⟩
  | 70 => ⟨S64x8x64x8x128, .f32⟩
  | 71 => ⟨S64x64, .i1⟩
  | 72 => ⟨S_, .i32⟩
  | 73 => ⟨S8x8x128x128, .f32⟩
  | 74 => ⟨S64x8x64x8x128, .f32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S1x8x64x8x128, .f32⟩
  | 82 => ⟨S8x64x8x128, .f32⟩
  | 83 => ⟨S_, .i32⟩
  | 84 => ⟨S_, .i32⟩
  | 85 => ⟨S_, .i32⟩
  | 86 => ⟨S_, .i32⟩
  | 87 => ⟨S1x8x64x8x128, .f32⟩
  | 88 => ⟨S8x64x8x128, .f32⟩
  | 89 => ⟨S_, .i32⟩
  | 90 => ⟨S_, .i32⟩
  | 91 => ⟨S_, .i32⟩
  | 92 => ⟨S_, .i32⟩
  | 93 => ⟨S1x8x64x8x128, .f32⟩
  | 94 => ⟨S8x64x8x128, .f32⟩
  | 95 => ⟨S_, .i32⟩
  | 96 => ⟨S_, .i32⟩
  | 97 => ⟨S_, .i32⟩
  | 98 => ⟨S_, .i32⟩
  | 99 => ⟨S1x8x64x8x128, .f32⟩
  | 100 => ⟨S8x64x8x128, .f32⟩
  | 101 => ⟨S_, .f32⟩
  | 102 => ⟨S_, .f32⟩
  | 103 => ⟨S8x64x8x128, .f32⟩
  | 104 => ⟨S8x1x8x128, .f32⟩
  | 105 => ⟨S8x64x8x128, .f32⟩
  | 106 => ⟨S8x64x8x128, .f32⟩
  | 107 => ⟨S8x64x8x128, .f32⟩
  | 108 => ⟨S8x64x8x128, .f32⟩
  | 109 => ⟨S8x64x8x128, .f32⟩
  | 110 => ⟨S8x64x8x128, .f32⟩
  | 111 => ⟨S8x64x8x128, .f32⟩
  | 112 => ⟨S8x64x8x128, .f32⟩
  | 113 => ⟨S8x64x8x128, .f32⟩
  | 114 => ⟨S8x8x64x64, .f32⟩
  | 115 => ⟨S_, .f32⟩
  | 116 => ⟨S_, .f32⟩
  | 117 => ⟨S8x8x64x64, .i1⟩
  | 118 => ⟨S8x8x64x64, .f32⟩
  | 119 => ⟨S8x8x64x64, .f32⟩
  | 120 => ⟨S8x8x128x64, .f32⟩
  | 121 => ⟨S8x64x8x128, .f32⟩
  | 122 => ⟨S8x8x128x128, .f32⟩
  | 123 => ⟨S8x8x128x64, .f32⟩
  | 124 => ⟨S8x64x8x128, .f32⟩
  | 125 => ⟨S8x8x128, .f32⟩
  | 126 => ⟨S8x8x128, .f32⟩
  | 127 => ⟨S8x8x128x1, .f32⟩
  | _ => ⟨S16384x8704, .bf16⟩

abbrev hbmTy0_1 (i : Nat) : BufTy := match i % 128 with
  | 0 => ⟨S8x8x128x128, .f32⟩
  | 1 => ⟨S8x8x128x128, .f32⟩
  | 2 => ⟨S8x8x128x128, .f32⟩
  | 3 => ⟨S8x64x8x128, .f32⟩
  | 4 => ⟨S1x8x64x8x128, .f32⟩
  | 5 => ⟨S_, .i32⟩
  | 6 => ⟨S_, .i32⟩
  | 7 => ⟨S_, .i32⟩
  | 8 => ⟨S_, .i32⟩
  | 9 => ⟨S64x8x64x8x128, .f32⟩
  | 10 => ⟨S_, .i32⟩
  | 11 => ⟨S_, .i32⟩
  | 12 => ⟨S8x64x64x8x128, .f32⟩
  | 13 => ⟨S8x4096x8x128, .f32⟩
  | 14 => ⟨S4x4096x8x128, .f32⟩
  | 15 => ⟨S16384x1024, .f32⟩
  | 16 => ⟨S4x4096x8x128, .f32⟩
  | 17 => ⟨S4x4096x8x128, .f32⟩
  | 18 => ⟨S16384x1024, .f32⟩
  | _ => ⟨S16384x8704, .bf16⟩

abbrev hbmTy (i : Nat) : BufTy := match i / 128 with
  | 0 => hbmTy0_0 i
  | 1 => hbmTy0_1 i
  | _ => ⟨S16384x8704, .bf16⟩

abbrev bufTy : (tb : Table) → Fin (tcTables nBuf tb) → BufTy
  | .hbm, ⟨i, _⟩ => hbmTy i
  | _, _ => ⟨S16384x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call1_call0_cst : Ref sig .tc := ⟨.hbm, 19, rfl⟩
abbrev main_call1_call0_v0 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c : Ref sig .tc := ⟨.hbm, 45, rfl⟩
abbrev main_v36 : Ref sig .tc := ⟨.hbm, 46, rfl⟩
abbrev main_call4_v0 : Ref sig .tc := ⟨.hbm, 47, rfl⟩
abbrev main_call4_c : Ref sig .tc := ⟨.hbm, 48, rfl⟩
abbrev main_call4_v1 : Ref sig .tc := ⟨.hbm, 49, rfl⟩
abbrev main_call4_v2 : Ref sig .tc := ⟨.hbm, 50, rfl⟩
abbrev main_call4_v3 : Ref sig .tc := ⟨.hbm, 51, rfl⟩
abbrev main_call4_v4 : Ref sig .tc := ⟨.hbm, 52, rfl⟩
abbrev main_call4_c_0 : Ref sig .tc := ⟨.hbm, 53, rfl⟩
abbrev main_call4_v5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_2 : Ref sig .tc := ⟨.hbm, 64, rfl⟩
abbrev main_v46 : Ref sig .tc := ⟨.hbm, 65, rfl⟩
abbrev main_c_3 : Ref sig .tc := ⟨.hbm, 66, rfl⟩
abbrev main_v47_0 : Ref sig .tc := ⟨.hbm, 67, rfl⟩
abbrev main_v47_1 : Ref sig .tc := ⟨.hbm, 68, rfl⟩
abbrev main_v47_2 : Ref sig .tc := ⟨.hbm, 69, rfl⟩
abbrev main_v47_3 : Ref sig .tc := ⟨.hbm, 70, rfl⟩
abbrev main_v47_4 : Ref sig .tc := ⟨.hbm, 71, rfl⟩
abbrev main_v47_5 : Ref sig .tc := ⟨.hbm, 72, rfl⟩
abbrev main_v47_6 : Ref sig .tc := ⟨.hbm, 73, rfl⟩
abbrev main_v47_7 : Ref sig .tc := ⟨.hbm, 74, rfl⟩
abbrev main_while0c_c_11 : Ref sig .tc := ⟨.hbm, 75, rfl⟩
abbrev main_while0c_v55 : Ref sig .tc := ⟨.hbm, 76, rfl⟩
abbrev main_while0b_call5_c : Ref sig .tc := ⟨.hbm, 77, rfl⟩
abbrev main_while0b_call5_c_0 : Ref sig .tc := ⟨.hbm, 78, rfl⟩
abbrev main_while0b_call5_c_1 : Ref sig .tc := ⟨.hbm, 79, rfl⟩
abbrev main_while0b_call5_c_2 : Ref sig .tc := ⟨.hbm, 80, rfl⟩
abbrev main_while0b_call5_v0 : Ref sig .tc := ⟨.hbm, 81, rfl⟩
abbrev main_while0b_v55 : Ref sig .tc := ⟨.hbm, 82, rfl⟩
abbrev main_while0b_call6_c : Ref sig .tc := ⟨.hbm, 83, rfl⟩
abbrev main_while0b_call6_c_0 : Ref sig .tc := ⟨.hbm, 84, rfl⟩
abbrev main_while0b_call6_c_1 : Ref sig .tc := ⟨.hbm, 85, rfl⟩
abbrev main_while0b_call6_c_2 : Ref sig .tc := ⟨.hbm, 86, rfl⟩
abbrev main_while0b_call6_v0 : Ref sig .tc := ⟨.hbm, 87, rfl⟩
abbrev main_while0b_v56 : Ref sig .tc := ⟨.hbm, 88, rfl⟩
abbrev main_while0b_call7_c : Ref sig .tc := ⟨.hbm, 89, rfl⟩
abbrev main_while0b_call7_c_0 : Ref sig .tc := ⟨.hbm, 90, rfl⟩
abbrev main_while0b_call7_c_1 : Ref sig .tc := ⟨.hbm, 91, rfl⟩
abbrev main_while0b_call7_c_2 : Ref sig .tc := ⟨.hbm, 92, rfl⟩
abbrev main_while0b_call7_v0 : Ref sig .tc := ⟨.hbm, 93, rfl⟩
abbrev main_while0b_v57 : Ref sig .tc := ⟨.hbm, 94, rfl⟩
abbrev main_while0b_call8_c : Ref sig .tc := ⟨.hbm, 95, rfl⟩
abbrev main_while0b_call8_c_0 : Ref sig .tc := ⟨.hbm, 96, rfl⟩
abbrev main_while0b_call8_c_1 : Ref sig .tc := ⟨.hbm, 97, rfl⟩
abbrev main_while0b_call8_c_2 : Ref sig .tc := ⟨.hbm, 98, rfl⟩
abbrev main_while0b_call8_v0 : Ref sig .tc := ⟨.hbm, 99, rfl⟩
abbrev main_while0b_v58 : Ref sig .tc := ⟨.hbm, 100, rfl⟩
abbrev main_while0b_call9_call0_cst : Ref sig .tc := ⟨.hbm, 101, rfl⟩
abbrev main_while0b_call9_call0_v0 : Ref sig .tc := ⟨.hbm, 102, rfl⟩
abbrev main_while0b_v59 : Ref sig .tc := ⟨.hbm, 103, rfl⟩
abbrev main_while0b_v60 : Ref sig .tc := ⟨.hbm, 104, rfl⟩
abbrev main_while0b_v61 : Ref sig .tc := ⟨.hbm, 105, rfl⟩
abbrev main_while0b_v62 : Ref sig .tc := ⟨.hbm, 106, rfl⟩
abbrev main_while0b_v63 : Ref sig .tc := ⟨.hbm, 107, rfl⟩
abbrev main_while0b_v64 : Ref sig .tc := ⟨.hbm, 108, rfl⟩
abbrev main_while0b_v65 : Ref sig .tc := ⟨.hbm, 109, rfl⟩
abbrev main_while0b_v66 : Ref sig .tc := ⟨.hbm, 110, rfl⟩
abbrev main_while0b_v67 : Ref sig .tc := ⟨.hbm, 111, rfl⟩
abbrev main_while0b_v68 : Ref sig .tc := ⟨.hbm, 112, rfl⟩
abbrev main_while0b_v69 : Ref sig .tc := ⟨.hbm, 113, rfl⟩
abbrev main_while0b_v70 : Ref sig .tc := ⟨.hbm, 114, rfl⟩
abbrev main_while0b_cst_11 : Ref sig .tc := ⟨.hbm, 115, rfl⟩
abbrev main_while0b_call10_v0 : Ref sig .tc := ⟨.hbm, 116, rfl⟩
abbrev main_while0b_call10_v1 : Ref sig .tc := ⟨.hbm, 117, rfl⟩
abbrev main_while0b_call10_v2 : Ref sig .tc := ⟨.hbm, 118, rfl⟩
abbrev main_while0b_v71 : Ref sig .tc := ⟨.hbm, 119, rfl⟩
abbrev main_while0b_v72 : Ref sig .tc := ⟨.hbm, 120, rfl⟩
abbrev main_while0b_v73 : Ref sig .tc := ⟨.hbm, 121, rfl⟩
abbrev main_while0b_v74 : Ref sig .tc := ⟨.hbm, 122, rfl⟩
abbrev main_while0b_v75 : Ref sig .tc := ⟨.hbm, 123, rfl⟩
abbrev main_while0b_v76 : Ref sig .tc := ⟨.hbm, 124, rfl⟩
abbrev main_while0b_v77 : Ref sig .tc := ⟨.hbm, 125, rfl⟩
abbrev main_while0b_v78 : Ref sig .tc := ⟨.hbm, 126, rfl⟩
abbrev main_while0b_v79 : Ref sig .tc := ⟨.hbm, 127, rfl⟩
abbrev main_while0b_v80 : Ref sig .tc := ⟨.hbm, 128, rfl⟩
abbrev main_while0b_v81 : Ref sig .tc := ⟨.hbm, 129, rfl⟩
abbrev main_while0b_v82 : Ref sig .tc := ⟨.hbm, 130, rfl⟩
abbrev main_while0b_v83 : Ref sig .tc := ⟨.hbm, 131, rfl⟩
abbrev main_while0b_call11_v0 : Ref sig .tc := ⟨.hbm, 132, rfl⟩
abbrev main_while0b_call11_c : Ref sig .tc := ⟨.hbm, 133, rfl⟩
abbrev main_while0b_call11_c_0 : Ref sig .tc := ⟨.hbm, 134, rfl⟩
abbrev main_while0b_call11_c_1 : Ref sig .tc := ⟨.hbm, 135, rfl⟩
abbrev main_while0b_call11_c_2 : Ref sig .tc := ⟨.hbm, 136, rfl⟩
abbrev main_while0b_v84 : Ref sig .tc := ⟨.hbm, 137, rfl⟩
abbrev main_while0b_c_12 : Ref sig .tc := ⟨.hbm, 138, rfl⟩
abbrev main_while0b_v85 : Ref sig .tc := ⟨.hbm, 139, rfl⟩
abbrev main_v48 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S16384x2048 : Shape := ⟨2, ![16384, 2048]⟩
abbrev S2048x8192 : Shape := ⟨2, ![2048, 8192]⟩
abbrev S16384x8192 : Shape := ⟨2, ![16384, 8192]⟩
abbrev S2048x2048 : Shape := ⟨2, ![2048, 2048]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x8192, .f32⟩
  | .hbm, ⟨2, _⟩ => ⟨S16384x8192, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .f32⟩
  | .local _ .vmem, ⟨3, _⟩ => ⟨S2048x1024, .f32⟩
  | .local _ .vmem, ⟨4, _⟩ => ⟨S2048x1024, .bf16⟩
  | .local _ .vmem, ⟨5, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c7_i32 : BitVec 32 := 7#32
  let v11 : BitVec 32 := Scalar.subi c7_i32 arg1
  let v12 : BitVec 32 := Scalar.select v10 arg1 v11
  let c0_i32_4 : BitVec 32 := 0#32
  let c0_i32_5 : BitVec 32 := 0#32
  ![c0_i32_4.toNat, v12.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c7_i32 : BitVec 32 := 7#32
  let v11 : BitVec 32 := Scalar.subi c7_i32 arg1
  let v12 : BitVec 32 := Scalar.select v10 arg1 v11
  let c0_i32_4 : BitVec 32 := 0#32
  ![arg0.toNat, v12.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x2048 : Shape := ⟨2, ![16384, 2048]⟩
abbrev S2048x8192 : Shape := ⟨2, ![2048, 8192]⟩
abbrev S16384x8192 : Shape := ⟨2, ![16384, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8192, .f32⟩
  | .hbm, ⟨2, _⟩ => ⟨S16384x2048, .f32⟩
  | .hbm, ⟨3, _⟩ => ⟨S16384x8192, .f32⟩
  | .hbm, ⟨4, _⟩ => ⟨S_, .f32⟩
  | .hbm, ⟨5, _⟩ => ⟨S16384x8192, .f32⟩
  | .hbm, ⟨6, _⟩ => ⟨S16384x8192, .f32⟩
  | .hbm, ⟨7, _⟩ => ⟨S16384x8192, .f32⟩
  | .hbm, ⟨8, _⟩ => ⟨S16384x8192, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel3.lean ====
abbrev S16384x8192 : Shape := ⟨2, ![16384, 8192]⟩
abbrev S16384x2048 : Shape := ⟨2, ![16384, 2048]⟩
abbrev S8192x2048 : Shape := ⟨2, ![8192, 2048]⟩
abbrev S1x2048 : Shape := ⟨2, ![1, 2048]⟩
abbrev S512x8192 : Shape := ⟨2, ![512, 8192]⟩
abbrev S512x2048 : Shape := ⟨2, ![512, 2048]⟩
abbrev S8192x512 : Shape := ⟨2, ![8192, 512]⟩
abbrev S512x512 : Shape := ⟨2, ![512, 512]⟩
abbrev S256x8192 : Shape := ⟨2, ![256, 8192]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S16384x8192, .bf16⟩
  | .hbm, ⟨1, _⟩ => ⟨S16384x2048, .f32⟩
  | .hbm, ⟨2, _⟩ => ⟨S8192x2048, .bf16⟩
  | .hbm, ⟨3, _⟩ => ⟨S1x2048, .f32⟩
  | .hbm, ⟨4, _⟩ => ⟨S16384x2048, .f32⟩
  | .local _ .vmem, ⟨0, _⟩ => ⟨S512x8192, .bf16⟩
  | .local _ .vmem, ⟨1, _⟩ => ⟨S512x8192, .bf16⟩
  | .local _ .vmem, ⟨2, _⟩ => ⟨S512x2048, .f32⟩
  | .local _ .vmem, ⟨3, _⟩ => ⟨S512x2048, .f32⟩
  | .local _ .vmem, ⟨4, _⟩ => ⟨S8192x512, .bf16⟩
  | .local _ .vmem, ⟨5, _⟩ => ⟨S8192x512, .bf16⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let arg1 : BitVec 32 := BitVec.ofNat 32 (i 1).val
  let c3_i32 : BitVec 32 := 3#32
  let v11 : BitVec 32 := Scalar.subi c3_i32 arg1
  let v12 : BitVec 32 := Scalar.select v10 arg1 v11
  let c512_i32 : BitVec 32 := 512#32
  let v13 : BitVec 32 := Scalar.muli v12 c512_i32
  v13
def k0_cond1 (i : grid0.Coords) : BitVec 1 :=
  let arg1 : BitVec 32 := BitVec.ofNat 32 (i 1).val
  let c3_i32_4 : BitVec 32 := 3#32
  let v15 : BitVec 1 := Scalar.cmpi .eq arg1 c3_i32_4
  let v_true : BitVec 1 := 1#1
  let v16 : BitVec 1 := Scalar.xori v15 v_true
  let v17 : BitVec 32 := Scalar.extui v16
  let c0_i32_5 : BitVec 32 := 0#32
  let v18 : BitVec 1 := Scalar.cmpi .ne v17 c0_i32_5
  v18

def k0_off1 (i : grid0.Coords) : Fin 2 → Nat :=
  let c0_10 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let arg1 : BitVec 32 := BitVec.ofNat 32 (i 1).val
  let c3_i32 : BitVec 32 := 3#32
  let v11 : BitVec 32 := Scalar.subi c3_i32 arg1
  let v12 : BitVec 32 := Scalar.select v10 arg1 v11
  let c512_i32 : BitVec 32 := 512#32
  let v13 : BitVec 32 := Scalar.muli v12 c512_i32
  let v14 : BitVec 32 := v13
  let v24 : Index := Scalar.indexCast v14
  ![0, v24.toNat]
def k0_cond2 (i : grid0.Coords) : BitVec 1 :=
  let arg1 : BitVec 32 := BitVec.ofNat 32 (i 1).val
  let c3_i32_4 : BitVec 32 := 3#32
  let v15 : BitVec 1 := Scalar.cmpi .eq arg1 c3_i32_4
  let v19 : BitVec 32 := Scalar.extui v15
  let c0_i32_6 : BitVec 32 := 0#32
  let v20 : BitVec 1 := Scalar.cmpi .ne v19 c0_i32_6
  v20

def k0_off2 (i : grid0.Coords) : Fin 2 → Nat :=
  let c0_10 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let arg1 : BitVec 32 := BitVec.ofNat 32 (i 1).val
  let c3_i32 : BitVec 32 := 3#32
  let v11 : BitVec 32 := Scalar.subi c3_i32 arg1
  let v12 : BitVec 32 := Scalar.select v10 arg1 v11
  let c512_i32 : BitVec 32 := 512#32
  let v13 : BitVec 32 := Scalar.muli v12 c512_i32
  let v14 : BitVec 32 := v13
  let v24 : Index := Scalar.indexCast v14
  ![0, v24.toNat]
def k0_off3 (i : grid0.Coords) : Fin 2 → Nat :=
  let c256_26 : Index := 256#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let arg1 : BitVec 32 := BitVec.ofNat 32 (i 1).val
  let c3_i32 : BitVec 32 := 3#32
  let v11 : BitVec 32 := Scalar.subi c3_i32 arg1
  let v12 : BitVec 32 := Scalar.select v10 arg1 v11
  let c512_i32 : BitVec 32 := 512#32
  let v13 : BitVec 32 := Scalar.muli v12 c512_i32
  let v14 : BitVec 32 := v13
  let v47 : Index := Scalar.indexCast v14
  ![256, v47.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c3_i32 : BitVec 32 := 3#32
  let v11 : BitVec 32 := Scalar.subi c3_i32 arg1
  let v12 : BitVec 32 := Scalar.select v10 arg1 v11
  let c0_i32_4 : BitVec 32 := 0#32
  let c0_i32_5 : BitVec 32 := 0#32
  ![c0_i32_4.toNat, v12.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S16384x8192 : Shape := ⟨2, ![16384, 8192]⟩
abbrev S16384x2048 : Shape := ⟨2, ![16384, 2048]⟩
abbrev S8192x2048 : Shape := ⟨2, ![8192, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 23
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S16384x2048, .f32⟩
  | .hbm, ⟨2, _⟩ => ⟨S8192x2048, .bf16⟩
  | .hbm, ⟨3, _⟩ => ⟨S1x2048, .f32⟩
  | .hbm, ⟨4, _⟩ => ⟨S16384x8192, .f32⟩
  | .hbm, ⟨5, _⟩ => ⟨S8192x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel4.lean ====
abbrev S16384x2048 : Shape := ⟨2, ![16384, 2048]⟩
abbrev S1x2048 : Shape := ⟨2, ![1, 2048]⟩
abbrev S2048x10752 : Shape := ⟨2, ![2048, 10752]⟩
abbrev S2x2048 : Shape := ⟨2, ![2, 2048]⟩
abbrev S16384x8704 : Shape := ⟨2, ![16384, 8704]⟩
abbrev S1024x2048 : Shape := ⟨2, ![1024, 2048]⟩
abbrev S2048x1024 : Shape := ⟨2, ![2048, 1024]⟩
abbrev S2x1024 : Shape := ⟨2, ![2, 1024]⟩
abbrev S1024x1024 : Shape := ⟨2, ![1024, 1024]⟩
abbrev S1024 : Shape := ⟨1, ![1024]⟩
abbrev S1024x1 : Shape := ⟨2, ![1024, 1]⟩
abbrev S128x2048 : Shape := ⟨2, ![128, 2048]⟩
abbrev S128x1024 : Shape := ⟨2, ![128, 1024]⟩
abbrev S128x512 : Shape := ⟨2, ![128, 512]⟩
abbrev S2048x512 : Shape := ⟨2, ![2048, 512]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x10752, .f32⟩
  | .hbm, ⟨3, _⟩ => ⟨S2x2048, .f32⟩
  | .hbm, ⟨4, _⟩ => ⟨S16384x8704, .bf16⟩
  | .hbm, ⟨5, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .f32⟩
  | .local _ .vmem, ⟨4, _⟩ => ⟨S2048x1024, .f32⟩
  | .local _ .vmem, ⟨5, _⟩ => ⟨S2x1024, .f32⟩
  | .local _ .vmem, ⟨6, _⟩ => ⟨S2x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg0 : BitVec 32 := BitVec.ofNat 32 (i 0).val
  let c2_i32 : BitVec 32 := 2#32
  let c0_i32_0 : BitVec 32 := 0#32
  let v1 : BitVec 1 := Scalar.cmpi .eq c2_i32 c0_i32_0
  let c1_i32 : BitVec 32 := 1#32
  let v2 : BitVec 32 := Scalar.select v1 c1_i32 c2_i32
  let v3 : BitVec 32 := Scalar.remsi arg0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .eq v10 c0_i32_4
  let arg1 : BitVec 32 := BitVec.ofNat 32 (i 1).val
  let c10_i32 : BitVec 32 := 10#32
  let v12 : BitVec 32 := Scalar.subi c10_i32 arg1
  let v13 : BitVec 32 := Scalar.select v11 arg1 v12
  let c4_i32 : BitVec 32 := 4#32
  let v25 : BitVec 1 := Scalar.cmpi .slt v13 c4_i32
  let v26 : BitVec 32 := Scalar.extui v25
  let c0_i32_13 : BitVec 32 := 0#32
  let v27 : BitVec 1 := Scalar.cmpi .ne v26 c0_i32_13
  v27

def k0_cond3 (i : grid0.Coords) : BitVec 1 :=
  let arg0 : BitVec 32 := BitVec.ofNat 32 (i 0).val
  let c2_i32 : BitVec 32 := 2#32
  let c0_i32_0 : BitVec 32 := 0#32
  let v1 : BitVec 1 := Scalar.cmpi .eq c2_i32 c0_i32_0
  let c1_i32 : BitVec 32 := 1#32
  let v2 : BitVec 32 := Scalar.select v1 c1_i32 c2_i32
  let v3 : BitVec 32 := Scalar.remsi arg0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .eq v10 c0_i32_4
  let arg1 : BitVec 32 := BitVec.ofNat 32 (i 1).val
  let c10_i32 : BitVec 32 := 10#32
  let v12 : BitVec 32 := Scalar.subi c10_i32 arg1
  let v13 : BitVec 32 := Scalar.select v11 arg1 v12
  let c4_i32_14 : BitVec 32 := 4#32
  let v28 : BitVec 1 := Scalar.cmpi .eq v13 c4_i32_14
  let v29 : BitVec 32 := Scalar.extui v28
  let c0_i32_15 : BitVec 32 := 0#32
  let v30 : BitVec 1 := Scalar.cmpi .ne v29 c0_i32_15
  v30

def k0_cond4 (i : grid0.Coords) : BitVec 1 :=
  let arg0 : BitVec 32 := BitVec.ofNat 32 (i 0).val
  let c2_i32 : BitVec 32 := 2#32
  let c0_i32_0 : BitVec 32 := 0#32
  let v1 : BitVec 1 := Scalar.cmpi .eq c2_i32 c0_i32_0
  let c1_i32 : BitVec 32 := 1#32
  let v2 : BitVec 32 := Scalar.select v1 c1_i32 c2_i32
  let v3 : BitVec 32 := Scalar.remsi arg0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .eq v10 c0_i32_4
  let arg1 : BitVec 32 := BitVec.ofNat 32 (i 1).val
  let c10_i32 : BitVec 32 := 10#32
  let v12 : BitVec 32 := Scalar.subi c10_i32 arg1
  let v13 : BitVec 32 := Scalar.select v11 arg1 v12
  let c5_i32 : BitVec 32 := 5#32
  let v31 : BitVec 1 := Scalar.cmpi .sge v13 c5_i32
  let c8_i32 : BitVec 32 := 8#32
  let v32 : BitVec 1 := Scalar.cmpi .slt v13 c8_i32
  let v33 : BitVec 1 := Scalar.andi v31 v32
  let v34 : BitVec 32 := Scalar.extui v33
  let c0_i32_16 : BitVec 32 := 0#32
  let v35 : BitVec 1 := Scalar.cmpi .ne v34 c0_i32_16
  v35

def k0_cond5 (i : grid0.Coords) : BitVec 1 :=
  let arg0 : BitVec 32 := BitVec.ofNat 32 (i 0).val
  let c2_i32 : BitVec 32 := 2#32
  let c0_i32_0 : BitVec 32 := 0#32
  let v1 : BitVec 1 := Scalar.cmpi .eq c2_i32 c0_i32_0
  let c1_i32 : BitVec 32 := 1#32
  let v2 : BitVec 32 := Scalar.select v1 c1_i32 c2_i32
  let v3 : BitVec 32 := Scalar.remsi arg0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .eq v10 c0_i32_4
  let arg1 : BitVec 32 := BitVec.ofNat 32 (i 1).val
  let c10_i32 : BitVec 32 := 10#32
  let v12 : BitVec 32 := Scalar.subi c10_i32 arg1
  let v13 : BitVec 32 := Scalar.select v11 arg1 v12
  let c8_i32_17 : BitVec 32 := 8#32
  let v36 : BitVec 1 := Scalar.cmpi .eq v13 c8_i32_17
  let v37 : BitVec 32 := Scalar.extui v36
  let c0_i32_18 : BitVec 32 := 0#32
  let v38 : BitVec 1 := Scalar.cmpi .ne v37 c0_i32_18
  v38

def k0_cond6 (i : grid0.Coords) : BitVec 1 :=
  let arg0 : BitVec 32 := BitVec.ofNat 32 (i 0).val
  let c2_i32 : BitVec 32 := 2#32
  let c0_i32_0 : BitVec 32 := 0#32
  let v1 : BitVec 1 := Scalar.cmpi .eq c2_i32 c0_i32_0
  let c1_i32 : BitVec 32 := 1#32
  let v2 : BitVec 32 := Scalar.select v1 c1_i32 c2_i32
  let v3 : BitVec 32 := Scalar.remsi arg0 v2
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let c0_i32_1 : BitVec 32 := 0#32
  let v4 : BitVec 1 := Scalar.cmpi .ne v3 c0_i32_1
  let v8 : BitVec 1 := Scalar.andi v7 v4
  let v9 : BitVec 32 := Scalar.addi v3 v2
  let v10 : BitVec 32 := Scalar.select v8 v9 v3
  let c0_i32_4 : BitVec 32 := 0#32
  let v11 : BitVec 1 := Scalar.cmpi .eq v10 c0_i32_4
  let arg1 : BitVec 32 := BitVec.ofNat 32 (i 1).val
  let c10_i32 : BitVec 32 := 10#32
  let v12 : BitVec 32 := Scalar.subi c10_i32 arg1
  let v13 : BitVec 32 := Scalar.select v11 arg1 v12
  let c9_i32 : BitVec 32 := 9#32
  let v39 : BitVec 1 := Scalar.cmpi .sge v13 c9_i32
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c10_i32 : BitVec 32 := 10#32
  let v11 : BitVec 32 := Scalar.subi c10_i32 arg1
  let v12 : BitVec 32 := Scalar.select v10 arg1 v11
  let c2_i32_4 : BitVec 32 := 2#32
  let v13 : BitVec 1 := Scalar.cmpi .slt v12 c2_i32_4
  let c9_i32 : BitVec 32 := 9#32
  let v14 : BitVec 1 := Scalar.cmpi .slt v12 c9_i32
  let c2_i32_5 : BitVec 32 := 2#32
  let v15 : BitVec 32 := Scalar.addi v12 c2_i32_5
  let c9_i32_6 : BitVec 32 := 9#32
  let v16 : BitVec 32 := Scalar.subi v12 c9_i32_6
  let c2_i32_7 : BitVec 32 := 2#32
  let v17 : BitVec 32 := Scalar.addi v16 c2_i32_7
  let v18 : BitVec 32 := Scalar.select v14 v15 v17
  let v19 : BitVec 32 := Scalar.select v13 v12 v18
  let c0_i32_8 : BitVec 32 := 0#32
  let c0_i32_9 : BitVec 32 := 0#32
  ![c0_i32_8.toNat, v19.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c10_i32 : BitVec 32 := 10#32
  let v11 : BitVec 32 := Scalar.subi c10_i32 arg1
  let v12 : BitVec 32 := Scalar.select v10 arg1 v11
  let c9_i32 : BitVec 32 := 9#32
  let v13 : BitVec 32 := Scalar.subi v12 c9_i32
  let c0_i32_4 : BitVec 32 := 0#32
  let v14 : BitVec 32 := Scalar.maxsi v13 c0_i32_4
  let c0_i32_5 : BitVec 32 := 0#32
  let c0_i32_6 : BitVec 32 := 0#32
  ![c0_i32_5.toNat, v14.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c10_i32 : BitVec 32 := 10#32
  let v11 : BitVec 32 := Scalar.subi c10_i32 arg1
  let v12 : BitVec 32 := Scalar.select v10 arg1 v11
  let c8_i32 : BitVec 32 := 8#32
  let v13 : BitVec 32 := Scalar.minsi v12 c8_i32
  let c0_i32_4 : BitVec 32 := 0#32
  ![arg0.toNat, v13.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c10_i32 : BitVec 32 := 10#32
  let v11 : BitVec 32 := Scalar.subi c10_i32 arg1
  let v12 : BitVec 32 := Scalar.select v10 arg1 v11
  let c9_i32 : BitVec 32 := 9#32
  let v13 : BitVec 32 := Scalar.subi v12 c9_i32
  let c0_i32_4 : BitVec 32 := 0#32
  let v14 : BitVec 32 := Scalar.maxsi v13 c0_i32_4
  let c0_i32_5 : BitVec 32 := 0#32
  ![arg0.toNat, v14.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S16384x2048 : Shape := ⟨2, ![16384, 2048]⟩
abbrev S1x2048 : Shape := ⟨2, ![1, 2048]⟩
abbrev S2048x10752 : Shape := ⟨2, ![2048, 10752]⟩
abbrev S2x2048 : Shape := ⟨2, ![2, 2048]⟩
abbrev S_ : Shape := ⟨0, ![]⟩
abbrev S16384 : Shape := ⟨1, ![16384]⟩
abbrev S16384x1 : Shape := ⟨2, ![16384, 1]⟩
abbrev S16384x10752 : Shape := ⟨2, ![16384, 10752]⟩
abbrev S16384x1024 : Shape := ⟨2, ![16384, 1024]⟩
abbrev S16384x512 : Shape := ⟨2, ![16384, 512]⟩
abbrev S16384x4096 : Shape := ⟨2, ![16384, 4096]⟩
abbrev S2048 : Shape := ⟨1, ![2048]⟩
abbrev S16384x8704 : Shape := ⟨2, ![16384, 8704]⟩

abbrev nBuf : Space → Nat
  | .hbm => 92
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x10752, .f32⟩
  | .hbm, ⟨3, _⟩ => ⟨S2x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x10752, .f32⟩
  | .hbm, ⟨20, _⟩ => ⟨S16384x1024, .f32⟩
  | .hbm, ⟨21, _⟩ => ⟨S16384x1024, .f32⟩
  | .hbm, ⟨22, _⟩ => ⟨S16384x2048, .f32⟩
  | .hbm, ⟨23, _⟩ => ⟨S16384x1024, .f32⟩
  | .hbm, ⟨24, _⟩ => ⟨S16384x1024, .f32⟩
  | .hbm, ⟨25, _⟩ => ⟨S16384x512, .f32⟩
  | .hbm, ⟨26, _⟩ => ⟨S16384x4096, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S1x2048, .f32⟩
  | .hbm, ⟨33, _⟩ => ⟨S2x2048, .f32⟩
  | .hbm, ⟨34, _⟩ => ⟨S2x2048, .f32⟩
  | .hbm, ⟨35, _⟩ => ⟨S2x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S2x2048, .f32⟩
  | .hbm, ⟨40, _⟩ => ⟨S2x2048, .f32⟩
  | .hbm, ⟨41, _⟩ => ⟨S1x2048, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S1x2048, .f32⟩
  | .hbm, ⟨56, _⟩ => ⟨S1x2048, .f32⟩
  | .hbm, ⟨57, _⟩ => ⟨S16384x2048, .f32⟩
  | .hbm, ⟨58, _⟩ => ⟨S16384x2048, .f32⟩
  | .hbm, ⟨59, _⟩ => ⟨S_, .f32⟩
  | .hbm, ⟨60, _⟩ => ⟨S16384x2048, .f32⟩
  | .hbm, ⟨61, _⟩ => ⟨S16384x2048, .f32⟩
  | .hbm, ⟨62, _⟩ => ⟨S_, .f32⟩
  | .hbm, ⟨63, _⟩ => ⟨S16384x2048, .f32⟩
  | .hbm, ⟨64, _⟩ => ⟨S16384x2048, .f32⟩
  | .hbm, ⟨65, _⟩ => ⟨S16384x2048, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S16384x2048, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S16384x1024, .f32⟩
  | .hbm, ⟨74, _⟩ => ⟨S16384x1024, .f32⟩
  | .hbm, ⟨75, _⟩ => ⟨S_, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S_, .f32⟩
  | .hbm, ⟨80, _⟩ => ⟨S16384x1024, .f32⟩
  | .hbm, ⟨81, _⟩ => ⟨S16384x1024, .f32⟩
  | .hbm, ⟨82, _⟩ => ⟨S16384x4096, .f32⟩
  | .hbm, ⟨83, _⟩ => ⟨S16384x4096, .f32⟩
  | .hbm, ⟨84, _⟩ => ⟨S_, .f32⟩
  | .hbm, ⟨85, _⟩ => ⟨S16384x4096, .f32⟩
  | .hbm, ⟨86, _⟩ => ⟨S16384x4096, .f32⟩
  | .hbm, ⟨87, _⟩ => ⟨S_, .f32⟩
  | .hbm, ⟨88, _⟩ => ⟨S16384x4096, .f32⟩
  | .hbm, ⟨89, _⟩ => ⟨S16384x4096, .f32⟩
  | .hbm, ⟨90, _⟩ => ⟨S16384x8704, .f32⟩
  | .hbm, ⟨91, _⟩ => ⟨S16384x8704, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_10 : Ref sig .tc := ⟨.hbm, 84, rfl⟩
abbrev main_v53 : Ref sig .tc := ⟨.hbm, 85, rfl⟩
abbrev main_v54 : Ref sig .tc := ⟨.hbm, 86, rfl⟩
abbrev main_cst_11 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩

abbrev nD : Nat := 1
abbrev τ : Topo := Topo.v7x

variable {F : FTy → Type} [FloatOps F]
-- ==== Kernel5.lean ====
abbrev S16384x1024 : Shape := ⟨2, ![16384, 1024]⟩
abbrev S16384x8704 : Shape := ⟨2, ![16384, 8704]⟩
abbrev S16384x2048 : Shape := ⟨2, ![16384, 2048]⟩
abbrev S1024x2048 : Shape := ⟨2, ![1024, 2048]⟩
abbrev S2048x2048 : Shape := ⟨2, ![2048, 2048]⟩
abbrev S1x1024 : Shape := ⟨2, ![1, 1024]⟩
abbrev S1x2048 : Shape := ⟨2, ![1, 2048]⟩
abbrev S256x1024 : Shape := ⟨2, ![256, 1024]⟩
abbrev S256x2048 : Shape := ⟨2, ![256, 2048]⟩
abbrev S128x512 : Shape := ⟨2, ![128, 512]⟩
abbrev S128x1024 : Shape := ⟨2, ![128, 1024]⟩
abbrev S128x2048 : Shape := ⟨2, ![128, 2048]⟩
abbrev S128x128 : Shape := ⟨2, ![128, 128]⟩
abbrev S128 : Shape := ⟨1, ![128]⟩
abbrev S128x1 : Shape := ⟨2, ![128, 1]⟩

abbrev nBuf : Space → Nat
  | .hbm => 13
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x8704, .bf16⟩
  | .hbm, ⟨3, _⟩ => ⟨S16384x1024, .bf16⟩
  | .hbm, ⟨4, _⟩ => ⟨S16384x2048, .f32⟩
  | .hbm, ⟨5, _⟩ => ⟨S1024x2048, .bf16⟩
  | .hbm, ⟨6, _⟩ => ⟨S1024x2048, .bf16⟩
  | .hbm, ⟨7, _⟩ => ⟨S2048x2048, .bf16⟩
  | .hbm, ⟨8, _⟩ => ⟨S1x1024, .f32⟩
  | .hbm, ⟨9, _⟩ => ⟨S1x2048, .f32⟩
  | .hbm, ⟨10, _⟩ => ⟨S1x2048, .f32⟩
  | .hbm, ⟨11, _⟩ => ⟨S16384x2048, .f32⟩
  | .hbm, ⟨12, _⟩ => ⟨S16384x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x2048, .f32⟩
  | .local _ .vmem, ⟨19, _⟩ => ⟨S256x2048, .f32⟩
  | .local _ .vmem, ⟨20, _⟩ => ⟨S1024x2048, .bf16⟩
  | .local _ .vmem, ⟨21, _⟩ => ⟨S1024x2048, .bf16⟩
  | .local _ .vmem, ⟨22, _⟩ => ⟨S2048x2048, .bf16⟩
  | .local _ .vmem, ⟨23, _⟩ => ⟨S1x1024, .f32⟩
  | .local _ .vmem, ⟨24, _⟩ => ⟨S1x2048, .f32⟩
  | .local _ .vmem, ⟨25, _⟩ => ⟨S1x2048, .f32⟩
  | .local _ .vmem, ⟨26, _⟩ => ⟨S256x2048, .f32⟩
  | .local _ .vmem, ⟨27, _⟩ => ⟨S256x2048, .f32⟩
  | .local _ .vmem, ⟨28, _⟩ => ⟨S256x2048, .bf16⟩
  | .local _ .vmem, ⟨29, _⟩ => ⟨S256x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_8 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference5Ideal.lean ====
abbrev S16384x1024 : Shape := ⟨2, ![16384, 1024]⟩
abbrev S16384x8704 : Shape := ⟨2, ![16384, 8704]⟩
abbrev S16384x2048 : Shape := ⟨2, ![16384, 2048]⟩
abbrev S1024x2048 : Shape := ⟨2, ![1024, 2048]⟩
abbrev S2048x2048 : Shape := ⟨2, ![2048, 2048]⟩
abbrev S1x1024 : Shape := ⟨2, ![1, 1024]⟩
abbrev S1x2048 : Shape := ⟨2, ![1, 2048]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩
abbrev S16384 : Shape := ⟨1, ![16384]⟩
abbrev S16384x1 : Shape := ⟨2, ![16384, 1]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x8704, .bf16⟩
  | .hbm, ⟨3, _⟩ => ⟨S16384x1024, .bf16⟩
  | .hbm, ⟨4, _⟩ => ⟨S16384x2048, .f32⟩
  | .hbm, ⟨5, _⟩ => ⟨S1024x2048, .bf16⟩
  | .hbm, ⟨6, _⟩ => ⟨S1024x2048, .bf16⟩
  | .hbm, ⟨7, _⟩ => ⟨S2048x2048, .bf16⟩
  | .hbm, ⟨8, _⟩ => ⟨S1x1024, .f32⟩
  | .hbm, ⟨9, _⟩ => ⟨S1x2048, .f32⟩
  | .hbm, ⟨10, _⟩ => ⟨S1x2048, .f32⟩
  | .hbm, ⟨11, _⟩ => ⟨S16384x1024, .bf16⟩
  | .hbm, ⟨12, _⟩ => ⟨S16384x1024, .f32⟩
  | .hbm, ⟨13, _⟩ => ⟨S16384x2048, .bf16⟩
  | .hbm, ⟨14, _⟩ => ⟨S16384x2048, .f32⟩
  | .hbm, ⟨15, _⟩ => ⟨S16384x2048, .bf16⟩
  | .hbm, ⟨16, _⟩ => ⟨S16384x2048, .f32⟩
  | .hbm, ⟨17, _⟩ => ⟨S16384x1024, .f32⟩
  | .hbm, ⟨18, _⟩ => ⟨S16384x8x128, .f32⟩
  | .hbm, ⟨19, _⟩ => ⟨S16384x8x128, .f32⟩
  | .hbm, ⟨20, _⟩ => ⟨S_, .f32⟩
  | .hbm, ⟨21, _⟩ => ⟨S16384x8, .f32⟩
  | .hbm, ⟨22, _⟩ => ⟨S16384x8x1, .f32⟩
  | .hbm, ⟨23, _⟩ => ⟨S_, .f32⟩
  | .hbm, ⟨24, _⟩ => ⟨S16384x8x1, .f32⟩
  | .hbm, ⟨25, _⟩ => ⟨S16384x8x1, .f32⟩
  | .hbm, ⟨26, _⟩ => ⟨S_, .f32⟩
  | .hbm, ⟨27, _⟩ => ⟨S16384x8x1, .f32⟩
  | .hbm, ⟨28, _⟩ => ⟨S16384x8x1, .f32⟩
  | .hbm, ⟨29, _⟩ => ⟨S16384x8x1, .f32⟩
  | .hbm, ⟨30, _⟩ => ⟨S16384x8x128, .f32⟩
  | .hbm, ⟨31, _⟩ => ⟨S16384x8x128, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S1024x2048, .f32⟩
  | .hbm, ⟨37, _⟩ => ⟨S16384x2048, .f32⟩
  | .hbm, ⟨38, _⟩ => ⟨S16384x2048, .f32⟩
  | .hbm, ⟨39, _⟩ => ⟨S16384x1024, .f32⟩
  | .hbm, ⟨40, _⟩ => ⟨S1024x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S2048x2048, .f32⟩
  | .hbm, ⟨45, _⟩ => ⟨S16384x2048, .f32⟩
  | .hbm, ⟨46, _⟩ => ⟨S16384x2048, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x2048, .f32⟩
  | .hbm, ⟨58, _⟩ => ⟨S16384x2048, .f32⟩
  | .hbm, ⟨59, _⟩ => ⟨S16384x2048, .f32⟩
  | .hbm, ⟨60, _⟩ => ⟨S16384x2048, .f32⟩
  | .hbm, ⟨61, _⟩ => ⟨S16384x2048, .f32⟩
  | .hbm, ⟨62, _⟩ => ⟨S16384x2048, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S16384x2048, .f32⟩
  | .hbm, ⟨74, _⟩ => ⟨S16384x2048, .f32⟩
  | .hbm, ⟨75, _⟩ => ⟨S16384x2048, .f32⟩
  | .hbm, ⟨76, _⟩ => ⟨S16384x2048, .f32⟩
  | .hbm, ⟨77, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_5 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Proof.ScanB.lean ====
module

public import proofs.«01_k».proof.Proof.Gen.KernelIdeal.Frame.Runs

@[expose] public section

set_option maxRecDepth 16384

noncomputable section

namespace Cert.KernelIdeal.Scan

open Cert.KernelIdeal Cert.KernelIdeal.Gen Idealize.ShloMosaic Idealize.ShloMosaic.TcCoe Idealize.SL.Sem

variable {F : FTy → Type} [FloatOps F]

variable (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S16x1024 .bf16) (harg8 : arg8.IsWhole) (arg9 : Memref sig .tc .vmem S16x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S2x512x1024 .bf16) (harg14 : arg14.IsWhole) (arg15 : Memref sig .tc .vmem S2x512x1024 .bf16) (harg15 : arg15.IsWhole) (arg16 : Memref sig .tc .vmem S2x512x1024 .bf16) (harg16 : arg16.IsWhole) (arg17 : Memref sig .tc .vmem S2x8x1x1024 .f32) (harg17 : arg17.IsWhole) (v2 : IVec S64x64 1) (v5 : IVec S64x64 1) (X_arg3 : BufTy.Contents (Elt F) arg3.view.ty) (X_arg6 : BufTy.Contents (Elt F) arg6.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty)

/-- A trip's stores do not depend on what the two output buffers hold: the body never reads them. -/
theorem trip_indep (k : Fin k0_t1_loop.trips) (f10 f10' : BufTy.Contents (Elt F) arg10.view.ty) (f11 f11' : BufTy.Contents (Elt F) arg11.view.ty) (f12 : BufTy.Contents (Elt F) arg12.view.ty) (f13 : BufTy.Contents (Elt F) arg13.view.ty) :
    tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 k f10 f11 f12 f13 = tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 k f10' f11' f12 f13 := by
  unfold tripL_k0_t1 trip_k0_t1
  rfl

/-- Nor do the stores of all the trips. -/
theorem pb_indep (f10 f10' : BufTy.Contents (Elt F) arg10.view.ty) (f11 f11' : BufTy.Contents (Elt F) arg11.view.ty) (f12 : BufTy.Contents (Elt F) arg12.view.ty) (f13 : BufTy.Contents (Elt F) arg13.view.ty) (k : ℕ) :
    pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 f10 f11 f12 f13 k = pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 f10' f11' f12 f13 k := by
  induction k with
  | zero => rfl
  | succ k ih =>
    rw [pb_k0_t1.eq_2, pb_k0_t1.eq_2, ih]
    unfold pb_k0_t1Step
    split
    · rw [trip_indep 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 _ (arg10.view.writes (Elt F) f10 _) (arg10.view.writes (Elt F) f10' _) (arg11.view.writes (Elt F) f11 _) (arg11.view.writes (Elt F) f11' _)]
    · rfl

/-- Stores that together cover a buffer leave contents that do not depend on what it held. -/
theorem writes_eq_unread {sp : Space} {s : Shape} {e : EltTy} {μ : Memref sig .tc sp s e} (h : μ.IsWhole) (f : μ.view.ty.Contents (Elt F))
    (L : List (View.Piece (Elt F) s e)) (hc : ∀ i, ∃ p ∈ L, i ∈ p.1.set) :
    μ.view.writes (Elt F) f L = h.unread (View.canon L) :=
  h.eq_unread (View.read_writes_eq_canon _ _ _ hc)

end Cert.KernelIdeal.Scan

end
-- ==== Proof.ScanRunA.lean ====
module

public import proofs.«01_k».proof.Proof.ScanB

@[expose] public section

-- membership in a rectangle of production extents (`View.cover_of_tiled`): the elaborator's structural look
-- recurses once per coordinate of the long axes
set_option maxRecDepth 16384

noncomputable section

namespace Cert.KernelIdeal.Scan

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def runA (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S16x1024 .bf16) (harg8 : arg8.IsWhole) (arg9 : Memref sig .tc .vmem S16x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S2x512x1024 .bf16) (harg14 : arg14.IsWhole) (arg15 : Memref sig .tc .vmem S2x512x1024 .bf16) (harg15 : arg15.IsWhole) (arg16 : Memref sig .tc .vmem S2x512x1024 .bf16) (harg16 : arg16.IsWhole) (arg17 : Memref sig .tc .vmem S2x8x1x1024 .f32) (harg17 : arg17.IsWhole) (hc0 : cond0_0 i)
    (x0 : Vec F S512x1024 .bf16) (x1 : Vec F S512x1024 .bf16) (x2 : Vec F S512x1024 .f32) (x3 : Vec F S512x1024 .bf16) (x4 : Vec F S512x1024 .bf16) (x5 : Vec F S512x1024 .f32) (x6 : Vec F S16x1024 .bf16) (x7 : Vec F S16x1024 .f32) :
    Σ' (L8 : List (View.Piece (Elt F) S512x1024 .f32)), Σ' (L9 : List (View.Piece (Elt F) S512x1024 .f32)), Σ' (LS0 : List (View.Piece (Elt F) S8x128x128 .f32)), { LS1 : List (View.Piece (Elt F) S8x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_hgrn2_scan i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc0_hgrn2_scan_eq_skeleton]; unfold cc0_hgrn2_scan_skel
    simp only [k0_part17_eq_skeleton, k0_part1_eq_skeleton, k0_part2_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    rw [pb_indep _ _ _ _ _ _ _ _ _ _ _ _ _ _ _ _ _ _ _ _ _ _ _ _ _ _ _ _ _ _ _ _ _ _ _ _ _ _ _ _ _ _ _ _ f8 arg10.view.junk f9 arg11.view.junk]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Scan

end
-- ==== Proof.ScanRunB.lean ====
module

public import proofs.«01_k».proof.Proof.ScanB

@[expose] public section

-- membership in a rectangle of production extents (`View.cover_of_tiled`): the elaborator's structural look
-- recurses once per coordinate of the long axes
set_option maxRecDepth 16384

noncomputable section

namespace Cert.KernelIdeal.Scan

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
noncomputable def runB (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S16x1024 .bf16) (harg8 : arg8.IsWhole) (arg9 : Memref sig .tc .vmem S16x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S2x512x1024 .bf16) (harg14 : arg14.IsWhole) (arg15 : Memref sig .tc .vmem S2x512x1024 .bf16) (harg15 : arg15.IsWhole) (arg16 : Memref sig .tc .vmem S2x512x1024 .bf16) (harg16 : arg16.IsWhole) (arg17 : Memref sig .tc .vmem S2x8x1x1024 .f32) (harg17 : arg17.IsWhole) (hc0 : ¬cond0_0 i)
    (x0 : Vec F S512x1024 .bf16) (x1 : Vec F S512x1024 .bf16) (x2 : Vec F S512x1024 .f32) (x3 : Vec F S512x1024 .bf16) (x4 : Vec F S512x1024 .bf16) (x5 : Vec F S512x1024 .f32) (x6 : Vec F S16x1024 .bf16) (x7 : Vec F S16x1024 .f32) (xs0 : Vec F S8x128x128 .f32) (xs1 : Vec F S8x128x128 .f32) :
    Σ' (L8 : List (View.Piece (Elt F) S512x1024 .f32)), Σ' (L9 : List (View.Piece (Elt F) S512x1024 .f32)), Σ' (LS0 : List (View.Piece (Elt F) S8x128x128 .f32)), { LS1 : List (View.Piece (Elt F) S8x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0 ∗ owns (c : Thread nD τ) arg13 fullShare xs1 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_hgrn2_scan i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc0_hgrn2_scan_eq_skeleton]; unfold cc0_hgrn2_scan_skel
    simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0; obtain rfl := harg13.eq_unread hfs1
    sl_exec (disch := first | sl_exact hc0)
    sl_step
    rw [pb_indep _ _ _ _ _ _ _ _ _ _ _ _ _ _ _ _ _ _ _ _ _ _ _ _ _ _ _ _ _ _ _ _ _ _ _ _ _ _ _ _ _ _ _ _ f8 arg10.view.junk f9 arg11.view.junk]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Scan

end
-- ==== Proof.ScanFrame.lean ====
module

public import proofs.«01_k».proof.Proof.ScanRunA
public import proofs.«01_k».proof.Proof.ScanRunB

@[expose] public section

-- membership in a rectangle of production extents (`View.cover_of_tiled`): the elaborator's structural look
-- recurses once per coordinate of the long axes
set_option maxRecDepth 16384

noncomputable section

namespace Cert.KernelIdeal.Scan

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two carried states, of the forward and of the backward direction. -/
abbrev Pair (F : FTy → Type) [FloatOps F] := Vec F S8x128x128 .f32 × Vec F S8x128x128 .f32

/-- What a point leaves: the two output blocks and the two states. -/
abbrev Left (F : FTy → Type) [FloatOps F] := Vec F S512x1024 .f32 × Vec F S512x1024 .f32 × Pair F

/-- The run of a point at which a batch row begins, on that point's own buffers and blocks. -/
abbrev ptA (c : Dev nD) (t : Fin cfg0.N) (h0 : t.val % 8 = 0) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (X0_0 m c t) (X0_1 m c t) (iblk m c 2 t) (X0_3 m c t) (X0_4 m c t) (iblk m c 5 t) (iblk m c 6 t) (iblk m c 7 t)

/-- The run of any other point, from the states it finds. -/
abbrev ptB (c : Dev nD) (t : Fin cfg0.N) (h0 : ¬t.val % 8 = 0) (s : Pair F) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (X0_0 m c t) (X0_1 m c t) (iblk m c 2 t) (X0_3 m c t) (X0_4 m c t) (iblk m c 5 t) (iblk m c 6 t) (iblk m c 7 t) s.1 s.2

theorem covA_0 (c : Dev nD) (t : Fin cfg0.N) (h0 : t.val % 8 = 0) (y) : ∃ p ∈ (ptA m c t h0).1, y ∈ p.1.set :=
  View.cover_of_tiledL (ptA m c t h0).1 S64x128.size (by sl_kernel_rfl) y

theorem covA_1 (c : Dev nD) (t : Fin cfg0.N) (h0 : t.val % 8 = 0) (y) : ∃ p ∈ (ptA m c t h0).2.1, y ∈ p.1.set :=
  View.cover_of_tiledL (ptA m c t h0).2.1 S64x128.size (by sl_kernel_rfl) y

theorem covA_2 (c : Dev nD) (t : Fin cfg0.N) (h0 : t.val % 8 = 0) (y) : ∃ p ∈ (ptA m c t h0).2.2.1, y ∈ p.1.set :=
  View.cover_of_tiledL (ptA m c t h0).2.2.1 S1x128x128.size (by sl_kernel_rfl) y

theorem covA_3 (c : Dev nD) (t : Fin cfg0.N) (h0 : t.val % 8 = 0) (y) : ∃ p ∈ (ptA m c t h0).2.2.2.1, y ∈ p.1.set :=
  View.cover_of_wholeMem (ptA m c t h0).2.2.2.1 (by sl_whole_mem) y

theorem covB_0 (c : Dev nD) (t : Fin cfg0.N) (h0 : ¬t.val % 8 = 0) (s : Pair F) (y) : ∃ p ∈ (ptB m c t h0 s).1, y ∈ p.1.set :=
  View.cover_of_tiledL (ptB m c t h0 s).1 S64x128.size (by sl_kernel_rfl) y

theorem covB_1 (c : Dev nD) (t : Fin cfg0.N) (h0 : ¬t.val % 8 = 0) (s : Pair F) (y) : ∃ p ∈ (ptB m c t h0 s).2.1, y ∈ p.1.set :=
  View.cover_of_tiledL (ptB m c t h0 s).2.1 S64x128.size (by sl_kernel_rfl) y

theorem covB_2 (c : Dev nD) (t : Fin cfg0.N) (h0 : ¬t.val % 8 = 0) (s : Pair F) (y) : ∃ p ∈ (ptB m c t h0 s).2.2.1, y ∈ p.1.set :=
  View.cover_of_tiledL (ptB m c t h0 s).2.2.1 S1x128x128.size (by sl_kernel_rfl) y

theorem covB_3 (c : Dev nD) (t : Fin cfg0.N) (h0 : ¬t.val % 8 = 0) (s : Pair F) (y) : ∃ p ∈ (ptB m c t h0 s).2.2.2.1, y ∈ p.1.set :=
  View.cover_of_tiledL (ptB m c t h0 s).2.2.2.1 S1x128x128.size (by sl_kernel_rfl) y

def outA (c : Dev nD) (t : Fin cfg0.N) (h0 : t.val % 8 = 0) : Left F :=
  (View.canon (ptA m c t h0).1, View.canon (ptA m c t h0).2.1, View.canon (ptA m c t h0).2.2.1, View.canon (ptA m c t h0).2.2.2.1)

def outB (c : Dev nD) (t : Fin cfg0.N) (h0 : ¬t.val % 8 = 0) (s : Pair F) : Left F :=
  (View.canon (ptB m c t h0 s).1, View.canon (ptB m c t h0 s).2.1, View.canon (ptB m c t h0 s).2.2.1, View.canon (ptB m c t h0 s).2.2.2.1)

/-- A point's eight input blocks in their buffers. -/
def ins (c : Dev nD) (t : Fin cfg0.N) : sProp 𝕄 :=
  iprop(owns (c : Thread nD τ) (ms0_0 t) fullShare (X0_0 m c t) ∗ owns (c : Thread nD τ) (ms0_1 t) fullShare (X0_1 m c t) ∗ owns (c : Thread nD τ) (ms0_2 t) fullShare (iblk m c 2 t) ∗ owns (c : Thread nD τ) (ms0_3 t) fullShare (X0_3 m c t) ∗ owns (c : Thread nD τ) (ms0_4 t) fullShare (X0_4 m c t) ∗ owns (c : Thread nD τ) (ms0_5 t) fullShare (iblk m c 5 t) ∗ owns (c : Thread nD τ) (ms0_6 t) fullShare (iblk m c 6 t) ∗ owns (c : Thread nD τ) (ms0_7 t) fullShare (iblk m c 7 t))

/-- The two states in their buffers. -/
def states (c : Dev nD) (s : Pair F) : sProp 𝕄 :=
  iprop(owns (c : Thread nD τ) scM0_0 fullShare s.1 ∗ owns (c : Thread nD τ) scM0_1 fullShare s.2)

/-- The other scratch buffers, at anything. -/
def rest (c : Dev nD) : sProp 𝕄 :=
  iprop((∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d))

/-- The body at point `t` leaves `o` when it finds the states as `pre` says. -/
def Leaves (c : Dev nD) (t : Fin cfg0.N) (pre : sProp 𝕄) (o : Left F) : Prop :=
  ∀ (E : Set ℕ) (K : PUnit → sProp 𝕄),
    iprop(ins m c t ∗ (∃ d, owns (c : Thread nD τ) (ms0_8 t) fullShare d) ∗ (∃ d, owns (c : Thread nD τ) (ms0_9 t) fullShare d) ∗ pre ∗ rest c
        ∗ (iprop(ins m c t ∗ owns (c : Thread nD τ) (ms0_8 t) fullShare o.1 ∗ owns (c : Thread nD τ) (ms0_9 t) fullShare o.2.1 ∗ states c o.2.2 ∗ rest c) -∗ K ⟨⟩))
      ⊢ wp frame (wpE (defs₀ (F := F)) Variants.none c none) E (bodyAt0 t) K

/-- A buffer that stores cover is held at the contents they spell. -/
theorem owns_canon {sp : Space} {s : Shape} {e : EltTy} (c : Dev nD) (μ : Memref sig .tc sp s e) (f : μ.view.ty.Contents (Elt F))
    (L : List (View.Piece (Elt F) s e)) (h : ∀ y, ∃ p ∈ L, y ∈ p.1.set) :
    (iprop(μ.view.loc (c : Thread nD τ) ↦[μ.view.set]{fullShare} μ.view.writes (Elt F) f L) : sProp 𝕄) ⊢ owns (c : Thread nD τ) μ fullShare (View.canon L) := by
  unfold owns
  iintro H
  iexists _; isplitr; swap; · iexact H
  ipureintro; exact View.read_writes_eq_canon _ _ _ h

theorem leavesA (c : Dev nD) (t : Fin cfg0.N) (h0 : t.val % 8 = 0) :
    Leaves m c t iprop((∃ d, owns (c : Thread nD τ) scM0_0 fullShare d) ∗ (∃ d, owns (c : Thread nD τ) scM0_1 fullShare d)) (outA m c t h0) := by
  intro E K
  unfold bodyAt0 ins outA states rest
  iintro ⟨⟨H0, H1, H2, H3, H4, H5, H6, H7⟩, H8, H9, ⟨HS0, HS1⟩, ⟨HS2, HS3, HS4, HS5⟩, Hk⟩
  iapply ((ptA m c t h0).2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%e8, H8⟩, ⟨%e9, H9⟩, ⟨%es0, HS0⟩, ⟨%es1, HS1⟩, HS2, HS3, HS4, HS5⟩
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]
  · iapply (owns_canon c _ _ _ (covA_0 m c t h0)); iexact H8
  isplitl [H9]
  · iapply (owns_canon c _ _ _ (covA_1 m c t h0)); iexact H9
  isplitl [HS0 HS1]
  · isplitl [HS0]
    · iapply (owns_canon c _ _ _ (covA_2 m c t h0)); iexact HS0
    iapply (owns_canon c _ _ _ (covA_3 m c t h0)); iexact HS1
  isplitl [HS2]; · iexact HS2
  isplitl [HS3]; · iexact HS3
  isplitl [HS4]; · iexact HS4
  iexact HS5

theorem leavesB (c : Dev nD) (t : Fin cfg0.N) (h0 : ¬t.val % 8 = 0) (s : Pair F) :
    Leaves m c t (states c s) (outB m c t h0 s) := by
  intro E K
  unfold bodyAt0 ins outB states rest
  iintro ⟨⟨H0, H1, H2, H3, H4, H5, H6, H7⟩, H8, H9, ⟨HS0, HS1⟩, ⟨HS2, HS3, HS4, HS5⟩, Hk⟩
  iapply ((ptB m c t h0 s).2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, ⟨%e8, H8⟩, ⟨%e9, H9⟩, ⟨%es0, HS0⟩, ⟨%es1, HS1⟩, HS2, HS3, HS4, HS5⟩
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]
  · iapply (owns_canon c _ _ _ (covB_0 m c t h0 s)); iexact H8
  isplitl [H9]
  · iapply (owns_canon c _ _ _ (covB_1 m c t h0 s)); iexact H9
  isplitl [HS0 HS1]
  · isplitl [HS0]
    · iapply (owns_canon c _ _ _ (covB_2 m c t h0 s)); iexact HS0
    iapply (owns_canon c _ _ _ (covB_3 m c t h0 s)); iexact HS1
  isplitl [HS2]; · iexact HS2
  isplitl [HS3]; · iexact HS3
  isplitl [HS4]; · iexact HS4
  iexact HS5

/-- What point `n` leaves, from what the points before it left. -/
def leftAt (c : Dev nD) : (n : ℕ) → n < cfg0.N → Left F
  | 0, hn => outA m c ⟨0, hn⟩ (Nat.zero_mod _)
  | n + 1, hn => if h0 : (n + 1) % 8 = 0 then outA m c ⟨n + 1, hn⟩ h0 else outB m c ⟨n + 1, hn⟩ h0 (leftAt c n (Nat.lt_of_succ_lt hn)).2.2

theorem leftAt_A (c : Dev nD) (t : Fin cfg0.N) (h0 : t.val % 8 = 0) : leftAt m c t.val t.isLt = outA m c t h0 := by
  obtain ⟨n, hn⟩ := t
  cases n with
  | zero => rfl
  | succ n => exact dif_pos h0

theorem leftAt_B (c : Dev nD) (t : Fin cfg0.N) (h0 : ¬t.val % 8 = 0) :
    leftAt m c t.val t.isLt = outB m c t h0 (leftAt m c (t.val - 1) (Nat.lt_of_le_of_lt (Nat.sub_le _ _) t.isLt)).2.2 := by
  obtain ⟨n, hn⟩ := t
  cases n with
  | zero => exact absurd (Nat.zero_mod _) h0
  | succ n => exact dif_neg h0

/-- Before point `n`: the scratch buffers, the states among them at what the point before left. -/
def Phi (c : Dev nD) : (n : ℕ) → n ≤ cfg0.N → sProp 𝕄
  | 0, _ => Pipeline.ΦA spec0 c
  | n + 1, hn => iprop((states c (leftAt m c n hn).2.2 ∗ rest c) ∗ (∃ r, prngReg c r))

theorem Phi_pos (c : Dev nD) (n : ℕ) (h : n ≤ cfg0.N) (hz : n ≠ 0) :
    Phi m c n h = iprop((states c (leftAt m c (n - 1) (by omega)).2.2 ∗ rest c) ∗ (∃ r, prngReg c r)) := by
  cases n with
  | zero => exact absurd rfl hz
  | succ n => rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => X0_3 m c t
    | ⟨4, _⟩ => X0_4 m c t
    | ⟨5, _⟩ => iblk m c 5 t
    | ⟨6, _⟩ => iblk m c 6 t
    | ⟨7, _⟩ => iblk m c 7 t
    | ⟨8, _⟩ => (leftAt m c t.val t.isLt).1
    | ⟨9, _⟩ => (leftAt m c t.val t.isLt).2.1
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (leftAt m c t.val t.isLt).1 := by dsimp only [dats]
theorem after0_9 (c : Dev nD) (t : Fin cfg0.N) : (dats m 0 c).after 9 t = (leftAt m c t.val t.isLt).2.1 := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

/-- What the invariant says of the states before point `t`. -/
def pre (c : Dev nD) (t : Fin cfg0.N) : sProp 𝕄 :=
  if t.val % 8 = 0 then iprop((∃ d, owns (c : Thread nD τ) scM0_0 fullShare d) ∗ (∃ d, owns (c : Thread nD τ) scM0_1 fullShare d))
  else states c (leftAt m c (t.val - 1) (Nat.lt_of_le_of_lt (Nat.sub_le _ _) t.isLt)).2.2

theorem leaves (c : Dev nD) (t : Fin cfg0.N) : Leaves m c t (pre m c t) (leftAt m c t.val t.isLt) := by
  unfold pre
  split
  · rename_i h0; rw [leftAt_A m c t h0]; exact leavesA m c t h0
  · rename_i h0; rw [leftAt_B m c t h0]; exact leavesB m c t h0 _

theorem Phi_pre (c : Dev nD) (t : Fin cfg0.N) :
    Phi m c t.val (Nat.le_of_lt t.isLt) ⊢ iprop((pre m c t ∗ rest c) ∗ (∃ r, prngReg c r)) := by
  by_cases hz : t.val = 0
  · rw [show Phi m c t.val (Nat.le_of_lt t.isLt) = Pipeline.ΦA spec0 c by
      obtain ⟨n, hn⟩ := t; dsimp only at hz; subst hz; rfl, PhiA0_eq]
    unfold pre rest; rw [if_pos (by omega)]
    iintro ⟨⟨HS0, HS1, HS2, HS3, HS4, HS5⟩, Hg⟩
    isplitr [Hg]; swap; · iexact Hg
    isplitl [HS0 HS1]
    · isplitl [HS0]; · iexact HS0
      iexact HS1
    isplitl [HS2]; · iexact HS2
    isplitl [HS3]; · iexact HS3
    isplitl [HS4]; · iexact HS4
    iexact HS5
  · rw [Phi_pos m c _ _ hz]
    unfold pre
    split
    · unfold states
      iintro ⟨⟨⟨HS0, HS1⟩, Hr⟩, Hg⟩
      isplitr [Hg]; swap; · iexact Hg
      isplitr [Hr]; swap; · iexact Hr
      isplitl [HS0]; · iexists _; iexact HS0
      iexists _; iexact HS1
    · exact Idealize.SL.BI.Entails.refl _

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9,
    show (dats m 0 c).Φ t.succ = iprop((states c (leftAt m c t.val t.isLt).2.2 ∗ rest c) ∗ (∃ r, prngReg c r)) from rfl,
    show (dats m 0 c).Φ t.castSucc = Phi m c t.val (Nat.le_of_lt t.isLt) from rfl]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HP' := (Phi_pre m c t) $$ [HP]
  · iexact HP
  icases HP' with ⟨⟨Hs, Hr⟩, Hg⟩
  iapply (leaves m c t Set.univ _)
  isplitl [H0 H1 H2 H3 H4 H5 H6 H7]
  · unfold ins
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexists _; iexact H8
  isplitl [H9]; · iexists _; iexact H9
  isplitl [Hs]; · iexact Hs
  isplitl [Hr]; · iexact Hr
  unfold ins
  iintro ⟨⟨H0, H1, H2, H3, H4, H5, H6, H7⟩, H8, H9, Hs, Hr⟩
  isplitl [Hs Hr Hg]
  · isplitr [Hg]; swap; · iexact Hg
    isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = Phi m c cfg0.N (Nat.le_refl _) from rfl, Phi_pos m c _ _ (by have : cfg0.N = 32 := N_0; omega), PhiA0_eq]
  unfold states rest
  iintro ⟨⟨⟨HS0, HS1⟩, HS2, HS3, HS4, HS5⟩, Hg⟩
  isplitr [Hg]; swap; · iexact Hg
  isplitl [HS0]; · iexists _; iexact HS0
  isplitl [HS1]; · iexists _; iexact HS1
  isplitl [HS2]; · iexact HS2
  isplitl [HS3]; · iexact HS3
  isplitl [HS4]; · iexact HS4
  iexact HS5

set_option backward.isDefEq.respectTransparency.types false in
/-- Every execution ends, with the arrays at what the proof data computes and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

end Cert.KernelIdeal.Scan

end
-- ==== Proof.ScanTile.lean ====
/- The recurrence's stores, read back: each buffer a point fills piece by piece holds one array. -/
module

public import proofs.«01_k».proof.Proof.ScanFrame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Scan

open Cert.KernelIdeal Cert.KernelIdeal.Gen Idealize.ShloMosaic Idealize.ShloMosaic.TcCoe Idealize.SL.Sem

variable {F : FTy → Type} [FloatOps F]

/-! ## Arrays made of tiles, and the tiles of an array -/

/-- Rows 64·c of a block of 512. -/
def rowsOf {e : EltTy} (x : Vec F S512x1024 e) (c : Fin 8) : Vec F S64x1024 e := fun j => x (ix2 ⟨64 * c.val + (j 0).val, by have := (j 0).isLt; change _ < 64 at this; omega⟩ (j 1))
/-- One head of those rows. -/
def headOf {e : EltTy} (x : Vec F S512x1024 e) (c h : Fin 8) : Vec F S64x128 e :=
  fun j => x (ix2 ⟨64 * c.val + (j 0).val, by have := (j 0).isLt; change _ < 64 at this; omega⟩ ⟨128 * h.val + (j 1).val, by have := (j 1).isLt; change _ < 128 at this; omega⟩)
/-- One head of a chunk of a direction. -/
def head3 {e : EltTy} (x : Vec F S2x512x1024 e) (d : Fin 2) (c h : Fin 8) : Vec F S1x64x128 e :=
  fun j => x (ix3 d ⟨64 * c.val + (j 1).val, by have := (j 1).isLt; change _ < 64 at this; omega⟩ ⟨128 * h.val + (j 2).val, by have := (j 2).isLt; change _ < 128 at this; omega⟩)
/-- The decays of a chunk of a direction. -/
def row4 {e : EltTy} (x : Vec F S2x8x1x1024 e) (d : Fin 2) (c : Fin 8) : Vec F S1x1x1x1024 e := fun j => x (ix4 d c 0 (j 3))
/-- One head's state. -/
def stateOf {e : EltTy} (x : Vec F S8x128x128 e) (h : Fin 8) : Vec F S1x128x128 e := fun j => x (ix3 h (j 1) (j 2))
/-- One head of the meta tokens. -/
def metaOf {e : EltTy} (x : Vec F S16x1024 e) (h : Fin 8) : Vec F S16x128 e :=
  fun j => x (ix2 (j 0) ⟨128 * h.val + (j 1).val, by have := (j 1).isLt; change _ < 128 at this; omega⟩)

/-- Chunks of both directions, side by side. -/
def glueChunks {e : EltTy} (T : Fin 2 → Fin 8 → Vec F S1x64x1024 e) : Vec F S2x512x1024 e :=
  fun y => T (y 0) ⟨(y 1).val / 64, by have := (y 1).isLt; change _ < 512 at this; omega⟩ (ix3 0 ⟨(y 1).val % 64, Nat.mod_lt _ (by omega)⟩ (y 2))
/-- Decays of both directions. -/
def glueRows {e : EltTy} (T : Fin 2 → Fin 8 → Vec F S1x1x1x1024 e) : Vec F S2x8x1x1024 e := fun y => T (y 0) (y 1) (ix4 0 0 0 (y 3))
/-- States of all heads. -/
def glueStates {e : EltTy} (T : Fin 8 → Vec F S1x128x128 e) : Vec F S8x128x128 e := fun y => T (y 0) (ix3 0 (y 1) (y 2))
/-- Output tiles, by chunk and head. -/
def glueOut {e : EltTy} (T : Fin 8 → Fin 8 → Vec F S64x128 e) : Vec F S512x1024 e :=
  fun y => T ⟨(y 0).val / 64, by have := (y 0).isLt; change _ < 512 at this; omega⟩ ⟨(y 1).val / 128, by have := (y 1).isLt; change _ < 1024 at this; omega⟩
    (ix2 ⟨(y 0).val % 64, Nat.mod_lt _ (by omega)⟩ ⟨(y 1).val % 128, Nat.mod_lt _ (by omega)⟩)

theorem glueChunks_piece {e : EltTy} (T : Fin 2 → Fin 8 → Vec F S1x64x1024 e) (d : Fin 2) (c : Fin 8)
    (inb : ∀ a, (![d.val, 64 * c.val, 0] : Fin 3 → ℕ) a + S1x64x1024.size a ≤ S2x512x1024.size a)
    (x : (Rect.unit (s := S2x512x1024) ![d.val, 64 * c.val, 0] S1x64x1024.size inb).shape.Idx) :
    T d c x = glueChunks T ((Rect.unit (s := S2x512x1024) ![d.val, 64 * c.val, 0] S1x64x1024.size inb).emb x) := by
  obtain ⟨a, i, j, rfl⟩ : ∃ (a : Fin 1) (i : Fin 64) (j : Fin 1024), x = ix3 a i j := ⟨x 0, x 1, x 2, eq_ix3 x⟩
  have ea : a = 0 := Subsingleton.elim _ _
  subst ea
  unfold glueChunks
  have h0 : (Rect.unit (s := S2x512x1024) ![d.val, 64 * c.val, 0] S1x64x1024.size inb).emb (ix3 0 i j) 0 = d := Fin.ext (by show d.val + 1 * 0 = d.val; omega)
  have h1 : ((Rect.unit (s := S2x512x1024) ![d.val, 64 * c.val, 0] S1x64x1024.size inb).emb (ix3 0 i j) 1).val = 64 * c.val + i.val := by
    show 64 * c.val + 1 * i.val = _; omega
  have h2 : (Rect.unit (s := S2x512x1024) ![d.val, 64 * c.val, 0] S1x64x1024.size inb).emb (ix3 0 i j) 2 = j := Fin.ext (by show 0 + 1 * j.val = j.val; omega)
  have hi := i.isLt
  exact congr (congrArg₂ T h0.symm (Fin.ext (by show c.val = (_ : ℕ) / 64; rw [h1]; omega)))
    (congrArg₂ (ix3 0) (Fin.ext (by show i.val = (_ : ℕ) % 64; rw [h1]; omega)) h2.symm)

theorem glueRows_piece {e : EltTy} (T : Fin 2 → Fin 8 → Vec F S1x1x1x1024 e) (d : Fin 2) (c : Fin 8)
    (inb : ∀ a, (![d.val, c.val, 0, 0] : Fin 4 → ℕ) a + S1x1x1x1024.size a ≤ S2x8x1x1024.size a)
    (x : (Rect.unit (s := S2x8x1x1024) ![d.val, c.val, 0, 0] S1x1x1x1024.size inb).shape.Idx) :
    T d c x = glueRows T ((Rect.unit (s := S2x8x1x1024) ![d.val, c.val, 0, 0] S1x1x1x1024.size inb).emb x) := by
  obtain ⟨a, b, k, j, rfl⟩ : ∃ (a b k : Fin 1) (j : Fin 1024), x = ix4 a b k j := ⟨x 0, x 1, x 2, x 3, eq_ix4 x⟩
  have ea : a = 0 := Subsingleton.elim _ _
  have eb : b = 0 := Subsingleton.elim _ _
  have ek : k = 0 := Subsingleton.elim _ _
  subst ea eb ek
  unfold glueRows
  exact congr (congrArg₂ T (Fin.ext (by show d.val = d.val + 1 * 0; omega)) (Fin.ext (by show c.val = c.val + 1 * 0; omega)))
    (congrArg (ix4 0 0 0) (Fin.ext (by show j.val = 0 + 1 * j.val; omega)))

theorem glueStates_piece {e : EltTy} (T : Fin 8 → Vec F S1x128x128 e) (h : Fin 8)
    (inb : ∀ a, (![h.val, 0, 0] : Fin 3 → ℕ) a + S1x128x128.size a ≤ S8x128x128.size a)
    (x : (Rect.unit (s := S8x128x128) ![h.val, 0, 0] S1x128x128.size inb).shape.Idx) :
    T h x = glueStates T ((Rect.unit (s := S8x128x128) ![h.val, 0, 0] S1x128x128.size inb).emb x) := by
  obtain ⟨a, i, j, rfl⟩ : ∃ (a : Fin 1) (i j : Fin 128), x = ix3 a i j := ⟨x 0, x 1, x 2, eq_ix3 x⟩
  have ea : a = 0 := Subsingleton.elim _ _
  subst ea
  unfold glueStates
  exact congr (congrArg T (Fin.ext (by show h.val = h.val + 1 * 0; omega)))
    (congrArg₂ (ix3 0) (Fin.ext (by show i.val = 0 + 1 * i.val; omega)) (Fin.ext (by show j.val = 0 + 1 * j.val; omega)))

theorem glueOut_piece {e : EltTy} (T : Fin 8 → Fin 8 → Vec F S64x128 e) (c h : Fin 8) (off : Fin 2 → ℕ) (eo : off = ![64 * c.val, 128 * h.val])
    (inb : ∀ a, off a + S64x128.size a ≤ S512x1024.size a)
    (x : (Rect.unit (s := S512x1024) off S64x128.size inb).shape.Idx) :
    T c h x = glueOut T ((Rect.unit (s := S512x1024) off S64x128.size inb).emb x) := by
  subst eo
  obtain ⟨i, j, rfl⟩ : ∃ (i : Fin 64) (j : Fin 128), x = ix2 i j := ⟨x 0, x 1, eq_ix2 x⟩
  unfold glueOut
  have h0 : ((Rect.unit (s := S512x1024) ![64 * c.val, 128 * h.val] S64x128.size inb).emb (ix2 i j) 0).val = 64 * c.val + i.val := by
    show 64 * c.val + 1 * i.val = _; omega
  have h1 : ((Rect.unit (s := S512x1024) ![64 * c.val, 128 * h.val] S64x128.size inb).emb (ix2 i j) 1).val = 128 * h.val + j.val := by
    show 128 * h.val + 1 * j.val = _; omega
  have hi := i.isLt
  have hj := j.isLt
  exact congr (congrArg₂ T (Fin.ext (by show c.val = (_ : ℕ) / 64; rw [h0]; omega)) (Fin.ext (by show h.val = (_ : ℕ) / 128; rw [h1]; omega)))
    (congrArg₂ ix2 (Fin.ext (by show i.val = (_ : ℕ) % 64; rw [h0]; omega)) (Fin.ext (by show j.val = (_ : ℕ) % 128; rw [h1]; omega)))

/-! ## Loads -/

section Loads
variable {e : EltTy}

theorem load_head {sp : Space} {v : View sig .tc sp S512x1024 e} (X : v.ty.Contents (Elt F)) (Z : Vec F S512x1024 e) (hZ : v.read (Elt F) X = Z) (c h : Fin 8)
    (off : Fin 2 → ℕ) (eo : off = ![64 * c.val, 128 * h.val]) (inb : ∀ a, off a + S64x128.size a ≤ S512x1024.size a) :
    View.readAt (Elt F) v (Rect.unit (s := S512x1024) off S64x128.size inb).toLoadRect X = headOf Z c h := by
  subst eo hZ
  funext x
  refine congrArg (v.read (Elt F) X) ?_
  refine (eq_ix2 _).trans ?_
  congr 1
  · exact Fin.ext (by show 64 * c.val + 1 * (x 0).val = 64 * c.val + (x 0).val; omega)
  · exact Fin.ext (by show 128 * h.val + 1 * (x 1).val = 128 * h.val + (x 1).val; omega)

theorem load_head3 {sp : Space} {v : View sig .tc sp S2x512x1024 e} (X : v.ty.Contents (Elt F)) (Z : Vec F S2x512x1024 e) (hZ : v.read (Elt F) X = Z) (d : Fin 2) (c h : Fin 8)
    (off : Fin 3 → ℕ) (eo : off = ![d.val, 64 * c.val, 128 * h.val]) (inb : ∀ a, off a + S1x64x128.size a ≤ S2x512x1024.size a) :
    View.readAt (Elt F) v (Rect.unit (s := S2x512x1024) off S1x64x128.size inb).toLoadRect X = head3 Z d c h := by
  subst eo hZ
  funext x
  refine congrArg (v.read (Elt F) X) ?_
  refine (eq_ix3 _).trans ?_
  have h0 : (x 0).val < 1 := (x 0).isLt
  congr 1
  · exact Fin.ext (by show d.val + 1 * (x 0).val = d.val; omega)
  · exact Fin.ext (by show 64 * c.val + 1 * (x 1).val = 64 * c.val + (x 1).val; omega)
  · exact Fin.ext (by show 128 * h.val + 1 * (x 2).val = 128 * h.val + (x 2).val; omega)

theorem load_row4 {sp : Space} {v : View sig .tc sp S2x8x1x1024 e} (X : v.ty.Contents (Elt F)) (Z : Vec F S2x8x1x1024 e) (hZ : v.read (Elt F) X = Z) (d : Fin 2) (c : Fin 8)
    (off : Fin 4 → ℕ) (eo : off = ![d.val, c.val, 0, 0]) (inb : ∀ a, off a + S1x1x1x1024.size a ≤ S2x8x1x1024.size a) :
    View.readAt (Elt F) v (Rect.unit (s := S2x8x1x1024) off S1x1x1x1024.size inb).toLoadRect X = row4 Z d c := by
  subst eo hZ
  funext x
  refine congrArg (v.read (Elt F) X) ?_
  refine (eq_ix4 _).trans ?_
  have h0 : (x 0).val < 1 := (x 0).isLt
  have h1 : (x 1).val < 1 := (x 1).isLt
  have h2 : (x 2).val < 1 := (x 2).isLt
  congr 1
  · exact Fin.ext (by show d.val + 1 * (x 0).val = d.val; omega)
  · exact Fin.ext (by show c.val + 1 * (x 1).val = c.val; omega)
  · exact Fin.ext (by show 0 + 1 * (x 2).val = 0; omega)
  · exact Fin.ext (by show 0 + 1 * (x 3).val = (x 3).val; omega)

theorem load_state {sp : Space} {v : View sig .tc sp S8x128x128 e} (X : v.ty.Contents (Elt F)) (Z : Vec F S8x128x128 e) (hZ : v.read (Elt F) X = Z) (h : Fin 8)
    (inb : ∀ a, (![h.val, 0, 0] : Fin 3 → ℕ) a + S1x128x128.size a ≤ S8x128x128.size a) :
    View.readAt (Elt F) v (Rect.unit (s := S8x128x128) ![h.val, 0, 0] S1x128x128.size inb).toLoadRect X = stateOf Z h := by
  subst hZ
  funext x
  refine congrArg (v.read (Elt F) X) ?_
  refine (eq_ix3 _).trans ?_
  have h0 : (x 0).val < 1 := (x 0).isLt
  congr 1
  · exact Fin.ext (by show h.val + 1 * (x 0).val = h.val; omega)
  · exact Fin.ext (by show 0 + 1 * (x 1).val = (x 1).val; omega)
  · exact Fin.ext (by show 0 + 1 * (x 2).val = (x 2).val; omega)

theorem load_rows {sp : Space} {μ : Memref sig .tc sp S512x1024 e} (hμ : μ.IsWhole) (x : Vec F S512x1024 e) (c : Fin 8)
    (inb : ∀ a, (![64 * c.val, 0] : Fin 2 → ℕ) a + S64x1024.size a ≤ S512x1024.size a) :
    View.readAt (Elt F) μ.view (Rect.unit (s := S512x1024) ![64 * c.val, 0] S64x1024.size inb).toLoadRect (hμ.unread x) = rowsOf x c := by
  funext y
  refine (congrFun (hμ.read_unread x) _).trans ?_
  refine congrArg x ?_
  refine (eq_ix2 _).trans ?_
  congr 1
  · exact Fin.ext (by show 64 * c.val + 1 * (y 0).val = 64 * c.val + (y 0).val; omega)
  · exact Fin.ext (by show 0 + 1 * (y 1).val = (y 1).val; omega)

theorem load_meta {sp : Space} {μ : Memref sig .tc sp S16x1024 e} (hμ : μ.IsWhole) (x : Vec F S16x1024 e) (h : Fin 8)
    (inb : ∀ a, (![0, 128 * h.val] : Fin 2 → ℕ) a + S16x128.size a ≤ S16x1024.size a) :
    View.readAt (Elt F) μ.view (Rect.unit (s := S16x1024) ![0, 128 * h.val] S16x128.size inb).toLoadRect (hμ.unread x) = metaOf x h := by
  funext y
  refine (congrFun (hμ.read_unread x) _).trans ?_
  refine congrArg x ?_
  refine (eq_ix2 _).trans ?_
  congr 1
  · exact Fin.ext (by show 0 + 1 * (y 0).val = (y 0).val; omega)
  · exact Fin.ext (by show 128 * h.val + 1 * (y 1).val = 128 * h.val + (y 1).val; omega)

theorem load_whole {sp : Space} {μ : Memref sig .tc sp S16x1024 e} (hμ : μ.IsWhole) (x : Vec F S16x1024 e)
    (inb : ∀ a, (![0, 0] : Fin 2 → ℕ) a + S16x1024.size a ≤ S16x1024.size a) :
    View.readAt (Elt F) μ.view (Rect.unit (s := S16x1024) ![0, 0] S16x1024.size inb).toLoadRect (hμ.unread x) = x := by
  funext y
  refine (congrFun (hμ.read_unread x) _).trans ?_
  refine congrArg x ?_
  refine (eq_ix2 _).trans ((?_ : _ = ix2 (y 0) (y 1)).trans (eq_ix2 y).symm)
  congr 1
  · exact Fin.ext (by show 0 + 1 * (y 0).val = (y 0).val; omega)
  · exact Fin.ext (by show 0 + 1 * (y 1).val = (y 1).val; omega)

end Loads

/-! ## What one head of one chunk stores -/

theorem slices_head : ∀ h : Fin 8, S1x1024.Slices ![0, 128 * h.val] S1x128 := by decide
theorem slices_meta : ∀ h : Fin 8, S16x1024.Slices ![0, 128 * h.val] S16x128 := by decide

/-- The state one head leaves: the old one decayed, and the chunk's own part. -/
def newState (h : Fin 8) (d : Vec F S1x1x1x1024 .f32) (v : Vec F S64x128 .bf16) (s : Vec F S1x128x128 .f32) (ke : Vec F S1x64x128 .bf16) : FVec F S1x128x128 .f32 :=
  shapeCast S1x128x128 (addf
      (mulf (shapeCast S128x128 s shapeCasts_S1x128x128_S128x128)
        (broadcastTo S128x128 (extractStridedSlice S1x128 ![0, 128 * h.val] (shapeCast S1x1024 d shapeCasts_S1x1x1x1024_S1x1024) (slices_head h)) broadcasts_S1x128_S128x128))
      (matmul dot_S64x128_S64x128_S128x128_0_0_1_1_n_n none v (shapeCast S64x128 ke shapeCasts_S1x64x128_S64x128) (constant S128x128 .f32 0x00000000#32)))
    shapeCasts_S128x128_S1x128x128

/-- The output of one head over one chunk: the masked scores against the values, and the queries against the state. -/
def newOut (mask : IVec S64x64 1) (v : Vec F S64x128 .bf16) (q ki : Vec F S1x64x128 .bf16) (s : Vec F S1x128x128 .f32) : FVec F S64x128 .f32 :=
  addf
    (matmul dot_S64x64_S64x128_S64x128_1_0_0_1_n_n none
      (truncf .bf16 (select mask
        (matmul dot_S64x128_S64x128_S64x64_1_1_0_0_n_n none (shapeCast S64x128 q shapeCasts_S1x64x128_S64x128) (shapeCast S64x128 ki shapeCasts_S1x64x128_S64x128) (constant S64x64 .f32 0x00000000#32))
        (broadcast S64x64 (Scalar.ofBits .f32 0x00000000#32))) bitsLt_bf16_f32) v (constant S64x128 .f32 0x00000000#32))
    (matmul dot_S64x128_S128x128_S64x128_1_1_0_0_n_n none (shapeCast S64x128 q shapeCasts_S1x64x128_S64x128)
      (truncf .bf16 (shapeCast S128x128 s shapeCasts_S1x128x128_S128x128) bitsLt_bf16_f32) (constant S64x128 .f32 0x00000000#32))

/-- The state of head `h` after chunk `c`, from the buffers' contents. -/
def stateTile (d : Fin 2) (c : Fin 8) (D : Vec F S2x8x1x1024 .f32) (V : Vec F S512x1024 .bf16) (S : Vec F S8x128x128 .f32) (KE : Vec F S2x512x1024 .bf16) (h : Fin 8) : Vec F S1x128x128 .f32 :=
  newState h (row4 D d c) (headOf V c h) (stateOf S h) (head3 KE d c h)

/-- The output of head `h` over chunk `c`. -/
def outTile (mask : IVec S64x64 1) (d : Fin 2) (V : Vec F S512x1024 .bf16) (Q KI : Vec F S2x512x1024 .bf16) (S : Vec F S8x128x128 .f32) (c h : Fin 8) : Vec F S64x128 .f32 :=
  newOut mask (headOf V c h) (head3 Q d c h) (head3 KI d c h) (stateOf S h)

theorem state_piece {sp sp' sp'' sp3 : Space} {v17 : View sig .tc sp S2x8x1x1024 .f32} {v3 : View sig .tc sp' S512x1024 .bf16} {v12 : View sig .tc sp'' S8x128x128 .f32}
    {v16 : View sig .tc sp3 S2x512x1024 .bf16} {X17 : v17.ty.Contents (Elt F)} {X3 : v3.ty.Contents (Elt F)} {X12 : v12.ty.Contents (Elt F)} {X16 : v16.ty.Contents (Elt F)}
    {D : Vec F S2x8x1x1024 .f32} {V : Vec F S512x1024 .bf16} {S : Vec F S8x128x128 .f32} {KE : Vec F S2x512x1024 .bf16}
    (hD : v17.read (Elt F) X17 = D) (hV : v3.read (Elt F) X3 = V) (hS : v12.read (Elt F) X12 = S) (hK : v16.read (Elt F) X16 = KE) (d : Fin 2) (c : Fin 8) (h : Fin 8)
    {o1 : Fin 4 → ℕ} {o2 : Fin 2 → ℕ} {o4 : Fin 3 → ℕ} (e1 : o1 = ![d.val, c.val, 0, 0]) (e2 : o2 = ![64 * c.val, 128 * h.val]) (e4 : o4 = ![d.val, 64 * c.val, 128 * h.val])
    (i1 : ∀ a, o1 a + S1x1x1x1024.size a ≤ S2x8x1x1024.size a) (i2 : ∀ a, o2 a + S64x128.size a ≤ S512x1024.size a)
    (i3 : ∀ a, (![h.val, 0, 0] : Fin 3 → ℕ) a + S1x128x128.size a ≤ S8x128x128.size a) (i4 : ∀ a, o4 a + S1x64x128.size a ≤ S2x512x1024.size a)
    (x : (Rect.unit (s := S8x128x128) ![h.val, 0, 0] S1x128x128.size i3).shape.Idx) :
    newState h (View.readAt (Elt F) v17 (Rect.unit (s := S2x8x1x1024) o1 S1x1x1x1024.size i1).toLoadRect X17)
      (View.readAt (Elt F) v3 (Rect.unit (s := S512x1024) o2 S64x128.size i2).toLoadRect X3)
      (View.readAt (Elt F) v12 (Rect.unit (s := S8x128x128) ![h.val, 0, 0] S1x128x128.size i3).toLoadRect X12)
      (View.readAt (Elt F) v16 (Rect.unit (s := S2x512x1024) o4 S1x64x128.size i4).toLoadRect X16) x
      = glueStates (stateTile d c D V S KE) ((Rect.unit (s := S8x128x128) ![h.val, 0, 0] S1x128x128.size i3).emb x) := by
  rw [← glueStates_piece, load_row4 X17 D hD d c o1 e1, load_head X3 V hV c h o2 e2, load_state X12 S hS h, load_head3 X16 KE hK d c h o4 e4]
  rfl

theorem out_piece {sp sp' sp'' : Space} {v14 v15 : View sig .tc sp S2x512x1024 .bf16} {v3 : View sig .tc sp' S512x1024 .bf16} {v12 : View sig .tc sp'' S8x128x128 .f32}
    {X14 : v14.ty.Contents (Elt F)} {X15 : v15.ty.Contents (Elt F)} {X3 : v3.ty.Contents (Elt F)} {X12 : v12.ty.Contents (Elt F)}
    {Q KI : Vec F S2x512x1024 .bf16} {V : Vec F S512x1024 .bf16} {S : Vec F S8x128x128 .f32}
    (hQ : v14.read (Elt F) X14 = Q) (hK : v15.read (Elt F) X15 = KI) (hV : v3.read (Elt F) X3 = V) (hS : v12.read (Elt F) X12 = S) (mask : IVec S64x64 1) (d : Fin 2) (c h : Fin 8)
    (T : Fin 8 → Fin 8 → Vec F S64x128 .f32) (hT : T c h = outTile mask d V Q KI S c h)
    {o2 : Fin 2 → ℕ} {o4 : Fin 3 → ℕ} (e2 : o2 = ![64 * c.val, 128 * h.val]) (e4 : o4 = ![d.val, 64 * c.val, 128 * h.val])
    (i2 : ∀ a, o2 a + S64x128.size a ≤ S512x1024.size a)
    (i3 : ∀ a, (![h.val, 0, 0] : Fin 3 → ℕ) a + S1x128x128.size a ≤ S8x128x128.size a) (i4 : ∀ a, o4 a + S1x64x128.size a ≤ S2x512x1024.size a)
    (x : (Rect.unit (s := S512x1024) o2 S64x128.size i2).shape.Idx) :
    newOut mask (View.readAt (Elt F) v3 (Rect.unit (s := S512x1024) o2 S64x128.size i2).toLoadRect X3)
      (View.readAt (Elt F) v14 (Rect.unit (s := S2x512x1024) o4 S1x64x128.size i4).toLoadRect X14)
      (View.readAt (Elt F) v15 (Rect.unit (s := S2x512x1024) o4 S1x64x128.size i4).toLoadRect X15)
      (View.readAt (Elt F) v12 (Rect.unit (s := S8x128x128) ![h.val, 0, 0] S1x128x128.size i3).toLoadRect X12) x
      = glueOut T ((Rect.unit (s := S512x1024) o2 S64x128.size i2).emb x) := by
  rw [← glueOut_piece T c h o2 e2, hT, load_head X3 V hV c h o2 e2, load_head3 X14 Q hQ d c h o4 e4, load_head3 X15 KI hK d c h o4 e4, load_state X12 S hS h]
  rfl

/-! ## The offsets of a trip -/

/-- The chunk a trip takes going forward, and the one it takes going backward. -/
def fw (k : Fin k0_t1_loop.trips) : Fin 8 := ⟨k.val, Nat.lt_of_lt_of_eq k.isLt (by decide)⟩
def bw (k : Fin k0_t1_loop.trips) : Fin 8 := (fw k).rev

theorem off1 : ∀ k, k0_off1 k = ![(0 : Fin 2).val, (fw k).val, 0, 0] := by decide +kernel
theorem off18 : ∀ k, k0_off18 k = ![(1 : Fin 2).val, (bw k).val, 0, 0] := by decide +kernel
theorem off3 : ∀ k, k0_off3 k = ![64 * (fw k).val, 128 * (0 : Fin 8).val] := by decide +kernel
theorem off2 : ∀ k, k0_off2 k = ![(0 : Fin 2).val, 64 * (fw k).val, 128 * (0 : Fin 8).val] := by decide +kernel
theorem off20 : ∀ k, k0_off20 k = ![64 * (bw k).val, 128 * (0 : Fin 8).val] := by decide +kernel
theorem off19 : ∀ k, k0_off19 k = ![(1 : Fin 2).val, 64 * (bw k).val, 128 * (0 : Fin 8).val] := by decide +kernel
theorem off5 : ∀ k, k0_off5 k = ![64 * (fw k).val, 128 * (1 : Fin 8).val] := by decide +kernel
theorem off4 : ∀ k, k0_off4 k = ![(0 : Fin 2).val, 64 * (fw k).val, 128 * (1 : Fin 8).val] := by decide +kernel
theorem off22 : ∀ k, k0_off22 k = ![64 * (bw k).val, 128 * (1 : Fin 8).val] := by decide +kernel
theorem off21 : ∀ k, k0_off21 k = ![(1 : Fin 2).val, 64 * (bw k).val, 128 * (1 : Fin 8).val] := by decide +kernel
theorem off7 : ∀ k, k0_off7 k = ![64 * (fw k).val, 128 * (2 : Fin 8).val] := by decide +kernel
theorem off6 : ∀ k, k0_off6 k = ![(0 : Fin 2).val, 64 * (fw k).val, 128 * (2 : Fin 8).val] := by decide +kernel
theorem off24 : ∀ k, k0_off24 k = ![64 * (bw k).val, 128 * (2 : Fin 8).val] := by decide +kernel
theorem off23 : ∀ k, k0_off23 k = ![(1 : Fin 2).val, 64 * (bw k).val, 128 * (2 : Fin 8).val] := by decide +kernel
theorem off9 : ∀ k, k0_off9 k = ![64 * (fw k).val, 128 * (3 : Fin 8).val] := by decide +kernel
theorem off8 : ∀ k, k0_off8 k = ![(0 : Fin 2).val, 64 * (fw k).val, 128 * (3 : Fin 8).val] := by decide +kernel
theorem off26 : ∀ k, k0_off26 k = ![64 * (bw k).val, 128 * (3 : Fin 8).val] := by decide +kernel
theorem off25 : ∀ k, k0_off25 k = ![(1 : Fin 2).val, 64 * (bw k).val, 128 * (3 : Fin 8).val] := by decide +kernel
theorem off11 : ∀ k, k0_off11 k = ![64 * (fw k).val, 128 * (4 : Fin 8).val] := by decide +kernel
theorem off10 : ∀ k, k0_off10 k = ![(0 : Fin 2).val, 64 * (fw k).val, 128 * (4 : Fin 8).val] := by decide +kernel
theorem off28 : ∀ k, k0_off28 k = ![64 * (bw k).val, 128 * (4 : Fin 8).val] := by decide +kernel
theorem off27 : ∀ k, k0_off27 k = ![(1 : Fin 2).val, 64 * (bw k).val, 128 * (4 : Fin 8).val] := by decide +kernel
theorem off13 : ∀ k, k0_off13 k = ![64 * (fw k).val, 128 * (5 : Fin 8).val] := by decide +kernel
theorem off12 : ∀ k, k0_off12 k = ![(0 : Fin 2).val, 64 * (fw k).val, 128 * (5 : Fin 8).val] := by decide +kernel
theorem off30 : ∀ k, k0_off30 k = ![64 * (bw k).val, 128 * (5 : Fin 8).val] := by decide +kernel
theorem off29 : ∀ k, k0_off29 k = ![(1 : Fin 2).val, 64 * (bw k).val, 128 * (5 : Fin 8).val] := by decide +kernel
theorem off15 : ∀ k, k0_off15 k = ![64 * (fw k).val, 128 * (6 : Fin 8).val] := by decide +kernel
theorem off14 : ∀ k, k0_off14 k = ![(0 : Fin 2).val, 64 * (fw k).val, 128 * (6 : Fin 8).val] := by decide +kernel
theorem off32 : ∀ k, k0_off32 k = ![64 * (bw k).val, 128 * (6 : Fin 8).val] := by decide +kernel
theorem off31 : ∀ k, k0_off31 k = ![(1 : Fin 2).val, 64 * (bw k).val, 128 * (6 : Fin 8).val] := by decide +kernel
theorem off17 : ∀ k, k0_off17 k = ![64 * (fw k).val, 128 * (7 : Fin 8).val] := by decide +kernel
theorem off16 : ∀ k, k0_off16 k = ![(0 : Fin 2).val, 64 * (fw k).val, 128 * (7 : Fin 8).val] := by decide +kernel
theorem off34 : ∀ k, k0_off34 k = ![64 * (bw k).val, 128 * (7 : Fin 8).val] := by decide +kernel
theorem off33 : ∀ k, k0_off33 k = ![(1 : Fin 2).val, 64 * (bw k).val, 128 * (7 : Fin 8).val] := by decide +kernel

end Cert.KernelIdeal.Scan

end
-- ==== Proof.ScanTrip.lean ====
/- The recurrence's loop: its stores over the chunks of one block, as arrays. -/
module

public import proofs.«01_k».proof.Proof.ScanTile

@[expose] public section

set_option maxRecDepth 16384

noncomputable section

namespace Cert.KernelIdeal.Scan

open Cert.KernelIdeal Cert.KernelIdeal.Gen Idealize.ShloMosaic Idealize.ShloMosaic.TcCoe Idealize.SL.Sem
open Idealize.ShloMosaic.Tactic

variable {F : FTy → Type} [FloatOps F]

/-- The states before chunk number `n` of a block, the chunks taken in the order `ord`. -/
def statesAt (d : Fin 2) (D : Vec F S2x8x1x1024 .f32) (V : Vec F S512x1024 .bf16) (KE : Vec F S2x512x1024 .bf16) (ord : Fin 8 → Fin 8) (S : Vec F S8x128x128 .f32) : ℕ → Vec F S8x128x128 .f32
  | 0 => S
  | n + 1 => if h : n < 8 then glueStates (stateTile d (ord ⟨n, h⟩) D V (statesAt d D V KE ord S n) KE) else statesAt d D V KE ord S n

/-- The outputs of a block. -/
def outsAt (mask : IVec S64x64 1) (d : Fin 2) (D : Vec F S2x8x1x1024 .f32) (V : Vec F S512x1024 .bf16) (Q KI KE : Vec F S2x512x1024 .bf16) (ord : Fin 8 → Fin 8) (S : Vec F S8x128x128 .f32)
    (c h : Fin 8) : Vec F S64x128 .f32 :=
  outTile mask d V Q KI (statesAt d D V KE ord S (ord c).val) c h

theorem pieces_append {s : Shape} {e : EltTy} (G : s.Idx → Elt F e) : ∀ (L L' : List (View.Piece (Elt F) s e)), View.PiecesOf G L → View.PiecesOf G L' → View.PiecesOf G (L ++ L')
  | [], _, _, h' => h'
  | _ :: L, L', h, h' => ⟨h.1, pieces_append G L L' h.2 h'⟩

section Trip
variable (𝒱 : Variants) (c : Dev nD) (bd : Option 𝒱.V) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S16x1024 .bf16) (harg8 : arg8.IsWhole) (arg9 : Memref sig .tc .vmem S16x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S2x512x1024 .bf16) (harg14 : arg14.IsWhole) (arg15 : Memref sig .tc .vmem S2x512x1024 .bf16) (harg15 : arg15.IsWhole) (arg16 : Memref sig .tc .vmem S2x512x1024 .bf16) (harg16 : arg16.IsWhole) (arg17 : Memref sig .tc .vmem S2x8x1x1024 .f32) (harg17 : arg17.IsWhole) (v2 : IVec S64x64 1) (v5 : IVec S64x64 1) (X_arg3 : BufTy.Contents (Elt F) arg3.view.ty) (X_arg6 : BufTy.Contents (Elt F) arg6.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty)
variable {V V' : Vec F S512x1024 .bf16} {Q KI KE : Vec F S2x512x1024 .bf16} {D : Vec F S2x8x1x1024 .f32}
  (hV : arg3.view.read (Elt F) X_arg3 = V) (hV' : arg6.view.read (Elt F) X_arg6 = V') (hQ : arg14.view.read (Elt F) X_arg14 = Q) (hKI : arg15.view.read (Elt F) X_arg15 = KI)
  (hKE : arg16.view.read (Elt F) X_arg16 = KE) (hD : arg17.view.read (Elt F) X_arg17 = D)

section One
variable (k : Fin k0_t1_loop.trips) (f10 : BufTy.Contents (Elt F) arg10.view.ty) (f11 : BufTy.Contents (Elt F) arg11.view.ty) (f12 : BufTy.Contents (Elt F) arg12.view.ty) (f13 : BufTy.Contents (Elt F) arg13.view.ty)

theorem trip_cover_2 (y) : ∃ p ∈ (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 k f10 f11 f12 f13).2.2.1, y ∈ p.1.set :=
  View.cover_of_tiledL (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 k f10 f11 f12 f13).2.2.1 S1x128x128.size (by sl_kernel_rfl) y
theorem trip_cover_3 (y) : ∃ p ∈ (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 k f10 f11 f12 f13).2.2.2, y ∈ p.1.set :=
  View.cover_of_tiledL (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 k f10 f11 f12 f13).2.2.2 S1x128x128.size (by sl_kernel_rfl) y

include hV hKE hD in
theorem trip_states {S : Vec F S8x128x128 .f32} (hS : arg12.view.read (Elt F) f12 = S) :
    View.PiecesOf (glueStates (stateTile 0 (fw k) D V S KE)) (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 k f10 f11 f12 f13).2.2.1 := by
  unfold tripL_k0_t1 trip_k0_t1
  exact ⟨fun x => state_piece hD hV hS hKE 0 (fw k) 7 (off1 k) (off17 k) (off16 k) _ _ _ _ x,
    fun x => state_piece hD hV hS hKE 0 (fw k) 6 (off1 k) (off15 k) (off14 k) _ _ _ _ x,
    fun x => state_piece hD hV hS hKE 0 (fw k) 5 (off1 k) (off13 k) (off12 k) _ _ _ _ x,
    fun x => state_piece hD hV hS hKE 0 (fw k) 4 (off1 k) (off11 k) (off10 k) _ _ _ _ x,
    fun x => state_piece hD hV hS hKE 0 (fw k) 3 (off1 k) (off9 k) (off8 k) _ _ _ _ x,
    fun x => state_piece hD hV hS hKE 0 (fw k) 2 (off1 k) (off7 k) (off6 k) _ _ _ _ x,
    fun x => state_piece hD hV hS hKE 0 (fw k) 1 (off1 k) (off5 k) (off4 k) _ _ _ _ x,
    fun x => state_piece hD hV hS hKE 0 (fw k) 0 (off1 k) (off3 k) (off2 k) _ _ _ _ x, trivial⟩

include hV' hKE hD in
theorem trip_states' {S : Vec F S8x128x128 .f32} (hS : arg13.view.read (Elt F) f13 = S) :
    View.PiecesOf (glueStates (stateTile 1 (bw k) D V' S KE)) (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 k f10 f11 f12 f13).2.2.2 := by
  unfold tripL_k0_t1 trip_k0_t1
  exact ⟨fun x => state_piece hD hV' hS hKE 1 (bw k) 7 (off18 k) (off34 k) (off33 k) _ _ _ _ x,
    fun x => state_piece hD hV' hS hKE 1 (bw k) 6 (off18 k) (off32 k) (off31 k) _ _ _ _ x,
    fun x => state_piece hD hV' hS hKE 1 (bw k) 5 (off18 k) (off30 k) (off29 k) _ _ _ _ x,
    fun x => state_piece hD hV' hS hKE 1 (bw k) 4 (off18 k) (off28 k) (off27 k) _ _ _ _ x,
    fun x => state_piece hD hV' hS hKE 1 (bw k) 3 (off18 k) (off26 k) (off25 k) _ _ _ _ x,
    fun x => state_piece hD hV' hS hKE 1 (bw k) 2 (off18 k) (off24 k) (off23 k) _ _ _ _ x,
    fun x => state_piece hD hV' hS hKE 1 (bw k) 1 (off18 k) (off22 k) (off21 k) _ _ _ _ x,
    fun x => state_piece hD hV' hS hKE 1 (bw k) 0 (off18 k) (off20 k) (off19 k) _ _ _ _ x, trivial⟩

include hV hQ hKI in
theorem trip_outs {S : Vec F S8x128x128 .f32} (hS : arg12.view.read (Elt F) f12 = S) (T : Fin 8 → Fin 8 → Vec F S64x128 .f32)
    (hT : ∀ h, T (fw k) h = outTile v2 0 V Q KI S (fw k) h) :
    View.PiecesOf (glueOut T) (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 k f10 f11 f12 f13).1 := by
  unfold tripL_k0_t1 trip_k0_t1
  exact ⟨fun x => out_piece hQ hKI hV hS v2 0 (fw k) 7 T (hT 7) (off17 k) (off16 k) _ _ _ x,
    fun x => out_piece hQ hKI hV hS v2 0 (fw k) 6 T (hT 6) (off15 k) (off14 k) _ _ _ x,
    fun x => out_piece hQ hKI hV hS v2 0 (fw k) 5 T (hT 5) (off13 k) (off12 k) _ _ _ x,
    fun x => out_piece hQ hKI hV hS v2 0 (fw k) 4 T (hT 4) (off11 k) (off10 k) _ _ _ x,
    fun x => out_piece hQ hKI hV hS v2 0 (fw k) 3 T (hT 3) (off9 k) (off8 k) _ _ _ x,
    fun x => out_piece hQ hKI hV hS v2 0 (fw k) 2 T (hT 2) (off7 k) (off6 k) _ _ _ x,
    fun x => out_piece hQ hKI hV hS v2 0 (fw k) 1 T (hT 1) (off5 k) (off4 k) _ _ _ x,
    fun x => out_piece hQ hKI hV hS v2 0 (fw k) 0 T (hT 0) (off3 k) (off2 k) _ _ _ x, trivial⟩

include hV' hQ hKI in
theorem trip_outs' {S : Vec F S8x128x128 .f32} (hS : arg13.view.read (Elt F) f13 = S) (T : Fin 8 → Fin 8 → Vec F S64x128 .f32)
    (hT : ∀ h, T (bw k) h = outTile v5 1 V' Q KI S (bw k) h) :
    View.PiecesOf (glueOut T) (tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 k f10 f11 f12 f13).2.1 := by
  unfold tripL_k0_t1 trip_k0_t1
  exact ⟨fun x => out_piece hQ hKI hV' hS v5 1 (bw k) 7 T (hT 7) (off34 k) (off33 k) _ _ _ x,
    fun x => out_piece hQ hKI hV' hS v5 1 (bw k) 6 T (hT 6) (off32 k) (off31 k) _ _ _ x,
    fun x => out_piece hQ hKI hV' hS v5 1 (bw k) 5 T (hT 5) (off30 k) (off29 k) _ _ _ x,
    fun x => out_piece hQ hKI hV' hS v5 1 (bw k) 4 T (hT 4) (off28 k) (off27 k) _ _ _ x,
    fun x => out_piece hQ hKI hV' hS v5 1 (bw k) 3 T (hT 3) (off26 k) (off25 k) _ _ _ x,
    fun x => out_piece hQ hKI hV' hS v5 1 (bw k) 2 T (hT 2) (off24 k) (off23 k) _ _ _ x,
    fun x => out_piece hQ hKI hV' hS v5 1 (bw k) 1 T (hT 1) (off22 k) (off21 k) _ _ _ x,
    fun x => out_piece hQ hKI hV' hS v5 1 (bw k) 0 T (hT 0) (off20 k) (off19 k) _ _ _ x, trivial⟩

end One

variable (f10 : BufTy.Contents (Elt F) arg10.view.ty) (f11 : BufTy.Contents (Elt F) arg11.view.ty) (f12 : BufTy.Contents (Elt F) arg12.view.ty) (f13 : BufTy.Contents (Elt F) arg13.view.ty)
  {S S' : Vec F S8x128x128 .f32} (hS : arg12.view.read (Elt F) f12 = S) (hS' : arg13.view.read (Elt F) f13 = S')

include hV hV' hQ hKI hKE hD hS hS' in
/-- Before trip `n` the state buffers read the states there, and the output stores so far are blocks of the outputs. -/
theorem loop_at : ∀ n : ℕ, n ≤ 8 →
    arg12.view.read (Elt F) (arg12.view.writes (Elt F) f12 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 f10 f11 f12 f13 n).2.2.1) = statesAt 0 D V KE id S n
    ∧ arg13.view.read (Elt F) (arg13.view.writes (Elt F) f13 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 f10 f11 f12 f13 n).2.2.2) = statesAt 1 D V' KE Fin.rev S' n
    ∧ View.PiecesOf (glueOut (outsAt v2 0 D V Q KI KE id S)) (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 f10 f11 f12 f13 n).1
    ∧ View.PiecesOf (glueOut (outsAt v5 1 D V' Q KI KE Fin.rev S')) (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 f10 f11 f12 f13 n).2.1 := by
  intro n
  induction n with
  | zero => intro _; exact ⟨hS, hS', trivial, trivial⟩
  | succ n ih =>
    intro hn
    obtain ⟨i1, i2, i3, i4⟩ := ih (by omega)
    have hk : n < k0_t1_loop.trips := Nat.lt_of_lt_of_eq (show n < 8 by omega) (by decide)
    have e := pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 f10 f11 f12 f13 ⟨n, hk⟩
    rw [show (⟨n, hk⟩ : Fin k0_t1_loop.trips).val + 1 = n + 1 from rfl] at e
    rw [e]
    have hf : fw ⟨n, hk⟩ = id ⟨n, by omega⟩ := rfl
    have hb : bw ⟨n, hk⟩ = Fin.rev ⟨n, by omega⟩ := rfl
    refine ⟨?_, ?_, ?_, ?_⟩
    · rw [View.read_writes_eq_canon _ _ _ fun y => ?_]
      · rw [show statesAt 0 D V KE id S (n + 1) = _ from dif_pos (show n < 8 by omega)]
        funext y
        exact View.canon_append_of_piecesOf _ _ _ (trip_states 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 hV hKE hD _ _ _ _ _ i1) y (trip_cover_2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 _ _ _ _ _ y)
      · obtain ⟨p, hp, hy⟩ := trip_cover_2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 _ _ _ _ _ y
        exact ⟨p, List.mem_append_left _ hp, hy⟩
    · rw [View.read_writes_eq_canon _ _ _ fun y => ?_]
      · rw [show statesAt 1 D V' KE Fin.rev S' (n + 1) = _ from dif_pos (show n < 8 by omega)]
        funext y
        exact View.canon_append_of_piecesOf _ _ _ (trip_states' 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 hV' hKE hD _ _ _ _ _ i2) y (trip_cover_3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 _ _ _ _ _ y)
      · obtain ⟨p, hp, hy⟩ := trip_cover_3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 _ _ _ _ _ y
        exact ⟨p, List.mem_append_left _ hp, hy⟩
    · exact pieces_append _ _ _ (trip_outs 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 hV hQ hKI _ _ _ _ _ i1 _ fun h => rfl) i3
    · exact pieces_append _ _ _ (trip_outs' 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v2 v5 X_arg3 X_arg6 X_arg14 X_arg15 X_arg16 X_arg17 hV' hQ hKI _ _ _ _ _ i2 _ fun h => by
        unfold outsAt; rw [hb, Fin.rev_rev]) i4

end Trip

end Cert.KernelIdeal.Scan

end
-- ==== Proof.ScanBlock.lean ====
/- What a point of the recurrence leaves, as arrays of its blocks. -/
module

public import proofs.«01_k».proof.Proof.ScanTrip

@[expose] public section

set_option maxRecDepth 16384

noncomputable section

namespace Cert.KernelIdeal.Scan

open Cert.KernelIdeal Cert.KernelIdeal.Gen Idealize.ShloMosaic Idealize.ShloMosaic.TcCoe Idealize.SL.Sem
open Idealize.ShloMosaic.Tactic

variable {F : FTy → Type} [FloatOps F]

/-! ## What is computed for every chunk before the loop: `l`, `q` are a block's logarithms and queries -/

/-- The triangle a direction sums with. -/
def tri (d : Fin 2) : FVec F S64x64 .bf16 := match d with | 0 => k0_pay116 | 1 => k0_pay117
/-- The mask a direction allows. -/
def maskOf (d : Fin 2) : IVec S64x64 1 := match d with | 0 => k0_pay114 | 1 => k0_pay115
/-- The decay over a whole chunk. -/
def decay (d : Fin 2) (l : Vec F S64x1024 .f32) : FVec F S1x1024 .f32 := match d with | 0 => k0_pay122 l | 1 => k0_pay130 k0_pay117 l

def chunkQ (l : Fin 2 → Vec F S512x1024 .f32) (q : Fin 2 → Vec F S512x1024 .bf16) (d : Fin 2) (c : Fin 8) : Vec F S1x64x1024 .bf16 :=
  k0_pay132 (k0_pay131 (tri d) (rowsOf (l d) c) (rowsOf (q d) c))
def chunkK (l : Fin 2 → Vec F S512x1024 .f32) (d : Fin 2) (c : Fin 8) : Vec F S1x64x1024 .bf16 := k0_pay133 (k0_pay129 (tri d) (rowsOf (l d) c))
def chunkE (l : Fin 2 → Vec F S512x1024 .f32) (d : Fin 2) (c : Fin 8) : Vec F S1x64x1024 .bf16 :=
  k0_pay134 (k0_pay129 (tri d) (rowsOf (l d) c)) (decay d (rowsOf (l d) c))
def chunkD (l : Fin 2 → Vec F S512x1024 .f32) (d : Fin 2) (c : Fin 8) : Vec F S1x1x1x1024 .f32 := k0_pay127 (decay d (rowsOf (l d) c))

/-- A head's state after the meta tokens. -/
def metaTile (x6 : Vec F S16x1024 .bf16) (x7 : Vec F S16x1024 .f32) (h : Fin 8) : Vec F S1x128x128 .f32 :=
  shapeCast S1x128x128 (matmul dot_S16x128_S16x128_S128x128_0_0_1_1_n_n none (metaOf x6 h)
    (extractStridedSlice S16x128 ![0, 128 * h.val] (k0_pay7 x7) (slices_meta h)) (constant S128x128 .f32 0x00000000#32)) shapeCasts_S128x128_S1x128x128

/-- Two blocks, by direction. -/
def both {s : Shape} {e : EltTy} (a b : Vec F s e) (d : Fin 2) : Vec F s e := match d with | 0 => a | 1 => b

/-- What a point leaves that finds the states `s`. -/
def leftOf (x0 x1 : Vec F S512x1024 .bf16) (x2 : Vec F S512x1024 .f32) (x3 x4 : Vec F S512x1024 .bf16) (x5 : Vec F S512x1024 .f32) (s : Pair F) : Left F :=
  let Q := glueChunks (chunkQ (both x2 x5) (both x0 x3))
  let KI := glueChunks (chunkK (both x2 x5))
  let KE := glueChunks (chunkE (both x2 x5))
  let D := glueRows (chunkD (both x2 x5))
  (glueOut (outsAt k0_pay114 0 D x1 Q KI KE id s.1), glueOut (outsAt k0_pay115 1 D x4 Q KI KE Fin.rev s.2), statesAt 0 D x1 KE id s.1 8, statesAt 1 D x4 KE Fin.rev s.2 8)

/-- The states a batch row begins with: the meta tokens' going forward, none going backward. -/
def firstOf (x6 : Vec F S16x1024 .bf16) (x7 : Vec F S16x1024 .f32) : Pair F := (glueStates (metaTile x6 x7), k0_pay6)

section Fills
variable {sp sp' : Space} {μ : Memref sig .tc sp S512x1024 .f32} {ν : Memref sig .tc sp' S512x1024 .bf16} (hμ : μ.IsWhole) (hν : ν.IsWhole)

theorem in_chunk (d : Fin 2) (c : Fin 8) : ∀ a, (![d.val, 64 * c.val, 0] : Fin 3 → ℕ) a + S1x64x1024.size a ≤ S2x512x1024.size a := by
  revert d c; decide +kernel
theorem in_row4 (d : Fin 2) (c : Fin 8) : ∀ a, (![d.val, c.val, 0, 0] : Fin 4 → ℕ) a + S1x1x1x1024.size a ≤ S2x8x1x1024.size a := by
  revert d c; decide +kernel
theorem in_rows (c : Fin 8) : ∀ a, (![64 * c.val, 0] : Fin 2 → ℕ) a + S64x1024.size a ≤ S512x1024.size a := by
  revert c; decide +kernel
theorem in_cols (h : Fin 8) : ∀ a, (![0, 128 * h.val] : Fin 2 → ℕ) a + S16x128.size a ≤ S16x1024.size a := by
  revert h; decide +kernel
theorem in_state (h : Fin 8) : ∀ a, (![h.val, 0, 0] : Fin 3 → ℕ) a + S1x128x128.size a ≤ S8x128x128.size a := by
  revert h; decide +kernel
theorem in_all : ∀ a, (![0, 0] : Fin 2 → ℕ) a + S16x1024.size a ≤ S16x1024.size a := by
  decide +kernel

/-- A stored chunk is its place in the whole. -/
theorem chunk_of (T : Fin 2 → Fin 8 → Vec F S1x64x1024 .bf16) (d : Fin 2) (c : Fin 8) {p : Vec F S1x64x1024 .bf16} (hp : p = T d c)
    (inb : ∀ a, (![d.val, 64 * c.val, 0] : Fin 3 → ℕ) a + S1x64x1024.size a ≤ S2x512x1024.size a)
    (x : (Rect.unit (s := S2x512x1024) ![d.val, 64 * c.val, 0] S1x64x1024.size inb).shape.Idx) :
    p x = glueChunks T ((Rect.unit (s := S2x512x1024) ![d.val, 64 * c.val, 0] S1x64x1024.size inb).emb x) := by
  rw [← glueChunks_piece, hp]

theorem q_of (l : Fin 2 → Vec F S512x1024 .f32) (q : Fin 2 → Vec F S512x1024 .bf16) (d : Fin 2) (c : Fin 8)
    (i1 i2 : ∀ a, (![64 * c.val, 0] : Fin 2 → ℕ) a + S64x1024.size a ≤ S512x1024.size a) :
    k0_pay132 (k0_pay131 (tri d) (View.readAt (Elt F) μ.view (Rect.unit (s := S512x1024) ![64 * c.val, 0] S64x1024.size i1).toLoadRect (hμ.unread (l d)))
      (View.readAt (Elt F) ν.view (Rect.unit (s := S512x1024) ![64 * c.val, 0] S64x1024.size i2).toLoadRect (hν.unread (q d)))) = chunkQ l q d c := by
  rw [load_rows hμ, load_rows hν]; rfl

theorem k_of (l : Fin 2 → Vec F S512x1024 .f32) (d : Fin 2) (c : Fin 8) (i1 : ∀ a, (![64 * c.val, 0] : Fin 2 → ℕ) a + S64x1024.size a ≤ S512x1024.size a) :
    k0_pay133 (k0_pay129 (tri d) (View.readAt (Elt F) μ.view (Rect.unit (s := S512x1024) ![64 * c.val, 0] S64x1024.size i1).toLoadRect (hμ.unread (l d)))) = chunkK l d c := by
  rw [load_rows hμ]; rfl

theorem e_of (l : Fin 2 → Vec F S512x1024 .f32) (d : Fin 2) (c : Fin 8) (i1 : ∀ a, (![64 * c.val, 0] : Fin 2 → ℕ) a + S64x1024.size a ≤ S512x1024.size a) :
    k0_pay134 (k0_pay129 (tri d) (View.readAt (Elt F) μ.view (Rect.unit (s := S512x1024) ![64 * c.val, 0] S64x1024.size i1).toLoadRect (hμ.unread (l d))))
      (decay d (View.readAt (Elt F) μ.view (Rect.unit (s := S512x1024) ![64 * c.val, 0] S64x1024.size i1).toLoadRect (hμ.unread (l d)))) = chunkE l d c := by
  rw [load_rows hμ]; rfl

theorem d_of (l : Fin 2 → Vec F S512x1024 .f32) (d : Fin 2) (c : Fin 8) (i1 : ∀ a, (![64 * c.val, 0] : Fin 2 → ℕ) a + S64x1024.size a ≤ S512x1024.size a)
    (inb : ∀ a, (![d.val, c.val, 0, 0] : Fin 4 → ℕ) a + S1x1x1x1024.size a ≤ S2x8x1x1024.size a)
    (x : (Rect.unit (s := S2x8x1x1024) ![d.val, c.val, 0, 0] S1x1x1x1024.size inb).shape.Idx) :
    k0_pay127 (decay d (View.readAt (Elt F) μ.view (Rect.unit (s := S512x1024) ![64 * c.val, 0] S64x1024.size i1).toLoadRect (hμ.unread (l d)))) x
      = glueRows (chunkD l) ((Rect.unit (s := S2x8x1x1024) ![d.val, c.val, 0, 0] S1x1x1x1024.size inb).emb x) := by
  rw [← glueRows_piece, load_rows hμ]; rfl

end Fills

theorem meta_of {sp sp' : Space} {μ : Memref sig .tc sp S16x1024 .bf16} {ν : Memref sig .tc sp' S16x1024 .f32} (hμ : μ.IsWhole) (hν : ν.IsWhole)
    (x6 : Vec F S16x1024 .bf16) (x7 : Vec F S16x1024 .f32) (h : Fin 8)
    (i1 : ∀ a, (![0, 128 * h.val] : Fin 2 → ℕ) a + S16x128.size a ≤ S16x1024.size a) (i2 : ∀ a, (![0, 0] : Fin 2 → ℕ) a + S16x1024.size a ≤ S16x1024.size a)
    (inb : ∀ a, (![h.val, 0, 0] : Fin 3 → ℕ) a + S1x128x128.size a ≤ S8x128x128.size a)
    (x : (Rect.unit (s := S8x128x128) ![h.val, 0, 0] S1x128x128.size inb).shape.Idx) :
    shapeCast S1x128x128 (matmul dot_S16x128_S16x128_S128x128_0_0_1_1_n_n none
      (View.readAt (Elt F) μ.view (Rect.unit (s := S16x1024) ![0, 128 * h.val] S16x128.size i1).toLoadRect (hμ.unread x6))
      (extractStridedSlice S16x128 ![0, 128 * h.val] (k0_pay7 (View.readAt (Elt F) ν.view (Rect.unit (s := S16x1024) ![0, 0] S16x1024.size i2).toLoadRect (hν.unread x7))) (slices_meta h))
      (constant S128x128 .f32 0x00000000#32)) shapeCasts_S128x128_S1x128x128 x
      = glueStates (metaTile x6 x7) ((Rect.unit (s := S8x128x128) ![h.val, 0, 0] S1x128x128.size inb).emb x) := by
  rw [← glueStates_piece, load_meta hμ, load_whole hν]; rfl

/-! ## The buffers filled before the loop -/

section Buffers
variable (c : Dev nD) (arg2 : Memref sig .tc .vmem S512x1024 .bf16) (harg2 : arg2.IsWhole) (arg4 : Memref sig .tc .vmem S512x1024 .f32) (harg4 : arg4.IsWhole)
  (arg5 : Memref sig .tc .vmem S512x1024 .bf16) (harg5 : arg5.IsWhole) (arg7 : Memref sig .tc .vmem S512x1024 .f32) (harg7 : arg7.IsWhole)
  (arg8 : Memref sig .tc .vmem S16x1024 .bf16) (harg8 : arg8.IsWhole) (arg9 : Memref sig .tc .vmem S16x1024 .f32) (harg9 : arg9.IsWhole)
  (x0 x3 : Vec F S512x1024 .bf16) (x2 x5 : Vec F S512x1024 .f32) (x6 : Vec F S16x1024 .bf16) (x7 : Vec F S16x1024 .f32)

theorem fill_q : View.PiecesOf (glueChunks (chunkQ (both x2 x5) (both x0 x3))) (runA.sl.HS2_16 c arg2 harg2 arg4 harg4 arg5 harg5 arg7 harg7 x0 x2 x3 x5) :=
  ⟨fun x => chunk_of _ 1 7 (q_of harg7 harg5 (both x2 x5) (both x0 x3) 1 7 (in_rows 7) (in_rows 7)) (in_chunk 1 7) x,
    fun x => chunk_of _ 0 7 (q_of harg4 harg2 (both x2 x5) (both x0 x3) 0 7 (in_rows 7) (in_rows 7)) (in_chunk 0 7) x,
    fun x => chunk_of _ 1 6 (q_of harg7 harg5 (both x2 x5) (both x0 x3) 1 6 (in_rows 6) (in_rows 6)) (in_chunk 1 6) x,
    fun x => chunk_of _ 0 6 (q_of harg4 harg2 (both x2 x5) (both x0 x3) 0 6 (in_rows 6) (in_rows 6)) (in_chunk 0 6) x,
    fun x => chunk_of _ 1 5 (q_of harg7 harg5 (both x2 x5) (both x0 x3) 1 5 (in_rows 5) (in_rows 5)) (in_chunk 1 5) x,
    fun x => chunk_of _ 0 5 (q_of harg4 harg2 (both x2 x5) (both x0 x3) 0 5 (in_rows 5) (in_rows 5)) (in_chunk 0 5) x,
    fun x => chunk_of _ 1 4 (q_of harg7 harg5 (both x2 x5) (both x0 x3) 1 4 (in_rows 4) (in_rows 4)) (in_chunk 1 4) x,
    fun x => chunk_of _ 0 4 (q_of harg4 harg2 (both x2 x5) (both x0 x3) 0 4 (in_rows 4) (in_rows 4)) (in_chunk 0 4) x,
    fun x => chunk_of _ 1 3 (q_of harg7 harg5 (both x2 x5) (both x0 x3) 1 3 (in_rows 3) (in_rows 3)) (in_chunk 1 3) x,
    fun x => chunk_of _ 0 3 (q_of harg4 harg2 (both x2 x5) (both x0 x3) 0 3 (in_rows 3) (in_rows 3)) (in_chunk 0 3) x,
    fun x => chunk_of _ 1 2 (q_of harg7 harg5 (both x2 x5) (both x0 x3) 1 2 (in_rows 2) (in_rows 2)) (in_chunk 1 2) x,
    fun x => chunk_of _ 0 2 (q_of harg4 harg2 (both x2 x5) (both x0 x3) 0 2 (in_rows 2) (in_rows 2)) (in_chunk 0 2) x,
    fun x => chunk_of _ 1 1 (q_of harg7 harg5 (both x2 x5) (both x0 x3) 1 1 (in_rows 1) (in_rows 1)) (in_chunk 1 1) x,
    fun x => chunk_of _ 0 1 (q_of harg4 harg2 (both x2 x5) (both x0 x3) 0 1 (in_rows 1) (in_rows 1)) (in_chunk 0 1) x,
    fun x => chunk_of _ 1 0 (q_of harg7 harg5 (both x2 x5) (both x0 x3) 1 0 (in_rows 0) (in_rows 0)) (in_chunk 1 0) x,
    fun x => chunk_of _ 0 0 (q_of harg4 harg2 (both x2 x5) (both x0 x3) 0 0 (in_rows 0) (in_rows 0)) (in_chunk 0 0) x, trivial⟩

theorem fill_k : View.PiecesOf (glueChunks (chunkK (both x2 x5))) (runA.sl.HS3_16 c arg4 harg4 arg7 harg7 x2 x5) :=
  ⟨fun x => chunk_of _ 1 7 (k_of harg7 (both x2 x5) 1 7 (in_rows 7)) (in_chunk 1 7) x,
    fun x => chunk_of _ 0 7 (k_of harg4 (both x2 x5) 0 7 (in_rows 7)) (in_chunk 0 7) x,
    fun x => chunk_of _ 1 6 (k_of harg7 (both x2 x5) 1 6 (in_rows 6)) (in_chunk 1 6) x,
    fun x => chunk_of _ 0 6 (k_of harg4 (both x2 x5) 0 6 (in_rows 6)) (in_chunk 0 6) x,
    fun x => chunk_of _ 1 5 (k_of harg7 (both x2 x5) 1 5 (in_rows 5)) (in_chunk 1 5) x,
    fun x => chunk_of _ 0 5 (k_of harg4 (both x2 x5) 0 5 (in_rows 5)) (in_chunk 0 5) x,
    fun x => chunk_of _ 1 4 (k_of harg7 (both x2 x5) 1 4 (in_rows 4)) (in_chunk 1 4) x,
    fun x => chunk_of _ 0 4 (k_of harg4 (both x2 x5) 0 4 (in_rows 4)) (in_chunk 0 4) x,
    fun x => chunk_of _ 1 3 (k_of harg7 (both x2 x5) 1 3 (in_rows 3)) (in_chunk 1 3) x,
    fun x => chunk_of _ 0 3 (k_of harg4 (both x2 x5) 0 3 (in_rows 3)) (in_chunk 0 3) x,
    fun x => chunk_of _ 1 2 (k_of harg7 (both x2 x5) 1 2 (in_rows 2)) (in_chunk 1 2) x,
    fun x => chunk_of _ 0 2 (k_of harg4 (both x2 x5) 0 2 (in_rows 2)) (in_chunk 0 2) x,
    fun x => chunk_of _ 1 1 (k_of harg7 (both x2 x5) 1 1 (in_rows 1)) (in_chunk 1 1) x,
    fun x => chunk_of _ 0 1 (k_of harg4 (both x2 x5) 0 1 (in_rows 1)) (in_chunk 0 1) x,
    fun x => chunk_of _ 1 0 (k_of harg7 (both x2 x5) 1 0 (in_rows 0)) (in_chunk 1 0) x,
    fun x => chunk_of _ 0 0 (k_of harg4 (both x2 x5) 0 0 (in_rows 0)) (in_chunk 0 0) x, trivial⟩

theorem fill_e : View.PiecesOf (glueChunks (chunkE (both x2 x5))) (runA.sl.HS4_16 c arg4 harg4 arg7 harg7 x2 x5) :=
  ⟨fun x => chunk_of _ 1 7 (e_of harg7 (both x2 x5) 1 7 (in_rows 7)) (in_chunk 1 7) x,
    fun x => chunk_of _ 0 7 (e_of harg4 (both x2 x5) 0 7 (in_rows 7)) (in_chunk 0 7) x,
    fun x => chunk_of _ 1 6 (e_of harg7 (both x2 x5) 1 6 (in_rows 6)) (in_chunk 1 6) x,
    fun x => chunk_of _ 0 6 (e_of harg4 (both x2 x5) 0 6 (in_rows 6)) (in_chunk 0 6) x,
    fun x => chunk_of _ 1 5 (e_of harg7 (both x2 x5) 1 5 (in_rows 5)) (in_chunk 1 5) x,
    fun x => chunk_of _ 0 5 (e_of harg4 (both x2 x5) 0 5 (in_rows 5)) (in_chunk 0 5) x,
    fun x => chunk_of _ 1 4 (e_of harg7 (both x2 x5) 1 4 (in_rows 4)) (in_chunk 1 4) x,
    fun x => chunk_of _ 0 4 (e_of harg4 (both x2 x5) 0 4 (in_rows 4)) (in_chunk 0 4) x,
    fun x => chunk_of _ 1 3 (e_of harg7 (both x2 x5) 1 3 (in_rows 3)) (in_chunk 1 3) x,
    fun x => chunk_of _ 0 3 (e_of harg4 (both x2 x5) 0 3 (in_rows 3)) (in_chunk 0 3) x,
    fun x => chunk_of _ 1 2 (e_of harg7 (both x2 x5) 1 2 (in_rows 2)) (in_chunk 1 2) x,
    fun x => chunk_of _ 0 2 (e_of harg4 (both x2 x5) 0 2 (in_rows 2)) (in_chunk 0 2) x,
    fun x => chunk_of _ 1 1 (e_of harg7 (both x2 x5) 1 1 (in_rows 1)) (in_chunk 1 1) x,
    fun x => chunk_of _ 0 1 (e_of harg4 (both x2 x5) 0 1 (in_rows 1)) (in_chunk 0 1) x,
    fun x => chunk_of _ 1 0 (e_of harg7 (both x2 x5) 1 0 (in_rows 0)) (in_chunk 1 0) x,
    fun x => chunk_of _ 0 0 (e_of harg4 (both x2 x5) 0 0 (in_rows 0)) (in_chunk 0 0) x, trivial⟩

theorem fill_d : View.PiecesOf (glueRows (chunkD (both x2 x5))) (runA.sl.HS5_16 c arg4 harg4 arg7 harg7 x2 x5) :=
  ⟨fun x => d_of harg7 (both x2 x5) 1 7 (in_rows 7) (in_row4 1 7) x,
    fun x => d_of harg4 (both x2 x5) 0 7 (in_rows 7) (in_row4 0 7) x,
    fun x => d_of harg7 (both x2 x5) 1 6 (in_rows 6) (in_row4 1 6) x,
    fun x => d_of harg4 (both x2 x5) 0 6 (in_rows 6) (in_row4 0 6) x,
    fun x => d_of harg7 (both x2 x5) 1 5 (in_rows 5) (in_row4 1 5) x,
    fun x => d_of harg4 (both x2 x5) 0 5 (in_rows 5) (in_row4 0 5) x,
    fun x => d_of harg7 (both x2 x5) 1 4 (in_rows 4) (in_row4 1 4) x,
    fun x => d_of harg4 (both x2 x5) 0 4 (in_rows 4) (in_row4 0 4) x,
    fun x => d_of harg7 (both x2 x5) 1 3 (in_rows 3) (in_row4 1 3) x,
    fun x => d_of harg4 (both x2 x5) 0 3 (in_rows 3) (in_row4 0 3) x,
    fun x => d_of harg7 (both x2 x5) 1 2 (in_rows 2) (in_row4 1 2) x,
    fun x => d_of harg4 (both x2 x5) 0 2 (in_rows 2) (in_row4 0 2) x,
    fun x => d_of harg7 (both x2 x5) 1 1 (in_rows 1) (in_row4 1 1) x,
    fun x => d_of harg4 (both x2 x5) 0 1 (in_rows 1) (in_row4 0 1) x,
    fun x => d_of harg7 (both x2 x5) 1 0 (in_rows 0) (in_row4 1 0) x,
    fun x => d_of harg4 (both x2 x5) 0 0 (in_rows 0) (in_row4 0 0) x, trivial⟩

theorem fill_meta : View.PiecesOf (glueStates (metaTile x6 x7)) (runA.sl.HS0_8 c arg8 harg8 arg9 harg9 x6 x7) :=
  ⟨fun x => meta_of harg8 harg9 x6 x7 7 (in_cols 7) in_all (in_state 7) x, fun x => meta_of harg8 harg9 x6 x7 6 (in_cols 6) in_all (in_state 6) x, fun x => meta_of harg8 harg9 x6 x7 5 (in_cols 5) in_all (in_state 5) x, fun x => meta_of harg8 harg9 x6 x7 4 (in_cols 4) in_all (in_state 4) x, fun x => meta_of harg8 harg9 x6 x7 3 (in_cols 3) in_all (in_state 3) x, fun x => meta_of harg8 harg9 x6 x7 2 (in_cols 2) in_all (in_state 2) x, fun x => meta_of harg8 harg9 x6 x7 1 (in_cols 1) in_all (in_state 1) x, fun x => meta_of harg8 harg9 x6 x7 0 (in_cols 0) in_all (in_state 0) x, trivial⟩

theorem fill_zero : View.PiecesOf (k0_pay6 : Vec F S8x128x128 .f32) (runA.sl.HS1_1 (F := F)) := ⟨fun x => rfl, trivial⟩

/-- Stores that cover a buffer and are blocks of `G` leave `G`. -/
theorem read_fill {sp : Space} {s : Shape} {e : EltTy} (v : View sig .tc sp s e) (f : v.ty.Contents (Elt F)) (G : s.Idx → Elt F e) (L : List (View.Piece (Elt F) s e))
    (hL : View.PiecesOf G L) (hc : ∀ y, ∃ p ∈ L, y ∈ p.1.set) : v.read (Elt F) (v.writes (Elt F) f L) = G := by
  rw [View.read_writes_eq_canon v f L hc]
  exact funext fun y => View.canon_apply_of_pieces G L hL.mem y (hc y)

theorem cover_q (y) : ∃ p ∈ runA.sl.HS2_16 c arg2 harg2 arg4 harg4 arg5 harg5 arg7 harg7 x0 x2 x3 x5, y ∈ p.1.set :=
  View.cover_of_tiledL (runA.sl.HS2_16 c arg2 harg2 arg4 harg4 arg5 harg5 arg7 harg7 x0 x2 x3 x5) S1x64x1024.size (by sl_kernel_rfl) y
theorem cover_k (y) : ∃ p ∈ runA.sl.HS3_16 c arg4 harg4 arg7 harg7 x2 x5, y ∈ p.1.set :=
  View.cover_of_tiledL (runA.sl.HS3_16 c arg4 harg4 arg7 harg7 x2 x5) S1x64x1024.size (by sl_kernel_rfl) y
theorem cover_e (y) : ∃ p ∈ runA.sl.HS4_16 c arg4 harg4 arg7 harg7 x2 x5, y ∈ p.1.set :=
  View.cover_of_tiledL (runA.sl.HS4_16 c arg4 harg4 arg7 harg7 x2 x5) S1x64x1024.size (by sl_kernel_rfl) y
theorem cover_d (y) : ∃ p ∈ runA.sl.HS5_16 c arg4 harg4 arg7 harg7 x2 x5, y ∈ p.1.set :=
  View.cover_of_tiledL (runA.sl.HS5_16 c arg4 harg4 arg7 harg7 x2 x5) S1x1x1x1024.size (by sl_kernel_rfl) y
theorem cover_meta (y) : ∃ p ∈ runA.sl.HS0_8 c arg8 harg8 arg9 harg9 x6 x7, y ∈ p.1.set :=
  View.cover_of_tiledL (runA.sl.HS0_8 c arg8 harg8 arg9 harg9 x6 x7) S1x128x128.size (by sl_kernel_rfl) y
theorem cover_zero (y) : ∃ p ∈ runA.sl.HS1_1 (F := F), y ∈ p.1.set :=
  View.cover_of_wholeMem (runA.sl.HS1_1 (F := F)) (by sl_whole_mem) y

end Buffers

/-! ## A point -/

section Point
variable (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .f32) (harg7 : arg7.IsWhole) (arg8 : Memref sig .tc .vmem S16x1024 .bf16) (harg8 : arg8.IsWhole) (arg9 : Memref sig .tc .vmem S16x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S8x128x128 .f32) (harg12 : arg12.IsWhole) (arg13 : Memref sig .tc .vmem S8x128x128 .f32) (harg13 : arg13.IsWhole) (arg14 : Memref sig .tc .vmem S2x512x1024 .bf16) (harg14 : arg14.IsWhole) (arg15 : Memref sig .tc .vmem S2x512x1024 .bf16) (harg15 : arg15.IsWhole) (arg16 : Memref sig .tc .vmem S2x512x1024 .bf16) (harg16 : arg16.IsWhole) (arg17 : Memref sig .tc .vmem S2x8x1x1024 .f32) (harg17 : arg17.IsWhole)
    (x0 : Vec F S512x1024 .bf16) (x1 : Vec F S512x1024 .bf16) (x2 : Vec F S512x1024 .f32) (x3 : Vec F S512x1024 .bf16) (x4 : Vec F S512x1024 .bf16) (x5 : Vec F S512x1024 .f32) (x6 : Vec F S16x1024 .bf16) (x7 : Vec F S16x1024 .f32)
  (f12 : BufTy.Contents (Elt F) arg12.view.ty) (f13 : BufTy.Contents (Elt F) arg13.view.ty) (s : Pair F)

theorem loop_left (h12 : arg12.view.read (Elt F) f12 = s.1) (h13 : arg13.view.read (Elt F) f13 = s.2) :
    arg12.view.read (Elt F) (arg12.view.writes (Elt F) f12 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay114 k0_pay115 (harg3.unread x1) (harg6.unread x4)
      (arg14.view.writes (Elt F) arg14.view.junk (runA.sl.HS2_16 c arg2 harg2 arg4 harg4 arg5 harg5 arg7 harg7 x0 x2 x3 x5))
      (arg15.view.writes (Elt F) arg15.view.junk (runA.sl.HS3_16 c arg4 harg4 arg7 harg7 x2 x5))
      (arg16.view.writes (Elt F) arg16.view.junk (runA.sl.HS4_16 c arg4 harg4 arg7 harg7 x2 x5))
      (arg17.view.writes (Elt F) arg17.view.junk (runA.sl.HS5_16 c arg4 harg4 arg7 harg7 x2 x5)) arg10.view.junk arg11.view.junk f12 f13 8).2.2.1) = (leftOf x0 x1 x2 x3 x4 x5 s).2.2.1
    ∧ arg13.view.read (Elt F) (arg13.view.writes (Elt F) f13 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay114 k0_pay115 (harg3.unread x1) (harg6.unread x4)
      (arg14.view.writes (Elt F) arg14.view.junk (runA.sl.HS2_16 c arg2 harg2 arg4 harg4 arg5 harg5 arg7 harg7 x0 x2 x3 x5))
      (arg15.view.writes (Elt F) arg15.view.junk (runA.sl.HS3_16 c arg4 harg4 arg7 harg7 x2 x5))
      (arg16.view.writes (Elt F) arg16.view.junk (runA.sl.HS4_16 c arg4 harg4 arg7 harg7 x2 x5))
      (arg17.view.writes (Elt F) arg17.view.junk (runA.sl.HS5_16 c arg4 harg4 arg7 harg7 x2 x5)) arg10.view.junk arg11.view.junk f12 f13 8).2.2.2) = (leftOf x0 x1 x2 x3 x4 x5 s).2.2.2
    ∧ View.PiecesOf (leftOf x0 x1 x2 x3 x4 x5 s).1 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay114 k0_pay115 (harg3.unread x1) (harg6.unread x4)
      (arg14.view.writes (Elt F) arg14.view.junk (runA.sl.HS2_16 c arg2 harg2 arg4 harg4 arg5 harg5 arg7 harg7 x0 x2 x3 x5))
      (arg15.view.writes (Elt F) arg15.view.junk (runA.sl.HS3_16 c arg4 harg4 arg7 harg7 x2 x5))
      (arg16.view.writes (Elt F) arg16.view.junk (runA.sl.HS4_16 c arg4 harg4 arg7 harg7 x2 x5))
      (arg17.view.writes (Elt F) arg17.view.junk (runA.sl.HS5_16 c arg4 harg4 arg7 harg7 x2 x5)) arg10.view.junk arg11.view.junk f12 f13 8).1
    ∧ View.PiecesOf (leftOf x0 x1 x2 x3 x4 x5 s).2.1 (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay114 k0_pay115 (harg3.unread x1) (harg6.unread x4)
      (arg14.view.writes (Elt F) arg14.view.junk (runA.sl.HS2_16 c arg2 harg2 arg4 harg4 arg5 harg5 arg7 harg7 x0 x2 x3 x5))
      (arg15.view.writes (Elt F) arg15.view.junk (runA.sl.HS3_16 c arg4 harg4 arg7 harg7 x2 x5))
      (arg16.view.writes (Elt F) arg16.view.junk (runA.sl.HS4_16 c arg4 harg4 arg7 harg7 x2 x5))
      (arg17.view.writes (Elt F) arg17.view.junk (runA.sl.HS5_16 c arg4 harg4 arg7 harg7 x2 x5)) arg10.view.junk arg11.view.junk f12 f13 8).2.1 :=
  loop_at Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay114 k0_pay115 (harg3.unread x1) (harg6.unread x4) _ _ _ _
    (harg3.read_unread x1) (harg6.read_unread x4)
    (read_fill _ _ _ _ (fill_q c arg2 harg2 arg4 harg4 arg5 harg5 arg7 harg7 x0 x3 x2 x5) (cover_q c arg2 harg2 arg4 harg4 arg5 harg5 arg7 harg7 x0 x3 x2 x5))
    (read_fill _ _ _ _ (fill_k c arg4 harg4 arg7 harg7 x2 x5) (cover_k c arg4 harg4 arg7 harg7 x2 x5))
    (read_fill _ _ _ _ (fill_e c arg4 harg4 arg7 harg7 x2 x5) (cover_e c arg4 harg4 arg7 harg7 x2 x5))
    (read_fill _ _ _ _ (fill_d c arg4 harg4 arg7 harg7 x2 x5) (cover_d c arg4 harg4 arg7 harg7 x2 x5))
    arg10.view.junk arg11.view.junk f12 f13 h12 h13 8 (Nat.le_refl 8)

end Point

/-- Covering stores that are blocks of `G` have `G` for their canonical contents. -/
theorem canon_fill {s : Shape} {e : EltTy} (G : s.Idx → Elt F e) (L : List (View.Piece (Elt F) s e)) (hL : View.PiecesOf G L) (hc : ∀ y, ∃ p ∈ L, y ∈ p.1.set) :
    View.canon L = G :=
  funext fun y => View.canon_apply_of_pieces G L hL.mem y (hc y)

/-- The canonical contents of covering stores over others are what a buffer reads after both. -/
theorem canon_over {sp : Space} {s : Shape} {e : EltTy} (v : View sig .tc sp s e) (f : v.ty.Contents (Elt F)) (L L' : List (View.Piece (Elt F) s e)) (Z : s.Idx → Elt F e)
    (hc : ∀ y, ∃ p ∈ L ++ L', y ∈ p.1.set) (h : v.read (Elt F) (v.writes (Elt F) (v.writes (Elt F) f L') L) = Z) : View.canon (L ++ L') = Z := by
  rw [← View.read_writes_eq_canon v f _ hc, View.writes_append]; exact h

variable (m : (ℓ : Loc nD τ sig) → Buf (Elt F) ℓ)

theorem outA_eq (c : Dev nD) (t : Fin cfg0.N) (h0 : t.val % 8 = 0) :
    outA m c t h0 = leftOf (X0_0 m c t) (X0_1 m c t) (iblk m c 2 t) (X0_3 m c t) (X0_4 m c t) (iblk m c 5 t) (firstOf (iblk m c 6 t) (iblk m c 7 t)) := by
  have L := loop_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (X0_0 m c t) (X0_1 m c t) (iblk m c 2 t) (X0_3 m c t) (X0_4 m c t) (iblk m c 5 t)
    (scM0_0.view.writes (Elt F) scM0_0.view.junk (runA.sl.HS0_8 c (ms0_6 t) (hs0_6 t) (ms0_7 t) (hs0_7 t) (iblk m c 6 t) (iblk m c 7 t)))
    (scM0_1.view.writes (Elt F) scM0_1.view.junk runA.sl.HS1_1) (firstOf (iblk m c 6 t) (iblk m c 7 t))
    (read_fill _ _ _ _ (fill_meta c _ _ _ _ _ _) (cover_meta c _ _ _ _ _ _)) (read_fill _ _ _ _ fill_zero cover_zero)
  have c0 := covA_0 m c t h0
  have c1 := covA_1 m c t h0
  have c2 := covA_2 m c t h0
  have c3 := covA_3 m c t h0
  exact Prod.ext (canon_fill _ _ L.2.2.1 c0) (Prod.ext (canon_fill _ _ L.2.2.2 c1) (Prod.ext (canon_over _ _ _ _ _ c2 L.1) (canon_over _ _ _ _ _ c3 L.2.1)))

theorem outB_eq (c : Dev nD) (t : Fin cfg0.N) (h0 : ¬t.val % 8 = 0) (s : Pair F) :
    outB m c t h0 s = leftOf (X0_0 m c t) (X0_1 m c t) (iblk m c 2 t) (X0_3 m c t) (X0_4 m c t) (iblk m c 5 t) s := by
  have L := loop_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) (X0_0 m c t) (X0_1 m c t) (iblk m c 2 t) (X0_3 m c t) (X0_4 m c t) (iblk m c 5 t)
    ((Memref.isWhole_whole _ : scM0_0.IsWhole).unread s.1) ((Memref.isWhole_whole _ : scM0_1.IsWhole).unread s.2) s (Memref.IsWhole.read_unread _ _) (Memref.IsWhole.read_unread _ _)
  have c0 := covB_0 m c t h0 s
  have c1 := covB_1 m c t h0 s
  have c2 := covB_2 m c t h0 s
  have c3 := covB_3 m c t h0 s
  exact Prod.ext (canon_fill _ _ L.2.2.1 c0) (Prod.ext (canon_fill _ _ L.2.2.2 c1)
    (Prod.ext ((View.read_writes_eq_canon _ _ _ c2).symm.trans L.1) ((View.read_writes_eq_canon _ _ _ c3).symm.trans L.2.1)))

end Cert.KernelIdeal.Scan

end
-- ==== Proof.ScanMath.lean ====
/- One head of the recurrence over one chunk of 64 tokens, over the extended reals. -/
module

public import Idealize.ShloMosaic.PureOps.Ideal

@[expose] public section

noncomputable section

namespace Cert.Chunk

open Idealize.ShloMosaic

/-- Sums of the logarithms up to a token. -/
def cum (l : Fin 64 → Fin 128 → EReal) (i : Fin 64) (d : Fin 128) : EReal := ∑ s, if s ≤ i then l s d else 0
/-- Decayed queries, and keys with the decay taken out or carried to the chunk's end. -/
def qdec (l q : Fin 64 → Fin 128 → EReal) (i : Fin 64) (d : Fin 128) : EReal := q i d * Ideal.exp (cum l i d)
def kinv (l : Fin 64 → Fin 128 → EReal) (i : Fin 64) (d : Fin 128) : EReal := (1 - Ideal.exp (l i d)) * Ideal.exp (-cum l i d)
def kend (l : Fin 64 → Fin 128 → EReal) (i : Fin 64) (d : Fin 128) : EReal := (1 - Ideal.exp (l i d)) * Ideal.exp (cum l 63 d - cum l i d)
/-- The state after the chunk. -/
def next (l v : Fin 64 → Fin 128 → EReal) (S : Fin 128 → Fin 128 → EReal) (d w : Fin 128) : EReal :=
  S d w * Ideal.exp (cum l 63 d) + ∑ s, v s w * kend l s d
/-- The chunk's output. -/
def out (l q v : Fin 64 → Fin 128 → EReal) (S : Fin 128 → Fin 128 → EReal) (i : Fin 64) (w : Fin 128) : EReal :=
  (∑ s, if s ≤ i then (∑ d, qdec l q i d * kinv l s d) * v s w else 0) + ∑ d, qdec l q i d * S d w

/-- A sum of numbers is a number. -/
theorem sum_real {ι : Type} (s : Finset ι) (f : ι → EReal) (h : ∀ i ∈ s, ∃ r : ℝ, f i = (r : EReal)) : ∃ r : ℝ, ∑ i ∈ s, f i = (r : EReal) := by
  classical
  induction s using Finset.induction_on with
  | empty => exact ⟨0, rfl⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

theorem cum_real (l : Fin 64 → Fin 128 → EReal) (h : ∀ s d, ∃ r : ℝ, l s d = (r : EReal)) (i : Fin 64) (d : Fin 128) : ∃ r : ℝ, cum l i d = (r : EReal) := by
  refine sum_real _ _ fun s _ => ?_
  by_cases hs : s ≤ i
  · rw [if_pos hs]; exact h s d
  · rw [if_neg hs]; exact ⟨0, rfl⟩

/-- The exponential of a difference of numbers. -/
theorem exp_sub (x y : EReal) (hx : ∃ r : ℝ, x = (r : EReal)) (hy : ∃ r : ℝ, y = (r : EReal)) : Ideal.exp (-y) * Ideal.exp x = Ideal.exp (x - y) := by
  obtain ⟨a, rfl⟩ := hx
  obtain ⟨b, rfl⟩ := hy
  rw [← EReal.coe_neg, ← EReal.coe_sub]
  show ((Real.exp (-b) : ℝ) : EReal) * ((Real.exp a : ℝ) : EReal) = ((Real.exp (a - b) : ℝ) : EReal)
  rw [← EReal.coe_mul, ← Real.exp_add]
  congr 2; ring

theorem kinv_end (l : Fin 64 → Fin 128 → EReal) (h : ∀ s d, ∃ r : ℝ, l s d = (r : EReal)) (i : Fin 64) (d : Fin 128) :
    kinv l i d * Ideal.exp (cum l 63 d) = kend l i d := by
  unfold kinv kend
  rw [mul_assoc, exp_sub _ _ (cum_real l h 63 d) (cum_real l h i d)]

/-- The states of a sequence of 64 chunks from `S`. -/
def stateN (l v : Fin 64 → Fin 64 → Fin 128 → EReal) (S : Fin 128 → Fin 128 → EReal) : ℕ → Fin 128 → Fin 128 → EReal
  | 0 => S
  | n + 1 => if h : n < 64 then next (l ⟨n, h⟩) (v ⟨n, h⟩) (stateN l v S n) else stateN l v S n

theorem stateN_step (l v : Fin 64 → Fin 64 → Fin 128 → EReal) (S : Fin 128 → Fin 128 → EReal) (n : Fin 64) :
    stateN l v S (n.val + 1) = next (l n) (v n) (stateN l v S n.val) := dif_pos n.isLt

/-! ## The whole arrays: queries and values side by side in `P`, logarithms of both directions in `LF`, the meta tokens' in `VM`, `LM` -/

/-- The row that holds token `s` of chunk `n` of batch row `b`, the chunks counted in a direction. -/
def time (d : Fin 2) (b : Fin 4) (n s : Fin 64) : Fin 16384 := match d with
  | 0 => ⟨4096 * b.val + (64 * n.val + s.val), by omega⟩
  | 1 => ⟨4096 * b.val + (4095 - (64 * n.val + s.val)), by omega⟩

/-- A head's place among 1024 columns. -/
abbrev col (h : Fin 8) (k : Fin 128) : Fin 1024 := ⟨128 * h.val + k.val, by omega⟩

section
variable (P : Fin 16384 → Fin 8704 → EReal) (LF : Fin 16384 → Fin 2048 → EReal) (VM LM : Fin 16 → Fin 1024 → EReal) (d : Fin 2) (b : Fin 4) (h : Fin 8)

def logs (n s : Fin 64) (k : Fin 128) : EReal := LF (time d b n s) ⟨1024 * d.val + (128 * h.val + k.val), by omega⟩
def queries (n s : Fin 64) (k : Fin 128) : EReal := P (time d b n s) ⟨128 * h.val + k.val, by omega⟩
def values (n s : Fin 64) (k : Fin 128) : EReal := P (time d b n s) ⟨1024 + (128 * h.val + k.val), by omega⟩

def metaSum (i : Fin 16) (j : Fin 1024) : EReal := ∑ s, if s ≤ i then LM s j else 0
def metaKey (i : Fin 16) (j : Fin 1024) : EReal := (1 - Ideal.exp (LM i j)) * Ideal.exp (metaSum LM 15 j - metaSum LM i j)
/-- The state a direction begins with. -/
def start (k w : Fin 128) : EReal := match d with
  | 0 => ∑ s, VM s (col h w) * metaKey LM s (col h k)
  | 1 => 0

/-- The state before chunk `n`. -/
def state (n : ℕ) : Fin 128 → Fin 128 → EReal := stateN (logs LF d b h) (values P d b h) (start VM LM d h) n

/-- The output at token `s` of chunk `n`. -/
def outAt (n s : Fin 64) (w : Fin 128) : EReal := out (logs LF d b h n) (queries P d b h n) (values P d b h n) (state P LF VM LM d b h n.val) s w

/-- The chunk and the token in it that a row holds. -/
def chunkOf (R : Fin 16384) : Fin 64 := match d with
  | 0 => ⟨R.val % 4096 / 64, by omega⟩
  | 1 => ⟨(4095 - R.val % 4096) / 64, by omega⟩
def tokenOf (R : Fin 16384) : Fin 64 := match d with
  | 0 => ⟨R.val % 4096 % 64, by omega⟩
  | 1 => ⟨(4095 - R.val % 4096) % 64, by omega⟩

/-- A direction's outputs as one array. -/
def scanned (R : Fin 16384) (C : Fin 1024) : EReal :=
  outAt P LF VM LM d ⟨R.val / 4096, by omega⟩ ⟨C.val / 128, by omega⟩ (chunkOf d R) (tokenOf d R) ⟨C.val % 128, by omega⟩

theorem scanned_at (n s : Fin 64) (w : Fin 128) : scanned P LF VM LM d (time d b n s) (col h w) = outAt P LF VM LM d b h n s w := by
  have eb : (⟨(time d b n s).val / 4096, by omega⟩ : Fin 4) = b := Fin.ext (by match d with | 0 => (show (4096 * b.val + (64 * n.val + s.val)) / 4096 = b.val; omega) | 1 => (show (4096 * b.val + (4095 - (64 * n.val + s.val))) / 4096 = b.val; omega))
  have eh : (⟨(col h w).val / 128, by omega⟩ : Fin 8) = h := Fin.ext (by show (128 * h.val + w.val) / 128 = h.val; omega)
  have ew : (⟨(col h w).val % 128, by omega⟩ : Fin 128) = w := Fin.ext (by show (128 * h.val + w.val) % 128 = w.val; omega)
  have en : chunkOf d (time d b n s) = n := Fin.ext (by match d with | 0 => (show (4096 * b.val + (64 * n.val + s.val)) % 4096 / 64 = n.val; omega) | 1 => (show (4095 - (4096 * b.val + (4095 - (64 * n.val + s.val))) % 4096) / 64 = n.val; omega))
  have es : tokenOf d (time d b n s) = s := Fin.ext (by match d with | 0 => (show (4096 * b.val + (64 * n.val + s.val)) % 4096 % 64 = s.val; omega) | 1 => (show (4095 - (4096 * b.val + (4095 - (64 * n.val + s.val))) % 4096) % 64 = s.val; omega))
  unfold scanned
  rw [eb, eh, ew, en, es]

end

end Cert.Chunk

end
-- ==== Proof.ScanStep.lean ====
/- What the recurrence computes for one chunk of one head, element by element over the extended reals. -/
module

public import proofs.«01_k».proof.Proof.ScanBlock
public import proofs.«01_k».proof.Proof.ScanMath
public import Idealize.ShloMosaic.Lib.Pipeline.ValueKit
public import Idealize.ShloMosaic.Lib.Pointwise

@[expose] public section

set_option maxRecDepth 16384

noncomputable section

namespace Cert.KernelIdeal.Scan

open Cert.KernelIdeal Cert.KernelIdeal.Gen Idealize.ShloMosaic Idealize.ShloMosaic.TcCoe Idealize.SL.Sem

/-- A token's place in its chunk, read in a direction. -/
def turn (d : Fin 2) (i : Fin 64) : Fin 64 := match d with | 0 => i | 1 => i.rev
/-- A chunk's place in its block, read in a direction. -/
def turn8 (d : Fin 2) (c : Fin 8) : Fin 8 := match d with | 0 => c | 1 => c.rev

/-- A block's row and column of a chunk and a head. -/
abbrev rowAt (c : Fin 8) (s : Fin 64) : Fin 512 := ⟨64 * c.val + s.val, by omega⟩
abbrev colAt (h : Fin 8) (k : Fin 128) : Fin 1024 := ⟨128 * h.val + k.val, by omega⟩

/-- One head of one chunk of a block, read in a direction. -/
def cell {e : FTy} (x : FVec Ideal S512x1024 e) (d : Fin 2) (c h : Fin 8) (s : Fin 64) (k : Fin 128) : EReal := x (ix2 (rowAt c (turn d s)) (colAt h k))

/-- One head's state, keys first. -/
def headState (S : FVec Ideal S8x128x128 .f32) (h : Fin 8) (k w : Fin 128) : EReal := S (ix3 h w k)

/-- Numbers everywhere. -/
def Real' {s : Shape} (x : FVec Ideal s .f32) : Prop := ∀ y, ∃ r : ℝ, x y = (r : EReal)

theorem sub_self_real {x : EReal} (h : ∃ r : ℝ, x = (r : EReal)) : x - x = 0 := by
  obtain ⟨r, rfl⟩ := h
  rw [← EReal.coe_sub, sub_self]; rfl

/-! ## The masks -/

theorem sge64 : ∀ i s : Fin 64, IntOp.cmpi CmpIPredicate.sge (BitVec.ofNat 32 i.val) (BitVec.ofNat 32 s.val) = if s ≤ i then 1#1 else 0#1 := by decide +kernel
theorem sle64 : ∀ i s : Fin 64, IntOp.cmpi CmpIPredicate.sle (BitVec.ofNat 32 i.val) (BitVec.ofNat 32 s.val) = if i ≤ s then 1#1 else 0#1 := by decide +kernel
theorem sge16 : ∀ i s : Fin 16, IntOp.cmpi CmpIPredicate.sge (BitVec.ofNat 32 i.val) (BitVec.ofNat 32 s.val) = if s ≤ i then 1#1 else 0#1 := by decide +kernel

theorem select_if {p : Prop} [Decidable p] {b : BitVec 1} (h : b = if p then 1#1 else 0#1) (x y : EReal) : Scalar.select b x y = if p then x else y := by
  subst h
  by_cases hp : p
  · rw [if_pos hp, if_pos hp]; rfl
  · rw [if_neg hp, if_neg hp]; rfl

theorem turn_le (d : Fin 2) (i s : Fin 64) : (match d with | 0 => turn d s ≤ turn d i | 1 => turn d i ≤ turn d s) ↔ s ≤ i := by
  match d with
  | 0 => exact Iff.rfl
  | 1 => exact Fin.rev_le_rev

theorem turn_sum (d : Fin 2) (f : Fin 64 → EReal) : ∑ s, f (turn d s) = ∑ s, f s := by
  match d with
  | 0 => rfl
  | 1 => exact Equiv.sum_comp Fin.revPerm f

/-- A direction's mask between two of its tokens. -/
theorem mask_at (d : Fin 2) (i s : Fin 64) (x y : EReal) : Scalar.select (maskOf d (ix2 (turn d i) (turn d s))) x y = if s ≤ i then x else y := by
  match d with
  | 0 =>
    have h : maskOf 0 (ix2 i s) = IntOp.cmpi CmpIPredicate.sge (BitVec.ofNat 32 i.val) (BitVec.ofNat 32 s.val) := by
      unfold maskOf k0_pay114
      pointwise
    exact select_if (h.trans (sge64 i s)) x y
  | 1 =>
    have h : maskOf 1 (ix2 i.rev s.rev) = IntOp.cmpi CmpIPredicate.sle (BitVec.ofNat 32 i.rev.val) (BitVec.ofNat 32 s.rev.val) := by
      unfold maskOf k0_pay115
      pointwise
    exact (select_if (h.trans (sle64 i.rev s.rev)) x y).trans (if_congr Fin.rev_le_rev rfl rfl)

/-! ## A chunk's sums -/

theorem sums_at (d : Fin 2) (L : FVec Ideal S64x1024 .f32) (hL : Real' L) (i : Fin 64) (j : Fin 1024) :
    k0_pay128 (tri d) L (ix2 (turn d i) j) = ∑ s, if s ≤ i then L (ix2 (turn d s) j) else 0 := by
  have key : k0_pay128 (tri d) L (ix2 (turn d i) j)
      = ∑ s, Scalar.select (maskOf d (ix2 (turn d i) s)) (L (ix2 s j)) 0 + ∑ s, Scalar.select (maskOf d (ix2 (turn d i) s)) (L (ix2 s j) - L (ix2 s j)) 0 := by
    match d with
    | 0 => unfold k0_pay128 tri k0_pay116 maskOf; pointwise
    | 1 => unfold k0_pay128 tri k0_pay117 maskOf; pointwise
  rw [key, ← turn_sum d, ← turn_sum d (fun s => Scalar.select (maskOf d (ix2 (turn d i) s)) (L (ix2 s j) - L (ix2 s j)) 0)]
  have z : ∑ s, Scalar.select (maskOf d (ix2 (turn d i) (turn d s))) (L (ix2 (turn d s) j) - L (ix2 (turn d s) j)) 0 = 0 :=
    Finset.sum_eq_zero fun s _ => by rw [mask_at, sub_self_real (hL _), ite_self]
  rw [z, add_zero]
  exact Finset.sum_congr rfl fun s _ => mask_at d i s _ _

theorem forward_sums {F : FTy → Type} [FloatOps F] (L : Vec F S64x1024 .f32) : k0_pay120 L = k0_pay128 k0_pay116 L := rfl

section
variable (l : Fin 2 → FVec Ideal S512x1024 .f32) (q : Fin 2 → FVec Ideal S512x1024 .bf16) (hl : ∀ d, Real' (l d)) (d : Fin 2) (c h : Fin 8)
include hl

theorem cum_at (i : Fin 64) (k : Fin 128) : k0_pay128 (tri d) (rowsOf (F := Ideal) (l d) c) (ix2 (turn d i) (colAt h k)) = Chunk.cum (cell (l d) d c h) i k :=
  sums_at d (rowsOf (F := Ideal) (e := .f32) (l d) c) (fun y => hl d _) i (colAt h k)

theorem decay_at (k : Fin 128) : decay d (rowsOf (F := Ideal) (l d) c) (ix2 0 (colAt h k)) = Ideal.exp (Chunk.cum (cell (l d) d c h) 63 k) := by
  rw [← cum_at l hl]
  match d with
  | 0 =>
    unfold decay k0_pay122
    rw [forward_sums]
    pointwise
    rfl
  | 1 =>
    unfold decay k0_pay130
    pointwise
    rfl

theorem chunkQ_at (i : Fin 64) (k : Fin 128) : chunkQ (F := Ideal) l q d c (ix3 0 (turn d i) (colAt h k)) = Chunk.qdec (cell (l d) d c h) (cell (q d) d c h) i k := by
  unfold chunkQ Chunk.qdec
  rw [← cum_at l hl]
  unfold k0_pay132 k0_pay131
  pointwise
  rfl

theorem chunkK_at (i : Fin 64) (k : Fin 128) : chunkK (F := Ideal) l d c (ix3 0 (turn d i) (colAt h k)) = Chunk.kinv (cell (l d) d c h) i k := by
  unfold chunkK Chunk.kinv
  rw [← cum_at l hl]
  unfold k0_pay133 k0_pay129
  pointwise
  rw [zero_sub]
  rfl

theorem chunkE_at (i : Fin 64) (k : Fin 128) : chunkE (F := Ideal) l d c (ix3 0 (turn d i) (colAt h k)) = Chunk.kend (cell (l d) d c h) i k := by
  rw [← Chunk.kinv_end (cell (l d) d c h) (fun s k => hl d _), ← decay_at l hl, ← chunkK_at l hl]
  unfold chunkE chunkK k0_pay134 k0_pay133
  pointwise

theorem chunkD_at (k : Fin 128) : chunkD (F := Ideal) l d c (ix4 0 0 0 (colAt h k)) = Ideal.exp (Chunk.cum (cell (l d) d c h) 63 k) := by
  rw [← decay_at l hl]
  unfold chunkD k0_pay127
  pointwise

end

/-! ## Reading the glued buffers -/

theorem glued_at {e : EltTy} (T : Fin 2 → Fin 8 → Vec Ideal S1x64x1024 e) (d : Fin 2) (c h : Fin 8) (i : Fin 64) (k : Fin 128) :
    head3 (glueChunks T) d c h (ix3 0 i k) = T d c (ix3 0 i (colAt h k)) := by
  show T d ⟨(64 * c.val + i.val) / 64, _⟩ (ix3 0 ⟨(64 * c.val + i.val) % 64, _⟩ (colAt h k)) = _
  have e0 : (⟨(64 * c.val + i.val) / 64, by omega⟩ : Fin 8) = c := Fin.ext (by show (64 * c.val + i.val) / 64 = c.val; omega)
  have e1 : (⟨(64 * c.val + i.val) % 64, by omega⟩ : Fin 64) = i := Fin.ext (by show (64 * c.val + i.val) % 64 = i.val; omega)
  exact congr (congrArg (T d) e0) (congrArg (fun r => ix3 0 r (colAt h k)) e1)

/-! ## The loop -/

section
variable (l : Fin 2 → FVec Ideal S512x1024 .f32) (q : Fin 2 → FVec Ideal S512x1024 .bf16) (hl : ∀ d, Real' (l d)) (d : Fin 2)
  (v : FVec Ideal S512x1024 .bf16) (S : FVec Ideal S8x128x128 .f32) (c h : Fin 8)
include hl

theorem state_at : headState (glueStates (F := Ideal) (stateTile d c (glueRows (chunkD (F := Ideal) l)) v S (glueChunks (chunkE (F := Ideal) l)))) h = Chunk.next (cell (l d) d c h) (cell v d c h) (headState S h) := by
  funext k w
  show newState h (row4 (glueRows (chunkD (F := Ideal) l)) d c) (headOf v c h) (stateOf S h) (head3 (glueChunks (chunkE (F := Ideal) l)) d c h) (ix3 0 w k) = _
  unfold newState Chunk.next
  rw [← chunkD_at l hl]
  pointwise
  refine congrArg (S (ix3 h w k) * chunkD (F := Ideal) l d c (ix4 0 0 0 (colAt h k)) + ·) ?_
  rw [← turn_sum d]
  refine Finset.sum_congr rfl fun s _ => ?_
  rw [glued_at, chunkE_at l hl]; rfl

theorem out_at (i : Fin 64) (w : Fin 128) :
    outTile (F := Ideal) (maskOf d) d v (glueChunks (chunkQ (F := Ideal) l q)) (glueChunks (chunkK (F := Ideal) l)) S c h (ix2 (turn d i) w)
      = Chunk.out (cell (l d) d c h) (cell (q d) d c h) (cell v d c h) (headState S h) i w := by
  unfold outTile newOut Chunk.out
  pointwise
  refine congrArg₂ (· + ·) ?_ (Finset.sum_congr rfl fun k _ => ?_)
  · rw [← turn_sum d]
    refine Finset.sum_congr rfl fun s _ => ?_
    rw [mask_at]
    refine if_congr Iff.rfl (congrArg₂ (· * ·) (Finset.sum_congr rfl fun k _ => ?_) rfl) rfl
    rw [glued_at, glued_at, chunkQ_at l q hl, chunkK_at l hl]
  · rw [glued_at, chunkQ_at l q hl]; rfl

end

end Cert.KernelIdeal.Scan

end
-- ==== Proof.ScanGrid.lean ====
/- The recurrence over the grid: four batch rows of eight blocks, the backward direction's blocks from the last to the first. -/
module

public import proofs.«01_k».proof.Proof.ScanStep

@[expose] public section

set_option maxRecDepth 16384

noncomputable section

namespace Cert.KernelIdeal.Scan

open Cert.KernelIdeal Cert.KernelIdeal.Gen Idealize.ShloMosaic Idealize.ShloMosaic.TcCoe Idealize.SL.Sem

variable (m : (ℓ : Loc nD τ sig) → Buf (Elt Ideal) ℓ) (c : Dev nD)

/-! ## The arrays and their blocks -/

/-- The arrays, as launched, by row and column. -/
abbrev arrP (R : Fin 16384) (C : Fin 8704) : EReal := (m ((c : Thread nD τ).loc main_arg0) : FVec Ideal S16384x8704 .bf16) (ix2 R C)
abbrev arrLF (R : Fin 16384) (C : Fin 2048) : EReal := (m ((c : Thread nD τ).loc main_arg1) : FVec Ideal S16384x2048 .f32) (ix2 R C)
abbrev arrVM (R : Fin 16) (C : Fin 1024) : EReal := (m ((c : Thread nD τ).loc main_arg2) : FVec Ideal S16x1024 .bf16) (ix2 R C)
abbrev arrLM (R : Fin 16) (C : Fin 1024) : EReal := (m ((c : Thread nD τ).loc main_arg3) : FVec Ideal S16x1024 .f32) (ix2 R C)

theorem idx : ∀ t : Fin cfg0.N, win0_0.index t = ![t.val, 0] ∧ win0_1.index t = ![t.val, 1] ∧ win0_2.index t = ![t.val, 0]
    ∧ win0_3.index t = ![8 * (t.val / 8) + (7 - t.val % 8), 0] ∧ win0_4.index t = ![8 * (t.val / 8) + (7 - t.val % 8), 1] ∧ win0_5.index t = ![8 * (t.val / 8) + (7 - t.val % 8), 1]
    ∧ win0_6.index t = ![0, 0] ∧ win0_7.index t = ![0, 0] ∧ win0_8.index t = ![t.val, 0] ∧ win0_9.index t = ![8 * (t.val / 8) + (7 - t.val % 8), 0] := by
  decide +kernel

theorem t_lt (t : Fin cfg0.N) : t.val < 32 := by have : cfg0.N = 32 := N_0; omega

/-- The block a direction works on at point `t`. -/
def blkOf (d : Fin 2) (t : Fin cfg0.N) : Fin 32 := match d with
  | 0 => ⟨t.val, t_lt t⟩
  | 1 => ⟨8 * (t.val / 8) + (7 - t.val % 8), by have := t_lt t; omega⟩

/-- The row of the arrays that is row `r` of that block. -/
def rowOf (d : Fin 2) (t : Fin cfg0.N) (r : Fin 512) : Fin 16384 := ⟨512 * (blkOf d t).val + r.val, by omega⟩

/-- The batch row of point `t`, and the chunk of the direction that is chunk `j` of its block. -/
def batch (t : Fin cfg0.N) : Fin 4 := ⟨t.val / 8, by have := t_lt t; omega⟩
def chunkAt (t : Fin cfg0.N) (j : Fin 8) : Fin 64 := ⟨8 * (t.val % 8) + j.val, by omega⟩

theorem row_time (d : Fin 2) (t : Fin cfg0.N) (j : Fin 8) (s : Fin 64) : rowOf d t (rowAt j (turn d s)) = Chunk.time d (batch t) (chunkAt t (turn8 d j)) s := by
  have := t_lt t
  match d with
  | 0 =>
    refine Fin.ext ?_
    show 512 * t.val + (64 * j.val + s.val) = 4096 * (t.val / 8) + (64 * (8 * (t.val % 8) + j.val) + s.val)
    omega
  | 1 =>
    refine Fin.ext ?_
    show 512 * (8 * (t.val / 8) + (7 - t.val % 8)) + (64 * j.val + s.rev.val) = 4096 * (t.val / 8) + (4095 - (64 * (8 * (t.val % 8) + j.rev.val) + s.val))
    rw [Fin.val_rev, Fin.val_rev]
    omega

theorem blk_0 (t : Fin cfg0.N) (r : Fin 512) (k : Fin 1024) : X0_0 m c t (ix2 r k) = arrP m c (rowOf 0 t r) ⟨k.val, by omega⟩ := by
  unfold X0_0
  refine (dif_pos (moved0_0 t (ix2 r k))).trans (congrArg (m ((c : Thread nD τ).loc main_arg0) : FVec Ideal S16384x8704 .bf16) ?_)
  unfold rowOf blkOf
  blk_ext [idx t]
theorem blk_1 (t : Fin cfg0.N) (r : Fin 512) (k : Fin 1024) : X0_1 m c t (ix2 r k) = arrP m c (rowOf 0 t r) ⟨1024 + k.val, by omega⟩ := by
  unfold X0_1
  refine (dif_pos (moved0_1 t (ix2 r k))).trans (congrArg (m ((c : Thread nD τ).loc main_arg0) : FVec Ideal S16384x8704 .bf16) ?_)
  unfold rowOf blkOf
  blk_ext [idx t]
theorem blk_2 (t : Fin cfg0.N) (r : Fin 512) (k : Fin 1024) : iblk m c 2 t (ix2 r k) = arrLF m c (rowOf 0 t r) ⟨k.val, by omega⟩ := by
  unfold rowOf blkOf
  blk_ext [iblk, V, idx t]
theorem blk_3 (t : Fin cfg0.N) (r : Fin 512) (k : Fin 1024) : X0_3 m c t (ix2 r k) = arrP m c (rowOf 1 t r) ⟨k.val, by omega⟩ := by
  unfold X0_3
  refine (dif_pos (moved0_3 t (ix2 r k))).trans (congrArg (m ((c : Thread nD τ).loc main_arg0) : FVec Ideal S16384x8704 .bf16) ?_)
  unfold rowOf blkOf
  blk_ext [idx t]
theorem blk_4 (t : Fin cfg0.N) (r : Fin 512) (k : Fin 1024) : X0_4 m c t (ix2 r k) = arrP m c (rowOf 1 t r) ⟨1024 + k.val, by omega⟩ := by
  unfold X0_4
  refine (dif_pos (moved0_4 t (ix2 r k))).trans (congrArg (m ((c : Thread nD τ).loc main_arg0) : FVec Ideal S16384x8704 .bf16) ?_)
  unfold rowOf blkOf
  blk_ext [idx t]
theorem blk_5 (t : Fin cfg0.N) (r : Fin 512) (k : Fin 1024) : iblk m c 5 t (ix2 r k) = arrLF m c (rowOf 1 t r) ⟨1024 + k.val, by omega⟩ := by
  unfold rowOf blkOf
  blk_ext [iblk, V, idx t]
theorem blk_6 (t : Fin cfg0.N) (r : Fin 16) (k : Fin 1024) : iblk m c 6 t (ix2 r k) = arrVM m c r k := by
  blk_ext [iblk, V, idx t]
theorem blk_7 (t : Fin cfg0.N) (r : Fin 16) (k : Fin 1024) : iblk m c 7 t (ix2 r k) = arrLM m c r k := by
  blk_ext [iblk, V, idx t]

/-- A point's logarithms, queries and values, by direction. -/
abbrev lAt (t : Fin cfg0.N) : Fin 2 → FVec Ideal S512x1024 .f32 := both (F := Ideal) (iblk m c 2 t) (iblk m c 5 t)
abbrev qAt (t : Fin cfg0.N) : Fin 2 → FVec Ideal S512x1024 .bf16 := both (F := Ideal) (X0_0 m c t) (X0_3 m c t)
abbrev vAt (t : Fin cfg0.N) : Fin 2 → FVec Ideal S512x1024 .bf16 := both (F := Ideal) (X0_1 m c t) (X0_4 m c t)

theorem cell_l (d : Fin 2) (t : Fin cfg0.N) (j h : Fin 8) : cell (lAt m c t d) d j h = Chunk.logs (arrLF m c) d (batch t) h (chunkAt t (turn8 d j)) := by
  funext s k
  unfold cell Chunk.logs
  rw [← row_time]
  match d with
  | 0 => exact (blk_2 m c t _ _).trans (congrArg (arrLF m c _) (Fin.ext (by show 128 * h.val + k.val = 1024 * 0 + (128 * h.val + k.val); omega)))
  | 1 => exact blk_5 m c t _ _
theorem cell_q (d : Fin 2) (t : Fin cfg0.N) (j h : Fin 8) : cell (qAt m c t d) d j h = Chunk.queries (arrP m c) d (batch t) h (chunkAt t (turn8 d j)) := by
  funext s k
  unfold cell Chunk.queries
  rw [← row_time]
  match d with
  | 0 => exact blk_0 m c t _ _
  | 1 => exact blk_3 m c t _ _
theorem cell_v (d : Fin 2) (t : Fin cfg0.N) (j h : Fin 8) : cell (vAt m c t d) d j h = Chunk.values (arrP m c) d (batch t) h (chunkAt t (turn8 d j)) := by
  funext s k
  unfold cell Chunk.values
  rw [← row_time]
  match d with
  | 0 => exact blk_1 m c t _ _
  | 1 => exact blk_4 m c t _ _

/-! ## The states -/

/-- The logarithms are numbers. -/
structure Finite : Prop where
  lf : ∀ R C, ∃ r : ℝ, arrLF m c R C = (r : EReal)
  lm : ∀ R C, ∃ r : ℝ, arrLM m c R C = (r : EReal)

theorem real_l (H : Finite m c) (t : Fin cfg0.N) (d : Fin 2) : Real' (lAt m c t d) := by
  intro y
  obtain ⟨r, k, rfl⟩ : ∃ (r : Fin 512) (k : Fin 1024), y = ix2 r k := ⟨y 0, y 1, eq_ix2 y⟩
  match d with
  | 0 => exact (congrArg (fun x : EReal => ∃ r : ℝ, x = (r : EReal)) (blk_2 m c t r k)).mpr (H.lf _ _)
  | 1 => exact (congrArg (fun x : EReal => ∃ r : ℝ, x = (r : EReal)) (blk_5 m c t r k)).mpr (H.lf _ _)

theorem turn8_turn8 (d : Fin 2) (j : Fin 8) : turn8 d (turn8 d j) = j := by
  match d with
  | 0 => rfl
  | 1 => exact Fin.rev_rev j

abbrev seqState (d : Fin 2) (t : Fin cfg0.N) (h : Fin 8) (n : ℕ) := Chunk.state (arrP m c) (arrLF m c) (arrVM m c) (arrLM m c) d (batch t) h n

/-- The states during a point. -/
theorem states_at (H : Finite m c) (d : Fin 2) (t : Fin cfg0.N) (ord : Fin 8 → Fin 8) (ho : ∀ j, ord j = turn8 d j) (S : FVec Ideal S8x128x128 .f32)
    (hS : ∀ h, headState S h = seqState m c d t h (8 * (t.val % 8))) : ∀ n, n ≤ 8 → ∀ h,
    headState (statesAt (F := Ideal) d (glueRows (chunkD (lAt m c t))) (vAt m c t d) (glueChunks (chunkE (lAt m c t))) ord S n) h = seqState m c d t h (8 * (t.val % 8) + n)
  | 0, _, h => hS h
  | n + 1, hn, h => by
    have e : statesAt (F := Ideal) d (glueRows (chunkD (lAt m c t))) (vAt m c t d) (glueChunks (chunkE (lAt m c t))) ord S (n + 1) = _ := dif_pos (show n < 8 by omega)
    rw [e, state_at (lAt m c t) (real_l m c H t), states_at H d t ord ho S hS n (by omega) h, cell_l, cell_v, ho, turn8_turn8]
    exact (Chunk.stateN_step _ _ _ (chunkAt t ⟨n, by omega⟩)).symm

/-- The outputs of a point. -/
theorem outs_at (H : Finite m c) (d : Fin 2) (t : Fin cfg0.N) (ord : Fin 8 → Fin 8) (ho : ∀ j, ord j = turn8 d j) (S : FVec Ideal S8x128x128 .f32)
    (hS : ∀ h, headState S h = seqState m c d t h (8 * (t.val % 8))) (r : Fin 512) (C : Fin 1024) :
    glueOut (F := Ideal) (outsAt (maskOf d) d (glueRows (chunkD (lAt m c t))) (vAt m c t d) (glueChunks (chunkQ (lAt m c t) (qAt m c t))) (glueChunks (chunkK (lAt m c t)))
      (glueChunks (chunkE (lAt m c t))) ord S) (ix2 r C) = Chunk.scanned (arrP m c) (arrLF m c) (arrVM m c) (arrLM m c) d (rowOf d t r) C := by
  obtain ⟨j, s, rfl⟩ : ∃ (j : Fin 8) (s : Fin 64), r = rowAt j (turn d s) := by
    refine ⟨⟨r.val / 64, by omega⟩, turn d ⟨r.val % 64, by omega⟩, Fin.ext ?_⟩
    match d with
    | 0 => show r.val = 64 * (r.val / 64) + r.val % 64; omega
    | 1 =>
      show r.val = 64 * (r.val / 64) + (Fin.rev (Fin.rev (⟨r.val % 64, _⟩ : Fin 64))).val
      rw [Fin.rev_rev]
      show r.val = 64 * (r.val / 64) + r.val % 64
      omega
  obtain ⟨h, w, rfl⟩ : ∃ (h : Fin 8) (w : Fin 128), C = colAt h w := ⟨⟨C.val / 128, by omega⟩, ⟨C.val % 128, by omega⟩, Fin.ext (by show C.val = 128 * (C.val / 128) + C.val % 128; omega)⟩
  generalize hT : outsAt (F := Ideal) (maskOf d) d (glueRows (chunkD (lAt m c t))) (vAt m c t d) (glueChunks (chunkQ (lAt m c t) (qAt m c t))) (glueChunks (chunkK (lAt m c t)))
      (glueChunks (chunkE (lAt m c t))) ord S = T
  have e : glueOut (F := Ideal) T (ix2 (rowAt j (turn d s)) (colAt h w)) = T j h (ix2 (turn d s) w) := by
    have e0 : (⟨(64 * j.val + (turn d s).val) / 64, by omega⟩ : Fin 8) = j := Fin.ext (by show (64 * j.val + (turn d s).val) / 64 = j.val; omega)
    have e1 : (⟨(64 * j.val + (turn d s).val) % 64, by omega⟩ : Fin 64) = turn d s := Fin.ext (by show (64 * j.val + (turn d s).val) % 64 = (turn d s).val; omega)
    have e2 : (⟨(128 * h.val + w.val) / 128, by omega⟩ : Fin 8) = h := Fin.ext (by show (128 * h.val + w.val) / 128 = h.val; omega)
    have e3 : (⟨(128 * h.val + w.val) % 128, by omega⟩ : Fin 128) = w := Fin.ext (by show (128 * h.val + w.val) % 128 = w.val; omega)
    exact congr (congrArg₂ T e0 e2) (congrArg₂ ix2 e1 e3)
  rw [e, ← hT, row_time]
  refine Eq.trans ?_ (Chunk.scanned_at (arrP m c) (arrLF m c) (arrVM m c) (arrLM m c) d (batch t) h (chunkAt t (turn8 d j)) s w).symm
  unfold outsAt
  rw [out_at (lAt m c t) (qAt m c t) (real_l m c H t), states_at m c H d t ord ho S hS _ (by omega) h, cell_l, cell_q, cell_v, ho]
  rfl

/-- The states a batch row begins with. -/
theorem first_at (H : Finite m c) (t : Fin cfg0.N) (h : Fin 8) :
    headState (firstOf (F := Ideal) (iblk m c 6 t) (iblk m c 7 t)).1 h = Chunk.start (arrVM m c) (arrLM m c) 0 h
    ∧ headState (firstOf (F := Ideal) (iblk m c 6 t) (iblk m c 7 t)).2 h = Chunk.start (arrVM m c) (arrLM m c) 1 h := by
  refine ⟨?_, ?_⟩
  · funext k w
    have key : ∀ (i : Fin 16) (j : Fin 1024), k0_pay7 (F := Ideal) (iblk m c 7 t) (ix2 i j) = Chunk.metaKey (arrLM m c) i j := by
      intro i j
      have sums : ∀ i : Fin 16, (∑ x, Scalar.select (IntOp.cmpi CmpIPredicate.sge (BitVec.ofNat 32 i.val) (BitVec.ofNat 32 x.val)) (arrLM m c x j) 0)
          + (∑ x, Scalar.select (IntOp.cmpi CmpIPredicate.sge (BitVec.ofNat 32 i.val) (BitVec.ofNat 32 x.val)) (arrLM m c x j - arrLM m c x j) 0) = Chunk.metaSum (arrLM m c) i j := by
        intro i
        have z : (∑ x, Scalar.select (IntOp.cmpi CmpIPredicate.sge (BitVec.ofNat 32 i.val) (BitVec.ofNat 32 x.val)) (arrLM m c x j - arrLM m c x j) (0 : EReal)) = 0 :=
          Finset.sum_eq_zero fun x _ => by rw [select_if (sge16 i x), sub_self_real (H.lm x j), ite_self]
        rw [z, add_zero]
        exact Finset.sum_congr rfl fun x _ => select_if (sge16 i x) _ _
      unfold Chunk.metaKey
      rw [← sums 15, ← sums i]
      unfold k0_pay7
      pointwise
      simp only [blk_7]
    show metaTile (F := Ideal) (iblk m c 6 t) (iblk m c 7 t) h (ix3 0 w k) = ∑ s, arrVM m c s (Chunk.col h w) * Chunk.metaKey (arrLM m c) s (Chunk.col h k)
    unfold metaTile
    pointwise
    refine Finset.sum_congr rfl fun s _ => congrArg₂ (· * ·) (blk_6 m c t s _) (key s _)
  · funext k w
    show (k0_pay6 (F := Ideal)) (ix3 h w k) = 0
    unfold k0_pay6
    pointwise

/-! ## The points in order -/

/-- Before point `t`, the states a direction goes on from. -/
structure Ready (t : Fin cfg0.N) (s : Pair Ideal) : Prop where
  fwd : ∀ h, headState s.1 h = seqState m c 0 t h (8 * (t.val % 8))
  bwd : ∀ h, headState s.2 h = seqState m c 1 t h (8 * (t.val % 8))

/-- What a point leaves that was ready. -/
structure Done (t : Fin cfg0.N) (o : Left Ideal) : Prop where
  out0 : ∀ r C, o.1 (ix2 r C) = Chunk.scanned (arrP m c) (arrLF m c) (arrVM m c) (arrLM m c) 0 (rowOf 0 t r) C
  out1 : ∀ r C, o.2.1 (ix2 r C) = Chunk.scanned (arrP m c) (arrLF m c) (arrVM m c) (arrLM m c) 1 (rowOf 1 t r) C
  fwd : ∀ h, headState o.2.2.1 h = seqState m c 0 t h (8 * (t.val % 8) + 8)
  bwd : ∀ h, headState o.2.2.2 h = seqState m c 1 t h (8 * (t.val % 8) + 8)

theorem done_of (H : Finite m c) (t : Fin cfg0.N) (s : Pair Ideal) (R : Ready m c t s) :
    Done m c t (leftOf (F := Ideal) (X0_0 m c t) (X0_1 m c t) (iblk m c 2 t) (X0_3 m c t) (X0_4 m c t) (iblk m c 5 t) s) where
  out0 := outs_at m c H 0 t id (fun _ => rfl) s.1 R.fwd
  out1 := outs_at m c H 1 t Fin.rev (fun _ => rfl) s.2 R.bwd
  fwd := states_at m c H 0 t id (fun _ => rfl) s.1 R.fwd 8 (Nat.le_refl 8)
  bwd := states_at m c H 1 t Fin.rev (fun _ => rfl) s.2 R.bwd 8 (Nat.le_refl 8)

theorem done_at (H : Finite m c) : ∀ (n : ℕ) (hn : n < cfg0.N), Done m c ⟨n, hn⟩ (leftAt m c n hn)
  | n, hn => by
    by_cases h0 : n % 8 = 0
    · have e := (leftAt_A m c ⟨n, hn⟩ h0).trans (outA_eq m c ⟨n, hn⟩ h0)
      have f := first_at m c H ⟨n, hn⟩
      have z : 8 * (n % 8) = 0 := by omega
      exact e ▸ done_of m c H ⟨n, hn⟩ _ ⟨fun h => (f h).1.trans (congrArg (seqState m c 0 ⟨n, hn⟩ h) z.symm), fun h => (f h).2.trans (congrArg (seqState m c 1 ⟨n, hn⟩ h) z.symm)⟩
    · have e := (leftAt_B m c ⟨n, hn⟩ h0).trans (outB_eq m c ⟨n, hn⟩ h0 _)
      have D := done_at H (n - 1) (Nat.lt_of_le_of_lt (Nat.sub_le _ _) hn)
      have eb : batch ⟨n - 1, Nat.lt_of_le_of_lt (Nat.sub_le _ _) hn⟩ = batch ⟨n, hn⟩ := Fin.ext (by show (n - 1) / 8 = n / 8; omega)
      have ek : 8 * ((n - 1) % 8) + 8 = 8 * (n % 8) := by omega
      have es : ∀ d h, seqState m c d ⟨n - 1, Nat.lt_of_le_of_lt (Nat.sub_le _ _) hn⟩ h (8 * ((n - 1) % 8) + 8) = seqState m c d ⟨n, hn⟩ h (8 * (n % 8)) := by
        intro d h
        unfold seqState
        rw [eb, ek]
      exact e ▸ done_of m c H ⟨n, hn⟩ _ ⟨fun h => (D.fwd h).trans (es 0 h), fun h => (D.bwd h).trans (es 1 h)⟩
termination_by n => n
decreasing_by omega

/-! ## The result arrays -/

/-- The two result arrays. -/
def G (d : Fin 2) : Vec Ideal S16384x1024 .f32 := fun i => Chunk.scanned (arrP m c) (arrLF m c) (arrVM m c) (arrLM m c) d (i 0) (i 1)

theorem final_0 (H : Finite m c) : (dats m 0 c).arrAt 8 cfg0.N = G m c 0 := by
  refine (dats m 0 c).arrAt_eq_of_covers 8 _ (by decide +kernel) fun t hf y => ?_
  refine Eq.trans ?_ (((done_at m c H t.val t.isLt).out0 (y 0) (y 1)).trans ?_)
  · rw [after0_8]
    exact congrArg (leftAt m c t.val t.isLt).1 (funext fun a => by fin_cases a <;> rfl)
  · have e0 : ((cfg0.win 8).blk t).view.emb y = ix2 (rowOf 0 t (y 0)) (y 1) := by
      unfold rowOf blkOf
      blk_ext [idx t]
    rw [e0]
    rfl
theorem final_1 (H : Finite m c) : (dats m 0 c).arrAt 9 cfg0.N = G m c 1 := by
  refine (dats m 0 c).arrAt_eq_of_covers 9 _ (by decide +kernel) fun t hf y => ?_
  refine Eq.trans ?_ (((done_at m c H t.val t.isLt).out1 (y 0) (y 1)).trans ?_)
  · rw [after0_9]
    exact congrArg (leftAt m c t.val t.isLt).2.1 (funext fun a => by fin_cases a <;> rfl)
  · have e0 : ((cfg0.win 9).blk t).view.emb y = ix2 (rowOf 1 t (y 0)) (y 1) := by
      unfold rowOf blkOf
      blk_ext [idx t]
    rw [e0]
    rfl

/-- The run with the result arrays known, the arguments unchanged. -/
theorem run_value (ρ : Dev nD → PrngReg) (H : ∀ c, Finite m c) : θ_run defs (onTc (τ := τ) (main (F := Ideal))) ⟨m, fun _ => 0, ρ⟩ fun r => ∀ c : Dev nD,
      r.2.mem ((c : Thread nD τ).loc main_v0_0) = G m c 0
      ∧ r.2.mem ((c : Thread nD τ).loc main_v0_1) = G m c 1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    have a := h.1 c
    exact ⟨(a.1 8).trans (final_0 m c (H c)), (a.1 9).trans (final_1 m c (H c)),
      (a.1 4).trans (((dats m 0 c).arrAt_in 4 rfl _).trans ((A_eq m c 4).trans (V_main_arg0 m c))),
      (a.1 5).trans (((dats m 0 c).arrAt_in 5 rfl _).trans ((A_eq m c 5).trans (V_main_arg1 m c))),
      (a.1 6).trans (((dats m 0 c).arrAt_in 6 rfl _).trans ((A_eq m c 6).trans (V_main_arg2 m c))),
      (a.1 7).trans (((dats m 0 c).arrAt_in 7 rfl _).trans ((A_eq m c 7).trans (V_main_arg3 m c)))⟩) (run_quiet m ρ)

end Cert.KernelIdeal.Scan

end
-- ==== Proof.ScanSum.lean ====
/- Running sums along one axis, written as a window of the axis' length. -/
module

public import Idealize.ShloMosaic.Lib.Pipeline.ValueKit

@[expose] public section

noncomputable section

namespace Cert.Chunk

open Idealize.ShloMosaic

/-- A window's sum, the positions outside the array read as the first value. -/
theorem window_sum {s t u : Shape} (window strides lo hi : Fin s.rank → Nat) (x : FVec Ideal s .f32) (init : u.Idx → EReal)
    (h : s.ReduceWindows window strides lo hi t) (hu : 0 < u.numel) (hz : init (Shape.Idx.first hu) = 0) (j : t.Idx) :
    Host.reduceWindowAdd (F := Ideal) (φ := .f32) window strides lo hi x init h hu j =
      ∑ w : (⟨s.rank, window⟩ : Shape).Idx,
        (if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else (0 : EReal)) := by
  have fold : ∀ (l : List (Fin (⟨s.rank, window⟩ : Shape).numel)) (g : Fin (⟨s.rank, window⟩ : Shape).numel → EReal) (z : EReal), l.foldl (fun r n => r + g n) z = z + (l.map g).sum := by
    intro l g
    induction l with
    | nil => intro z; simp
    | cons a l ih => intro z; rw [List.foldl_cons, ih, List.map_cons, List.sum_cons, add_assoc]
  have e := fold (List.finRange _) (fun n => if hin : ∀ a, lo a ≤ (j (a.cast h.1.symm)).val * strides a + ((⟨s.rank, window⟩ : Shape).rowMajor.symm n a).val ∧ (j (a.cast h.1.symm)).val * strides a + ((⟨s.rank, window⟩ : Shape).rowMajor.symm n a).val - lo a < s.size a
          then x (fun a => ⟨(j (a.cast h.1.symm)).val * strides a + ((⟨s.rank, window⟩ : Shape).rowMajor.symm n a).val - lo a, (hin a).2⟩) else (0 : EReal)) 0
  rw [zero_add, ← List.ofFn_eq_map, List.sum_ofFn] at e
  refine Eq.trans ?_ (e.trans (Fintype.sum_equiv (⟨s.rank, window⟩ : Shape).rowMajor.symm _ _ fun _ => rfl))
  show Host.reduceWindow (· + ·) window strides lo hi x (fun _ : (⟨0, ![]⟩ : Shape).Idx => init (Shape.Idx.first hu)) h (by decide) j = _
  rw [hz]
  unfold Host.reduceWindow
  refine congrArg (fun g => List.foldl g (0 : EReal) _) (funext fun r => funext fun n => congrArg (r + ·) ?_)
  split <;> rfl

/-- The tokens a window of 64 ending at `i` holds. -/
theorem window_tokens {N : ℕ} (f : Fin (N + 1) → EReal) (i : Fin (N + 1)) :
    (∑ w : Fin (N + 1), if h : N ≤ i.val + w.val then f ⟨i.val + w.val - N, by omega⟩ else 0) = ∑ s, if s ≤ i then f s else 0 := by
  have e1 : ∀ w : Fin (N + 1), (if h : N ≤ i.val + w.val then f ⟨i.val + w.val - N, by omega⟩ else 0) = if N ≤ i.val + w.val then f ⟨i.val + w.val - N, by omega⟩ else 0 := fun w => rfl
  simp only [e1]
  rw [← Finset.sum_filter, ← Finset.sum_filter]
  refine Finset.sum_bij' (fun w _ => ⟨i.val + w.val - N, by omega⟩) (fun s hs => ⟨s.val + N - i.val, by have := (Finset.mem_filter.mp hs).2; rw [Fin.le_def] at this; omega⟩) ?_ ?_ ?_ ?_ ?_
  · intro w hw; exact Finset.mem_filter.mpr ⟨Finset.mem_univ _, by rw [Fin.le_def]; show i.val + w.val - N ≤ i.val; omega⟩
  · intro s hs; have := (Finset.mem_filter.mp hs).2; rw [Fin.le_def] at this
    exact Finset.mem_filter.mpr ⟨Finset.mem_univ _, by show N ≤ i.val + (s.val + N - i.val); omega⟩
  · intro w hw; have := (Finset.mem_filter.mp hw).2; exact Fin.ext (by show i.val + w.val - N + N - i.val = w.val; omega)
  · intro s hs; have := (Finset.mem_filter.mp hs).2; rw [Fin.le_def] at this; exact Fin.ext (by show i.val + (s.val + N - i.val) - N = s.val; omega)
  · intro w hw; rfl

theorem running4 {A N B C : ℕ} (x : FVec Ideal ⟨4, ![A, N + 1, B, C]⟩ .f32) (init : (⟨0, ![]⟩ : Shape).Idx → EReal)
    (h : (⟨4, ![A, N + 1, B, C]⟩ : Shape).ReduceWindows ![1, N + 1, 1, 1] ![1, 1, 1, 1] ![0, N, 0, 0] ![0, 0, 0, 0] ⟨4, ![A, N + 1, B, C]⟩) (hu : 0 < (⟨0, ![]⟩ : Shape).numel)
    (hz : init (Shape.Idx.first hu) = 0) (a : Fin A) (i : Fin (N + 1)) (b : Fin B) (c : Fin C) :
    Host.reduceWindowAdd (F := Ideal) (φ := .f32) ![1, N + 1, 1, 1] ![1, 1, 1, 1] ![0, N, 0, 0] ![0, 0, 0, 0] x init h hu (ix4 a i b c) = ∑ s, if s ≤ i then x (ix4 a s b c) else 0 := by
  rw [window_sum _ _ _ _ x init h hu hz]
  rw [← window_tokens (fun s => x (ix4 a s b c)) i]
  refine Fintype.sum_equiv ⟨fun w => (w 1 : Fin (N + 1)), fun s => (ix4 (0 : Fin 1) s (0 : Fin 1) (0 : Fin 1) : (⟨4, ![1, N + 1, 1, 1]⟩ : Shape).Idx), fun w => ?_, fun s => rfl⟩ _ _ fun w => ?_
  · funext k
    fin_cases k
    · exact Subsingleton.elim (α := Fin 1) _ _
    · rfl
    · exact Subsingleton.elim (α := Fin 1) _ _
    · exact Subsingleton.elim (α := Fin 1) _ _
  · have w0 : (w 0).val = 0 := Nat.lt_one_iff.mp (w 0).isLt
    have w2 : (w 2).val = 0 := Nat.lt_one_iff.mp (w 2).isLt
    have w3 : (w 3).val = 0 := Nat.lt_one_iff.mp (w 3).isLt
    have w1 : (w 1).val < N + 1 := (w 1).isLt
    by_cases hN : N ≤ i.val + (w 1).val
    · refine Eq.trans (dif_pos ?_) (Eq.trans ?_ (dif_pos hN).symm)
      rotate_left
      · refine congrArg x (funext fun k => Fin.ext ?_)
        fin_cases k
        · show a.val * 1 + (w 0).val - 0 = a.val; omega
        · show i.val * 1 + (w 1).val - N = i.val + (w 1).val - N; omega
        · show b.val * 1 + (w 2).val - 0 = b.val; omega
        · show c.val * 1 + (w 3).val - 0 = c.val; omega
      · intro k
        fin_cases k
        · show 0 ≤ a.val * 1 + (w 0).val ∧ a.val * 1 + (w 0).val - 0 < A; omega
        · show N ≤ i.val * 1 + (w 1).val ∧ i.val * 1 + (w 1).val - N < N + 1; omega
        · show 0 ≤ b.val * 1 + (w 2).val ∧ b.val * 1 + (w 2).val - 0 < B; omega
        · show 0 ≤ c.val * 1 + (w 3).val ∧ c.val * 1 + (w 3).val - 0 < C; omega
    · refine Eq.trans (dif_neg ?_) (Eq.symm ?_)
      rotate_left
      · exact dif_neg hN
      intro hk
      have := (hk 1).1
      have : N ≤ i.val * 1 + (w 1).val := this
      omega

theorem running3 {N B C : ℕ} (x : FVec Ideal ⟨3, ![N + 1, B, C]⟩ .f32) (init : (⟨0, ![]⟩ : Shape).Idx → EReal)
    (h : (⟨3, ![N + 1, B, C]⟩ : Shape).ReduceWindows ![N + 1, 1, 1] ![1, 1, 1] ![N, 0, 0] ![0, 0, 0] ⟨3, ![N + 1, B, C]⟩) (hu : 0 < (⟨0, ![]⟩ : Shape).numel)
    (hz : init (Shape.Idx.first hu) = 0) (i : Fin (N + 1)) (b : Fin B) (c : Fin C) :
    Host.reduceWindowAdd (F := Ideal) (φ := .f32) ![N + 1, 1, 1] ![1, 1, 1] ![N, 0, 0] ![0, 0, 0] x init h hu (ix3 i b c) = ∑ s, if s ≤ i then x (ix3 s b c) else 0 := by
  rw [window_sum _ _ _ _ x init h hu hz]
  rw [← window_tokens (fun s => x (ix3 s b c)) i]
  refine Fintype.sum_equiv ⟨fun w => (w 0 : Fin (N + 1)), fun s => (ix3 s (0 : Fin 1) (0 : Fin 1) : (⟨3, ![N + 1, 1, 1]⟩ : Shape).Idx), fun w => ?_, fun s => rfl⟩ _ _ fun w => ?_
  · funext k
    fin_cases k
    · rfl
    · exact Subsingleton.elim (α := Fin 1) _ _
    · exact Subsingleton.elim (α := Fin 1) _ _
  · have w1 : (w 1).val = 0 := Nat.lt_one_iff.mp (w 1).isLt
    have w2 : (w 2).val = 0 := Nat.lt_one_iff.mp (w 2).isLt
    have w0 : (w 0).val < N + 1 := (w 0).isLt
    by_cases hN : N ≤ i.val + (w 0).val
    · refine Eq.trans (dif_pos ?_) (Eq.trans ?_ (dif_pos hN).symm)
      rotate_left
      · refine congrArg x (funext fun k => Fin.ext ?_)
        fin_cases k
        · show i.val * 1 + (w 0).val - N = i.val + (w 0).val - N; omega
        · show b.val * 1 + (w 1).val - 0 = b.val; omega
        · show c.val * 1 + (w 2).val - 0 = c.val; omega
      · intro k
        fin_cases k
        · show N ≤ i.val * 1 + (w 0).val ∧ i.val * 1 + (w 0).val - N < N + 1; omega
        · show 0 ≤ b.val * 1 + (w 1).val ∧ b.val * 1 + (w 1).val - 0 < B; omega
        · show 0 ≤ c.val * 1 + (w 2).val ∧ c.val * 1 + (w 2).val - 0 < C; omega
    · refine Eq.trans (dif_neg ?_) (Eq.symm ?_)
      rotate_left
      · exact dif_neg hN
      intro hk
      have : N ≤ i.val * 1 + (w 0).val := (hk 0).1
      omega

end Cert.Chunk

end
-- ==== Proof.ScanRef.lean ====
/- The reference's loop and what it starts from, over the extended reals. -/
module

public import proofs.«01_k».proof.Proof.ScanStep
public import proofs.«01_k».proof.Proof.ScanSum
public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.ReferenceIdeal.Scan

open Cert.ReferenceIdeal Cert.ReferenceIdeal.Gen Idealize.ShloMosaic Idealize.ShloMosaic.TcCoe Idealize.SL.Sem

abbrev Side := FVec Ideal S4x4096x8x128 .f32
abbrev Both := FVec Ideal S8x4096x8x128 .f32
abbrev Chunks := FVec Ideal S64x8x64x8x128 .f32
abbrev OneChunk := FVec Ideal S8x64x8x128 .f32
abbrev States := FVec Ideal S8x8x128x128 .f32

/-! ## What the loop starts from -/

/-- A thousand columns of the projections, by batch row, token and head. -/
def sideQ (P : FVec Ideal S16384x8704 .bf16) : Side := shapeCast S4x4096x8x128 (extf .f32 (extractStridedSlice S16384x1024 ![0, 0] P slices_S16384x8704_S16384x1024_0_0) bitsLt_bf16_f32) shapeCasts_S16384x1024_S4x4096x8x128
def sideV (P : FVec Ideal S16384x8704 .bf16) : Side := shapeCast S4x4096x8x128 (extf .f32 (extractStridedSlice S16384x1024 ![0, 1024] P slices_S16384x8704_S16384x1024_0_1024) bitsLt_bf16_f32) shapeCasts_S16384x1024_S4x4096x8x128
def sideF (L : FVec Ideal S16384x2048 .f32) : Side := shapeCast S4x4096x8x128 (extractStridedSlice S16384x1024 ![0, 0] L slices_S16384x2048_S16384x1024_0_0) shapeCasts_S16384x1024_S4x4096x8x128
def sideB (L : FVec Ideal S16384x2048 .f32) : Side := shapeCast S4x4096x8x128 (extractStridedSlice S16384x1024 ![0, 1024] L slices_S16384x2048_S16384x1024_0_1024) shapeCasts_S16384x1024_S4x4096x8x128
/-- The two directions, the second with its tokens turned round. -/
def two (X Y : Side) : Both := concatenate S8x4096x8x128 0 [⟨S4x4096x8x128, X⟩, ⟨S4x4096x8x128, Host.reverse [1] Y⟩] concatenates_S4x4096x8x128_S4x4096x8x128_S8x4096x8x128_d0
def keysOf (L : Both) : Both := subf (broadcastInDim S8x4096x8x128 ![] bcast_S_S8x4096x8x128 (constant S_ .f32 0x3F800000#32)) (Host.exp L)
def chunked (X : Both) : Chunks := transpose S64x8x64x8x128 [1, 0, 2, 3, 4] (shapeCast S8x64x64x8x128 X shapeCasts_S8x4096x8x128_S8x64x64x8x128) transposes_S8x64x64x8x128_S64x8x64x8x128_1_0_2_3_4
def mask : IVec S64x64 1 := select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))
def metaLogs (L : FVec Ideal S16x1024 .f32) : FVec Ideal S16x8x128 .f32 := shapeCast S16x8x128 L shapeCasts_S16x1024_S16x8x128
def metaSums (L : FVec Ideal S16x1024 .f32) : FVec Ideal S16x8x128 .f32 :=
  Host.reduceWindowAdd ![16, 1, 1] ![1, 1, 1] ![15, 0, 0] ![0, 0, 0] (metaLogs L) (broadcastInDim S_ ![] bcast_S_S_ (constant S_ .f32 0x00000000#32)) reduceWindows_S16x8x128_S16x8x128_w16s1p15_0_w1s1p0_0_w1s1p0_0 h_S_
def metaState (V : FVec Ideal S16x1024 .bf16) (L : FVec Ideal S16x1024 .f32) : FVec Ideal S8x128x128 .f32 :=
  Host.dotGeneral dot_S16x8x128_S16x8x128_S8x128x128_0_0_2_2_1_1 none
    (mulf (subf (broadcastInDim S16x8x128 ![] bcast_S_S16x8x128 (constant S_ .f32 0x3F800000#32)) (Host.exp (metaLogs L)))
      (Host.exp (subf (broadcastInDim S16x8x128 ![0, 1, 2] bcast_S1x8x128_S16x8x128_0_1_2 (extractStridedSlice S1x8x128 ![15, 0, 0] (metaSums L) slices_S16x8x128_S1x8x128_15_0_0)) (metaSums L))))
    (shapeCast S16x8x128 (extf .f32 V bitsLt_bf16_f32) shapeCasts_S16x1024_S16x8x128)
def startOf (V : FVec Ideal S16x1024 .bf16) (L : FVec Ideal S16x1024 .f32) : States :=
  concatenate S8x8x128x128 0 [⟨S4x8x128x128, broadcastInDim S4x8x128x128 ![0, 1, 2, 3] bcast_S1x8x128x128_S4x8x128x128_0_1_2_3 (broadcastInDim S1x8x128x128 ![1, 2, 3] bcast_S8x128x128_S1x8x128x128_1_2_3 (metaState V L))⟩,
    ⟨S4x8x128x128, broadcastInDim S4x8x128x128 ![] bcast_S_S4x8x128x128 (constant S_ .f32 0x00000000#32)⟩] concatenates_S4x8x128x128_S4x8x128x128_S8x8x128x128_d0

section
variable (m : (ℓ : Loc nD τ sig) → Buf (Elt Ideal) ℓ) (c : Dev nD)
abbrev argP : FVec Ideal S16384x8704 .bf16 := m ((c.tc : Thread nD τ).loc main_arg0)
abbrev argF : FVec Ideal S16384x2048 .f32 := m ((c.tc : Thread nD τ).loc main_arg1)
abbrev argV : FVec Ideal S16x1024 .bf16 := m ((c.tc : Thread nD τ).loc main_arg2)
abbrev argL : FVec Ideal S16x1024 .f32 := m ((c.tc : Thread nD τ).loc main_arg3)

abbrev E : Valuation τ sig (Elt Ideal) := StableHlo.entryContents Value.preI m c

theorem entry0 : E m c (Proc.devRef .tc main_v47_0) = chunked (two (sideQ (argP m c)) (sideQ (argP m c))) := by
  simp only [StableHlo.entryContents, StableHlo.afterL_cons, StableHlo.afterL_nil]
  after_reads_simp
  rfl
theorem entry1 : E m c (Proc.devRef .tc main_v47_1) = chunked (keysOf (two (sideF (argF m c)) (sideB (argF m c)))) := by
  simp only [StableHlo.entryContents, StableHlo.afterL_cons, StableHlo.afterL_nil]
  after_reads_simp
  rfl
theorem entry2 : E m c (Proc.devRef .tc main_v47_2) = chunked (two (sideV (argP m c)) (sideV (argP m c))) := by
  simp only [StableHlo.entryContents, StableHlo.afterL_cons, StableHlo.afterL_nil]
  after_reads_simp
  rfl
theorem entry3 : E m c (Proc.devRef .tc main_v47_3) = chunked (two (sideF (argF m c)) (sideB (argF m c))) := by
  simp only [StableHlo.entryContents, StableHlo.afterL_cons, StableHlo.afterL_nil]
  after_reads_simp
  rfl
theorem entry4 : E m c (Proc.devRef .tc main_v47_4) = mask := by
  simp only [StableHlo.entryContents, StableHlo.afterL_cons, StableHlo.afterL_nil]
  after_reads_simp
  rfl
theorem entry6 : E m c (Proc.devRef .tc main_v47_6) = startOf (argV m c) (argL m c) := by
  simp only [StableHlo.entryContents, StableHlo.afterL_cons, StableHlo.afterL_nil]
  after_reads_simp
  rfl
end

/-! ## One trip -/

/-- Where the chunk of the counter begins. -/
def starts (I : IVec S_ 32) : Fin 5 → ℤ := fun k => (((![I, constantI S_ 32 0#32, constantI S_ 32 0#32, constantI S_ 32 0#32, constantI S_ 32 0#32] : Fin 5 → IVec S_ 32)) k (Shape.Idx.first h_S_)).toInt

def chunkAt (X : Chunks) (I : IVec S_ 32) : OneChunk :=
  shapeCast S8x64x8x128 (Host.dynamicSlice S1x8x64x8x128 X (starts I) sliceFits_S64x8x64x8x128_S1x8x64x8x128) shapeCasts_S1x8x64x8x128_S8x64x8x128
def sums (L : OneChunk) : OneChunk :=
  Host.reduceWindowAdd ![1, 64, 1, 1] ![1, 1, 1, 1] ![0, 63, 0, 0] ![0, 0, 0, 0] L (broadcastInDim S_ ![] bcast_S_S_ (constant S_ .f32 0x00000000#32)) reduceWindows_S8x64x8x128_S8x64x8x128_w1s1p0_0_w64s1p63_0_w1s1p0_0_w1s1p0_0 h_S_
def last (B : OneChunk) : FVec Ideal S8x1x8x128 .f32 := extractStridedSlice S8x1x8x128 ![0, 63, 0, 0] B slices_S8x64x8x128_S8x1x8x128_0_63_0_0
/-- The states after a chunk, of its keys, values and summed logarithms. -/
def stateAfter (K V B : OneChunk) (S : States) : States :=
  addf (mulf (broadcastInDim S8x8x128x128 ![0, 1, 2, 3] bcast_S8x8x128x1_S8x8x128x128_0_1_2_3 (broadcastInDim S8x8x128x1 ![0, 1, 2] bcast_S8x8x128_S8x8x128x1_0_1_2 (Host.exp (shapeCast S8x8x128 (last B) shapeCasts_S8x1x8x128_S8x8x128)))) S)
    (Host.dotGeneral dot_S8x64x8x128_S8x64x8x128_S8x8x128x128_1_1_3_3_02_02 none (mulf K (Host.exp (subf (broadcastInDim S8x64x8x128 ![0, 1, 2, 3] bcast_S8x1x8x128_S8x64x8x128_0_1_2_3 (last B)) B))) V)
/-- A chunk's outputs. -/
def outOf (Q K V B : OneChunk) (M : IVec S64x64 1) (S : States) : OneChunk :=
  addf (transpose S8x64x8x128 [0, 3, 1, 2] (Host.dotGeneral dot_S8x64x8x128_S8x8x64x64_S8x8x128x64_1_3_3_2_02_01 none V
      (select (broadcastInDim S8x8x64x64 ![2, 3] bcast_S64x64_S8x8x64x64_2_3 M) (Host.dotGeneral dot_S8x64x8x128_S8x64x8x128_S8x8x64x64_3_3_1_1_02_02 none (mulf Q (Host.exp B)) (mulf K (Host.exp (Host.negf B)))) (broadcastInDim S8x8x64x64 ![] bcast_S_S8x8x64x64 (constant S_ .f32 0x00000000#32)))) transposes_S8x8x128x64_S8x64x8x128_0_3_1_2)
    (transpose S8x64x8x128 [0, 3, 1, 2] (Host.dotGeneral dot_S8x8x128x128_S8x64x8x128_S8x8x128x64_2_3_3_1_01_02 none S (mulf Q (Host.exp B))) transposes_S8x8x128x64_S8x64x8x128_0_3_1_2)
def put (O : Chunks) (R : OneChunk) (I : IVec S_ 32) : Chunks :=
  Host.dynamicUpdateSlice O (broadcastInDim S1x8x64x8x128 ![1, 2, 3, 4] bcast_S8x64x8x128_S1x8x64x8x128_1_2_3_4 R) (starts I) updateFits_S64x8x64x8x128_S1x8x64x8x128

section
variable (V : Valuation τ sig (Elt Ideal))
abbrev bufQ : Chunks := V (Proc.devRef .tc main_v47_0)
abbrev bufK : Chunks := V (Proc.devRef .tc main_v47_1)
abbrev bufV : Chunks := V (Proc.devRef .tc main_v47_2)
abbrev bufL : Chunks := V (Proc.devRef .tc main_v47_3)
abbrev bufM : IVec S64x64 1 := V (Proc.devRef .tc main_v47_4)
abbrev bufI : IVec S_ 32 := V (Proc.devRef .tc main_v47_5)
abbrev bufS : States := V (Proc.devRef .tc main_v47_6)
abbrev bufO : Chunks := V (Proc.devRef .tc main_v47_7)

theorem step6 : Value.step_main_v47_6 V = stateAfter (chunkAt (bufK V) (bufI V)) (chunkAt (bufV V) (bufI V)) (sums (chunkAt (bufL V) (bufI V))) (bufS V) := rfl
theorem step7 : Value.step_main_v47_7 V = put (bufO V) (outOf (chunkAt (bufQ V) (bufI V)) (chunkAt (bufK V) (bufI V)) (chunkAt (bufV V) (bufI V)) (sums (chunkAt (bufL V) (bufI V))) (bufM V) (bufS V)) (bufI V) := by
  unfold Value.step_main_v47_7
  rfl
end

/-! ## At an index -/

theorem start0_all : ∀ n : Fin 64, Host.clampedStart S64x8x64x8x128 S1x8x64x8x128 rfl (starts fun _ => Scf.iv 0#32 1#32 n.val) 0 = n.val := by decide +kernel
theorem start0 (n : Fin 64) (h : (5 : ℕ) = 5) : Host.clampedStart S64x8x64x8x128 S1x8x64x8x128 h (starts fun _ => Scf.iv 0#32 1#32 n.val) 0 = n.val := start0_all n
theorem start1 (n : Fin 64) (h : (5 : ℕ) = 5) : Host.clampedStart S64x8x64x8x128 S1x8x64x8x128 h (starts fun _ => Scf.iv 0#32 1#32 n.val) 1 = 0 := rfl
theorem start2 (n : Fin 64) (h : (5 : ℕ) = 5) : Host.clampedStart S64x8x64x8x128 S1x8x64x8x128 h (starts fun _ => Scf.iv 0#32 1#32 n.val) 2 = 0 := rfl
theorem start3 (n : Fin 64) (h : (5 : ℕ) = 5) : Host.clampedStart S64x8x64x8x128 S1x8x64x8x128 h (starts fun _ => Scf.iv 0#32 1#32 n.val) 3 = 0 := rfl
theorem start4 (n : Fin 64) (h : (5 : ℕ) = 5) : Host.clampedStart S64x8x64x8x128 S1x8x64x8x128 h (starts fun _ => Scf.iv 0#32 1#32 n.val) 4 = 0 := rfl

theorem chunkAt_at (X : Chunks) (I : IVec S_ 32) (n : Fin 64) (hI : I = fun _ => Scf.iv 0#32 1#32 n.val) (x : Fin 8) (s : Fin 64) (h : Fin 8) (k : Fin 128) :
    chunkAt X I (ix4 x s h k) = X (ix5 n x s h k) := by
  subst hI
  unfold chunkAt
  pointwise
  simp only [start0, start1, start2, start3, start4, Nat.zero_add]

theorem put_at (O : Chunks) (R : OneChunk) (I : IVec S_ 32) (n : Fin 64) (hI : I = fun _ => Scf.iv 0#32 1#32 n.val) (y : Fin 64) (x : Fin 8) (s : Fin 64) (h : Fin 8) (k : Fin 128) :
    put O R I (ix5 y x s h k) = if y = n then R (ix4 x s h k) else O (ix5 y x s h k) := by
  subst hI
  unfold put
  pointwise
  by_cases e : y = n
  · subst e
    rw [if_pos rfl]
    refine (dif_pos ?_).trans (congrArg R (funext fun a => Fin.ext ?_))
    · rw [start0, start1, start2, start3, start4]; omega
    · fin_cases a <;> rfl
  · rw [if_neg e]
    refine dif_neg fun hh => e (Fin.ext ?_)
    have := hh.1
    rw [start0] at this
    omega

theorem stateAfter_at (K V B : OneChunk) (S : States) (x h : Fin 8) (d w : Fin 128) :
    stateAfter K V B S (ix4 x h d w) = Ideal.exp (B (ix4 x 63 h d)) * S (ix4 x h d w) + ∑ s, K (ix4 x s h d) * Ideal.exp (B (ix4 x 63 h d) - B (ix4 x s h d)) * V (ix4 x s h w) := by
  unfold stateAfter last
  pointwise

theorem outOf_at (Q K V B : OneChunk) (M : IVec S64x64 1) (hM : ∀ i j, M (ix2 i j) = if j ≤ i then 1#1 else 0#1) (S : States) (x h : Fin 8) (s : Fin 64) (w : Fin 128) :
    outOf Q K V B M S (ix4 x s h w) = (∑ t, if t ≤ s then V (ix4 x t h w) * ∑ k, Q (ix4 x s h k) * Ideal.exp (B (ix4 x s h k)) * (K (ix4 x t h k) * Ideal.exp (-B (ix4 x t h k))) else 0)
      + ∑ k, S (ix4 x h k w) * (Q (ix4 x s h k) * Ideal.exp (B (ix4 x s h k))) := by
  unfold outOf
  pointwise
  refine congrArg (· + _) (Finset.sum_congr rfl fun t _ => ?_)
  exact Cert.KernelIdeal.Scan.select_if (hM s t) _ _

theorem mask_at (i j : Fin 64) : mask (ix2 i j) = if j ≤ i then 1#1 else 0#1 := by
  unfold mask
  pointwise
  revert i j
  decide +kernel

theorem sums_at (L : OneChunk) (x : Fin 8) (s : Fin 64) (h : Fin 8) (k : Fin 128) : sums L (ix4 x s h k) = ∑ t, if t ≤ s then L (ix4 x t h k) else 0 := by
  refine Chunk.running4 (A := 8) (N := 63) (B := 8) (C := 128) L _ _ _ ?_ x s h k
  pointwise

theorem metaSums_at (L : FVec Ideal S16x1024 .f32) (s : Fin 16) (h : Fin 8) (k : Fin 128) : metaSums L (ix3 s h k) = ∑ t, if t ≤ s then L (ix2 t (Chunk.col h k)) else 0 := by
  refine (Chunk.running3 (N := 15) (B := 8) (C := 128) (metaLogs L) _ _ _ ?_ s h k).trans ?_
  · pointwise
  · refine Finset.sum_congr rfl fun t _ => ?_
    congr 1
    unfold metaLogs
    pointwise
    congr 2
    exact Fin.ext (by show h.val * 128 + k.val = 128 * h.val + k.val; omega)

theorem chunked_at (X : Both) (n : Fin 64) (x : Fin 8) (s : Fin 64) (h : Fin 8) (k : Fin 128) :
    chunked X (ix5 n x s h k) = X (ix4 x ⟨64 * n.val + s.val, by omega⟩ h k) := by
  unfold chunked
  pointwise
  congr 2
  exact Fin.ext (by show n.val * 64 + s.val = 64 * n.val + s.val; omega)

/-- The place of a direction's batch row among both directions' rows. -/
def side (d : Fin 2) (b : Fin 4) : Fin 8 := ⟨4 * d.val + b.val, by omega⟩

theorem two_at0 (X Y : Side) (b : Fin 4) (t : Fin 4096) (h : Fin 8) (k : Fin 128) : two X Y (ix4 (side 0 b) t h k) = X (ix4 b t h k) := by
  unfold two
  pointwise
  have hb : (side 0 b).val = b.val := by show 4 * 0 + b.val = b.val; omega
  rw [dif_pos (by omega)]
  congr 2
  exact Fin.ext hb
theorem two_at1 (X Y : Side) (b : Fin 4) (t : Fin 4096) (h : Fin 8) (k : Fin 128) : two X Y (ix4 (side 1 b) t h k) = Y (ix4 b t.rev h k) := by
  unfold two
  pointwise
  have hb : (side 1 b).val = 4 + b.val := by show 4 * 1 + b.val = 4 + b.val; omega
  rw [dif_neg (by omega)]
  refine congrArg Y (funext fun a => Fin.ext ?_)
  fin_cases a
  · show (side 1 b).val - 4 = b.val; omega
  · rfl
  · rfl
  · rfl

section
variable (m : (ℓ : Loc nD τ sig) → Buf (Elt Ideal) ℓ) (c : Dev nD)

/-- The arrays by row and column. -/
abbrev arrP (R : Fin 16384) (C : Fin 8704) : EReal := argP m c (ix2 R C)
abbrev arrLF (R : Fin 16384) (C : Fin 2048) : EReal := argF m c (ix2 R C)
abbrev arrVM (R : Fin 16) (C : Fin 1024) : EReal := argV m c (ix2 R C)
abbrev arrLM (R : Fin 16) (C : Fin 1024) : EReal := argL m c (ix2 R C)

theorem at_index {s0 s1 : ℕ} (X : FVec Ideal ⟨2, ![s0, s1]⟩ .f32) {R R' : Fin s0} {C C' : Fin s1} (hR : R.val = R'.val) (hC : C.val = C'.val) : X (ix2 R C) = X (ix2 R' C') := by
  rw [Fin.ext hR, Fin.ext hC]

theorem q_at (d : Fin 2) (b : Fin 4) (n s : Fin 64) (h : Fin 8) (k : Fin 128) : bufQ (E m c) (ix5 n (side d b) s h k) = Chunk.queries (arrP m c) d b h n s k := by
  unfold bufQ
  rw [entry0, chunked_at]
  match d with
  | 0 =>
    rw [two_at0]
    unfold sideQ
    pointwise
    exact at_index (argP m c) (by show b.val * 4096 + (64 * n.val + s.val) = 4096 * b.val + (64 * n.val + s.val); omega) (by show h.val * 128 + k.val = 128 * h.val + k.val; omega)
  | 1 =>
    rw [two_at1]
    unfold sideQ
    pointwise
    exact at_index (argP m c) (by show b.val * 4096 + (4096 - (64 * n.val + s.val + 1)) = 4096 * b.val + (4095 - (64 * n.val + s.val)); omega) (by show h.val * 128 + k.val = 128 * h.val + k.val; omega)

theorem v_at (d : Fin 2) (b : Fin 4) (n s : Fin 64) (h : Fin 8) (k : Fin 128) : bufV (E m c) (ix5 n (side d b) s h k) = Chunk.values (arrP m c) d b h n s k := by
  unfold bufV
  rw [entry2, chunked_at]
  match d with
  | 0 =>
    rw [two_at0]
    unfold sideV
    pointwise
    exact at_index (argP m c) (by show b.val * 4096 + (64 * n.val + s.val) = 4096 * b.val + (64 * n.val + s.val); omega) (by show 1024 + (h.val * 128 + k.val) = 1024 + (128 * h.val + k.val); omega)
  | 1 =>
    rw [two_at1]
    unfold sideV
    pointwise
    exact at_index (argP m c) (by show b.val * 4096 + (4096 - (64 * n.val + s.val + 1)) = 4096 * b.val + (4095 - (64 * n.val + s.val)); omega) (by show 1024 + (h.val * 128 + k.val) = 1024 + (128 * h.val + k.val); omega)

theorem logs_at (d : Fin 2) (b : Fin 4) (n s : Fin 64) (h : Fin 8) (k : Fin 128) :
    two (sideF (argF m c)) (sideB (argF m c)) (ix4 (side d b) ⟨64 * n.val + s.val, by omega⟩ h k) = Chunk.logs (arrLF m c) d b h n s k := by
  match d with
  | 0 =>
    rw [two_at0]
    unfold sideF
    pointwise
    exact at_index (argF m c) (by show b.val * 4096 + (64 * n.val + s.val) = 4096 * b.val + (64 * n.val + s.val); omega) (by show h.val * 128 + k.val = 1024 * 0 + (128 * h.val + k.val); omega)
  | 1 =>
    rw [two_at1]
    unfold sideB
    pointwise
    exact at_index (argF m c) (by show b.val * 4096 + (4096 - (64 * n.val + s.val + 1)) = 4096 * b.val + (4095 - (64 * n.val + s.val)); omega) (by show 1024 + (h.val * 128 + k.val) = 1024 * 1 + (128 * h.val + k.val); omega)

theorem l_at (d : Fin 2) (b : Fin 4) (n s : Fin 64) (h : Fin 8) (k : Fin 128) : bufL (E m c) (ix5 n (side d b) s h k) = Chunk.logs (arrLF m c) d b h n s k := by
  unfold bufL
  rw [entry3, chunked_at]
  exact logs_at m c d b n s h k

theorem k_at (d : Fin 2) (b : Fin 4) (n s : Fin 64) (h : Fin 8) (k : Fin 128) : bufK (E m c) (ix5 n (side d b) s h k) = 1 - Ideal.exp (Chunk.logs (arrLF m c) d b h n s k) := by
  unfold bufK
  rw [entry1, chunked_at, ← logs_at m c d b n s h k]
  unfold keysOf
  pointwise

theorem s_at (d : Fin 2) (b : Fin 4) (h : Fin 8) (k w : Fin 128) : bufS (E m c) (ix4 (side d b) h k w) = Chunk.start (arrVM m c) (arrLM m c) d h k w := by
  unfold bufS
  rw [entry6]
  unfold startOf
  pointwise
  match d with
  | 0 =>
    have hb : (side 0 b).val = b.val := by show 4 * 0 + b.val = b.val; omega
    rw [dif_pos (by omega)]
    unfold metaState metaLogs
    pointwise
    refine Finset.sum_congr rfl fun s _ => ?_
    rw [metaSums_at, metaSums_at, mul_comm]
    have e : ∀ j : Fin 128, (⟨h.val * 128 + j.val, by omega⟩ : Fin 1024) = Chunk.col h j := fun j => Fin.ext (by show h.val * 128 + j.val = 128 * h.val + j.val; omega)
    simp only [e]
    rfl
  | 1 =>
    have hb : (side 1 b).val = 4 + b.val := by show 4 * 1 + b.val = 4 + b.val; omega
    rw [dif_neg (by omega)]
    rfl

/-! ## The loop -/

/-- The buffers before trip `k`. -/
abbrev W (k : ℕ) : Valuation τ sig (Elt Ideal) := Value.STEP^[k] (E m c)

theorem W_succ (k : ℕ) : W m c (k + 1) = Value.STEP (W m c k) := Function.iterate_succ_apply' _ _ _

theorem W_I (k : ℕ) : bufI (W m c k) = fun _ => Scf.iv 0#32 1#32 k :=
  (Value.atK_agree m c k main_v47_5 (by decide)).symm.trans (Value.atK_ctr m c k)

theorem W_kept (k : ℕ) : bufQ (W m c k) = bufQ (E m c) ∧ bufK (W m c k) = bufK (E m c) ∧ bufV (W m c k) = bufV (E m c) ∧ bufL (W m c k) = bufL (E m c) ∧ bufM (W m c k) = bufM (E m c) := by
  induction k with
  | zero => exact ⟨rfl, rfl, rfl, rfl, rfl⟩
  | succ k ih =>
    obtain ⟨h0, h1, h2, h3, h4⟩ := ih
    unfold bufQ bufK bufV bufL bufM at *
    rw [W_succ]
    exact ⟨(Value.STEP_main_v47_0 _).trans h0, (Value.STEP_main_v47_1 _).trans h1, (Value.STEP_main_v47_2 _).trans h2, (Value.STEP_main_v47_3 _).trans h3, (Value.STEP_main_v47_4 _).trans h4⟩

/-- The chunk's logarithms, summed. -/
theorem B_at (n : Fin 64) (d : Fin 2) (b : Fin 4) (s : Fin 64) (h : Fin 8) (k : Fin 128) :
    sums (chunkAt (bufL (W m c n.val)) (bufI (W m c n.val))) (ix4 (side d b) s h k) = Chunk.cum (Chunk.logs (arrLF m c) d b h n) s k := by
  rw [sums_at]
  unfold Chunk.cum
  refine Finset.sum_congr rfl fun t _ => ?_
  rw [chunkAt_at _ _ n (W_I m c n.val), (W_kept m c n.val).2.2.2.1, l_at]

theorem state_at (d : Fin 2) (b : Fin 4) (h : Fin 8) (k : ℕ) (hk : k ≤ 64) (i w : Fin 128) :
    bufS (W m c k) (ix4 (side d b) h i w) = Chunk.state (arrP m c) (arrLF m c) (arrVM m c) (arrLM m c) d b h k i w := by
  induction k generalizing i w with
  | zero => exact s_at m c d b h i w
  | succ k ih =>
    have e : bufS (W m c (k + 1)) = stateAfter (chunkAt (bufK (W m c k)) (bufI (W m c k))) (chunkAt (bufV (W m c k)) (bufI (W m c k))) (sums (chunkAt (bufL (W m c k)) (bufI (W m c k)))) (bufS (W m c k)) := by
      unfold bufS
      rw [W_succ]
      exact (Value.STEP_main_v47_6 _).trans (step6 _)
    obtain ⟨n, rfl⟩ : ∃ n : Fin 64, n.val = k := ⟨⟨k, by omega⟩, rfl⟩
    rw [e, stateAfter_at, ih (by omega)]
    unfold Chunk.state
    rw [Chunk.stateN_step]
    unfold Chunk.next Chunk.kend
    rw [B_at, mul_comm]
    refine congrArg (_ + ·) (Finset.sum_congr rfl fun s _ => ?_)
    rw [B_at, chunkAt_at _ _ n (W_I m c n.val), chunkAt_at _ _ n (W_I m c n.val), (W_kept m c n.val).2.1, (W_kept m c n.val).2.2.1, k_at, v_at, mul_comm]

theorem out_at (d : Fin 2) (b : Fin 4) (h : Fin 8) (k : ℕ) (hk : k ≤ 64) (n s : Fin 64) (hn : n.val < k) (w : Fin 128) :
    bufO (W m c k) (ix5 n (side d b) s h w) = Chunk.outAt (arrP m c) (arrLF m c) (arrVM m c) (arrLM m c) d b h n s w := by
  induction k with
  | zero => omega
  | succ k ih =>
    have e : bufO (W m c (k + 1)) = put (bufO (W m c k)) (outOf (chunkAt (bufQ (W m c k)) (bufI (W m c k))) (chunkAt (bufK (W m c k)) (bufI (W m c k))) (chunkAt (bufV (W m c k)) (bufI (W m c k))) (sums (chunkAt (bufL (W m c k)) (bufI (W m c k)))) (bufM (W m c k)) (bufS (W m c k))) (bufI (W m c k)) := by
      unfold bufO
      rw [W_succ]
      exact (Value.STEP_main_v47_7 _).trans (step7 _)
    obtain ⟨j, rfl⟩ : ∃ j : Fin 64, j.val = k := ⟨⟨k, by omega⟩, rfl⟩
    rw [e, put_at _ _ _ j (W_I m c j.val)]
    by_cases hj : n = j
    · subst hj
      rw [if_pos rfl, outOf_at _ _ _ _ _ (fun i t => by rw [(W_kept m c n.val).2.2.2.2]; unfold bufM; rw [entry4]; exact mask_at i t)]
      unfold Chunk.outAt Chunk.out Chunk.qdec Chunk.kinv
      refine congrArg₂ (· + ·) (Finset.sum_congr rfl fun t _ => ?_) (Finset.sum_congr rfl fun i _ => ?_)
      · rw [mul_comm]
        rw [chunkAt_at _ _ n (W_I m c n.val), (W_kept m c n.val).2.2.1, v_at]
        by_cases ht : t ≤ s
        · rw [if_pos ht, if_pos ht]
          refine congrArg (· * _) (Finset.sum_congr rfl fun i _ => ?_)
          rw [B_at, B_at, chunkAt_at _ _ n (W_I m c n.val), chunkAt_at _ _ n (W_I m c n.val), (W_kept m c n.val).1, (W_kept m c n.val).2.1, q_at, k_at]
        · rw [if_neg ht, if_neg ht]
      · rw [mul_comm, state_at m c d b h n.val (by omega), B_at, chunkAt_at _ _ n (W_I m c n.val), (W_kept m c n.val).1, q_at]
    · rw [if_neg hj]
      exact ih (by omega) (by have : n.val ≠ j.val := fun h => hj (Fin.ext h); omega)

/-! ## The results -/

theorem res0_at (R : Fin 16384) (C : Fin 1024) : (Value.out_main_v51 (W m c 64) : FVec Ideal S16384x1024 .f32) (ix2 R C) = Chunk.scanned (arrP m c) (arrLF m c) (arrVM m c) (arrLM m c) 0 R C := by
  unfold Value.out_main_v51
  pointwise
  refine Eq.trans ?_ (out_at m c 0 ⟨R.val / 4096, by omega⟩ ⟨C.val / 128, by omega⟩ 64 (Nat.le_refl _) (Chunk.chunkOf 0 R) (Chunk.tokenOf 0 R) (Chunk.chunkOf 0 R).isLt ⟨C.val % 128, by omega⟩)
  refine congrArg (bufO (W m c 64)) (funext fun a => Fin.ext ?_)
  fin_cases a
  · rfl
  · show R.val / 4096 = 4 * 0 + R.val / 4096; omega
  · rfl
  · rfl
  · rfl

theorem res1_at (R : Fin 16384) (C : Fin 1024) : (Value.out_main_v54 (W m c 64) : FVec Ideal S16384x1024 .f32) (ix2 R C) = Chunk.scanned (arrP m c) (arrLF m c) (arrVM m c) (arrLM m c) 1 R C := by
  unfold Value.out_main_v54
  pointwise
  refine Eq.trans ?_ (out_at m c 1 ⟨R.val / 4096, by omega⟩ ⟨C.val / 128, by omega⟩ 64 (Nat.le_refl _) (Chunk.chunkOf 1 R) (Chunk.tokenOf 1 R) (Chunk.chunkOf 1 R).isLt ⟨C.val % 128, by omega⟩)
  refine congrArg (bufO (W m c 64)) (funext fun a => Fin.ext ?_)
  fin_cases a
  · show (4096 - (R.val % 4096 + 1)) / 64 = (4095 - R.val % 4096) / 64; omega
  · rfl
  · show (4096 - (R.val % 4096 + 1)) % 64 = (4095 - R.val % 4096) % 64; omega
  · rfl
  · rfl
end

/-- The run, both results known. -/
theorem run_value (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c.tc : Thread nD τ).loc main_v51) = (fun i => Chunk.scanned (arrP m c) (arrLF m c) (arrVM m c) (arrLM m c) 0 (i 0) (i 1))
      ∧ r.2.mem ((c.tc : Thread nD τ).loc main_v54) = (fun i => Chunk.scanned (arrP m c) (arrLF m c) (arrVM m c) (arrLM m c) 1 (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1).trans (funext fun i => (congrArg (Value.out_main_v51 (W m c 64)) (funext fun a => by fin_cases a <;> rfl)).trans (res0_at m c (i 0) (i 1))),
    ((h c).2.1).trans (funext fun i => (congrArg (Value.out_main_v54 (W m c 64)) (funext fun a => by fin_cases a <;> rfl)).trans (res1_at m c (i 0) (i 1))), (h c).2.2⟩)
    (Value.run (F := Ideal) m ρ)

end Cert.ReferenceIdeal.Scan

end
-- ==== Proof.Scan.lean ====
/- The recurrence's claims: the frames of the kernel and of its reference, and the equality of their results when every
   logarithm is a number. -/
module

public import proofs.«01_k».proof.Defs
public import proofs.«01_k».proof.Proof.Gen.Kernel
public import proofs.«01_k».proof.Proof.ScanGrid
public import proofs.«01_k».proof.Proof.ScanRef
public import Idealize.ShloMosaic.Lib.ReduceAll

@[expose] public section

set_option maxRecDepth 16384

noncomputable section

namespace Cert.Proof.Scan

open Idealize.ShloMosaic Idealize.ShloMosaic.TcCoe Idealize.SL.Sem Cert.KernelIdeal.Scan Cert.KernelIdeal.Gen

section
variable {F : FTy → Type} [FloatOps F]

/-- Every execution of the kernel ends, with its arguments unchanged and every counter at zero. -/
theorem run_frame (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ fun r => (∀ c : Dev Cert.KernelIdeal.nD,
      r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
      ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
      ∧ r.2.mem ((c : Thread Cert.KernelIdeal.nD Cert.KernelIdeal.τ).loc Cert.KernelIdeal.main_arg3) = m ((c : Thread Cert.KernelIdeal.nD Cert.KernelIdeal.τ).loc Cert.KernelIdeal.main_arg3))
      ∧ r.2.sem = fun _ => 0 :=
  (θ_run Cert.KernelIdeal.defs _ _).mono (fun r h => ⟨fun c => by
    have a := h.1 c
    exact ⟨(a.1 4).trans (((dats m 0 c).arrAt_in 4 rfl _).trans ((A_eq m c 4).trans (V_main_arg0 m c))),
      (a.1 5).trans (((dats m 0 c).arrAt_in 5 rfl _).trans ((A_eq m c 5).trans (V_main_arg1 m c))),
      (a.1 6).trans (((dats m 0 c).arrAt_in 6 rfl _).trans ((A_eq m c 6).trans (V_main_arg2 m c))),
      (a.1 7).trans (((dats m 0 c).arrAt_in 7 rfl _).trans ((A_eq m c 7).trans (V_main_arg3 m c)))⟩, h.2⟩) (run_quiet m ρ)
end

theorem frame_ideal : Cert.quiescent_KernelIdeal := fun m ρ _ => run_frame (F := Ideal) m ρ

/-- The program on bits and the one on extended reals have the same text, so that on bits their bodies are the same. -/
theorem bodies_eq : Cert.Kernel.defs₀ (F := Bits) = Cert.KernelIdeal.defs₀ (F := Bits) := by
  refine congrArg Defs.onTc (funext fun l => funext fun a => ?_)
  fin_cases l
  rfl

theorem defs_eq : Cert.Kernel.defs (F := Bits) = Cert.KernelIdeal.defs (F := Bits) := congrArg (Pipeline.defs _) bodies_eq

theorem frame : Cert.quiescent_Kernel := fun m ρ _ => by
  have h := run_frame (F := Bits) m ρ
  rw [← defs_eq] at h
  exact h

/-- The reference is host operations and one host loop, and declares no semaphore. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Scan.run_value m ρ)

/-- The shape facts the precondition's text uses. -/
theorem facts : Cert.Pre_finite.Facts where
  bcast_S_S16384x2048 := by decide
  reducesTo_S16384x2048_S_d0_1 := by decide
  h_S_ := by decide
  bcast_S_S16x1024 := by decide
  reducesTo_S16x1024_S_d0_1 := by decide

instance : Cert.Pre_finite.Facts := facts

theorem frame_ideal_finite : Cert.quiescent_KernelIdeal_pre_finite := fun m ρ _ => run_frame (F := Ideal) m ρ
theorem frame_reference_finite : Cert.quiescent_ReferenceIdeal_pre_finite := fun m ρ _ => frame_reference m ρ trivial

theorem preserves : Cert.preserves_Kernel_KernelIdeal := trivial

theorem both_one : ∀ a b : BitVec 1, IntOp.andi a b = 1#1 → a = 1#1 ∧ b = 1#1 := by decide

theorem real_of_test (x : EReal) (h : Ideal.cmp .olt (max x (-x)) ⊤ = 1#1) : ∃ r : ℝ, x = (r : EReal) := by
  induction x with
  | bot => exact absurd h (by simp [Ideal.cmp])
  | coe r => exact ⟨r, rfl⟩
  | top => exact absurd h (by simp [Ideal.cmp])

/-- What the precondition says: every logarithm is a number. -/
theorem finite_of_pre (m : (ℓ : Loc Cert.KernelIdeal.nD Cert.KernelIdeal.τ Cert.KernelIdeal.sig) → Buf (Elt Ideal) ℓ) (h : Cert.Pre_KernelIdeal_finite m) (c : Dev Cert.KernelIdeal.nD) : Finite m c := by
  have e := congrFun (h c) ix0
  unfold Cert.Pre_finite.fn at e
  obtain ⟨e1, e2⟩ := both_one _ _ e
  refine ⟨fun R C => ?_, fun R C => ?_⟩
  · have := Host.reduce_andi_all _ _ _ _ _ e1 (ix2 R C)
    pointwise at this
    exact real_of_test _ this
  · have := Host.reduce_andi_all _ _ _ _ _ e2 (ix2 R C)
    pointwise at this
    exact real_of_test _ this

/-- Both programs end with the same two functions of equal arguments. -/
theorem algebraic : Cert.algebraic_KernelIdeal_ReferenceIdeal_pre_finite := by
  intro m ρ m' ρ' hpre hagree
  have e : ∀ c, Cert.ReferenceIdeal.Scan.arrP m' c = arrP m c ∧ Cert.ReferenceIdeal.Scan.arrLF m' c = arrLF m c ∧ Cert.ReferenceIdeal.Scan.arrVM m' c = arrVM m c ∧ Cert.ReferenceIdeal.Scan.arrLM m' c = arrLM m c := fun c => by
    obtain ⟨h0, h1, h2, h3⟩ := hagree c
    unfold Cert.ReferenceIdeal.Scan.arrP Cert.ReferenceIdeal.Scan.arrLF Cert.ReferenceIdeal.Scan.arrVM Cert.ReferenceIdeal.Scan.arrLM Cert.ReferenceIdeal.Scan.argP Cert.ReferenceIdeal.Scan.argF Cert.ReferenceIdeal.Scan.argV Cert.ReferenceIdeal.Scan.argL
    rw [h0, h1, h2, h3]
    exact ⟨rfl, rfl, rfl, rfl⟩
  refine ⟨fun c => G m c 0, fun c => G m c 1, run_value m ρ (finite_of_pre m hpre), ?_⟩
  refine (θ_run Cert.ReferenceIdeal.defs _ _).mono (fun _ h c => ⟨(h c).1.trans ?_, (h c).2.1.trans ?_, (h c).2.2⟩)
    (Cert.ReferenceIdeal.Scan.run_value m' ρ')
  · obtain ⟨h0, h1, h2, h3⟩ := e c
    rw [h0, h1, h2, h3]
    rfl
  · obtain ⟨h0, h1, h2, h3⟩ := e c
    rw [h0, h1, h2, h3]
    rfl

end Cert.Proof.Scan

end
-- ==== Proof.FfnUp.lean ====
/- The feed-forward block's first product. The kernel walks an 8 × 8 grid of row and column blocks; at each point it
   multiplies a 2048 × 2048 block of rows by a 2048 × 1024 block of the weight in four pieces of 512 rows and stores the
   squared positive part. Every element of the result is therefore the squared positive part of one inner product, which
   is what the reference computes. -/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Quiescent

@[expose] public section

set_option maxRecDepth 16384

noncomputable section

namespace Cert.Kernel2Ideal.FfnUp

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The squared positive part of an extended real. -/
def sqpos (s : EReal) : EReal := max s 0 * max s 0

/-- What one grid point stores at `y`, from its block of rows and its block of weight columns. -/
theorem out_apply (x0 : Vec Ideal S2048x2048 .bf16) (x1 : Vec Ideal S2048x1024 .f32) (y : S2048x1024.Idx) :
    out0_2 x0 x1 y = sqpos (∑ k : Fin 2048, x0 (ix2 (y 0) k) * x1 (ix2 k (y 1))) := by
  unfold out0_2
  canon_tiles x h
  all_goals
    open_payloads
    pointwise
    exact congrArg sqpos (Finset.sum_congr rfl fun k _ => by congr 1 <;> blk_ext)

/-- The rows, as launched. -/
abbrev rows (c : Dev nD) : Vec Ideal S16384x2048 .bf16 := m ((c : Thread nD τ).loc main_arg0)

/-- The weight, as launched. -/
abbrev weight (c : Dev nD) : Vec Ideal S2048x8192 .f32 := m ((c : Thread nD τ).loc main_arg1)

/-- The result array: at row `i 0` and column `i 1` the squared positive part of the inner product. -/
def G (c : Dev nD) : Vec Ideal S16384x8192 .bf16 := fun i =>
  sqpos (∑ k : Fin 2048, rows m c (ix2 (i 0) k) * weight m c (ix2 k (i 1)))

theorem idx : ∀ t : Fin cfg0.N, win0_0.index t = ![win0_2.index t 0, 0] ∧ win0_1.index t = ![0, win0_2.index t 1] := by
  decide +kernel

theorem final (c : Dev nD) : (dats m 0 c).arrAt 2 cfg0.N = G m c := by
  refine (dats m 0 c).arrAt_eq_of_covers 2 _ (by decide +kernel) fun t hf y => ?_
  blk_simp
  rw [after0_2, out_apply]
  unfold G
  refine congrArg sqpos (Finset.sum_congr rfl fun k _ => ?_)
  congr 1 <;> blk_ext [iblk, V, idx t]

/-- The run with the result array known, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel2Ideal.FfnUp

/-! ## The claims about this call -/

namespace Cert.Proof.FfnUp

open Idealize.ShloMosaic Idealize.ShloMosaic.TcCoe Idealize.SL.Sem Cert.Kernel2Ideal.FfnUp

theorem frame : Cert.quiescent_Kernel2 := fun m ρ _ => Cert.Kernel2.Gen.frame m ρ

theorem frame_ideal : Cert.quiescent_Kernel2Ideal := fun m ρ _ => Cert.Kernel2Ideal.Gen.frame m ρ

/-- The reference is a list of host operations and declares no semaphore. -/
theorem frame_reference : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem preserves : Cert.preserves_Kernel2_Kernel2Ideal := trivial

/-- Both programs end with the squared positive part of the product, from equal arguments. -/
theorem algebraic : Cert.algebraic_Kernel2Ideal_Reference2Ideal := by
  intro m ρ m' ρ' _ hagree
  refine ⟨fun c => G m c, run m ρ, ?_⟩
  refine (θ_run Cert.Reference2Ideal.defs _ _).mono (fun _ h c => ⟨(h c).1.trans ?_, (h c).2⟩)
    (Cert.Reference2Ideal.Value.run (F := Ideal) m' ρ')
  rw [(hagree c).1, (hagree c).2]
  funext i
  pointwise
  rfl

end Cert.Proof.FfnUp

end
-- ==== Proof.FfnDownRun.lean ====
/- One grid point of the feed-forward block's second product, run on whatever its buffers hold. A point that is not a row
   block's last stores one column tile of the product; the last one does the upper and the lower half of the rows in turn,
   each completed and then normalised. Both are stated as plain functions of the buffers' contents. -/
module

public import proofs.«01_k».proof.Proof.Gen.Kernel3Ideal.Frame
public import proofs.«01_k».proof.Proof.Gen.Kernel3Ideal.Skeleton
public import Idealize.ShloMosaic.Lib.VecWindow

@[expose] public section

set_option maxRecDepth 16384

noncomputable section

namespace Cert.Kernel3Ideal.FfnDown

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point is a row block's last or it is not. -/
theorem cond_cases : ∀ i : grid0.Coords, (k0_cond1 i = 1#1 ∧ ¬ k0_cond2 i = 1#1) ∨ (¬ k0_cond1 i = 1#1 ∧ k0_cond2 i = 1#1) := by
  decide +kernel

/-- The column tile of a grid point: up in even row blocks, down in odd ones. -/
def tile (i : grid0.Coords) : ℕ := if (i 0).val % 2 = 0 then (i 1).val else 3 - (i 1).val

theorem off1_eq : ∀ i : grid0.Coords, k0_off1 i = ![0, 512 * tile i] := by decide +kernel
theorem off2_eq : ∀ i : grid0.Coords, k0_off2 i = ![0, 512 * tile i] := by decide +kernel
theorem off3_eq : ∀ i : grid0.Coords, k0_off3 i = ![256, 512 * tile i] := by decide +kernel

instance (i : grid0.Coords) : ClosedOff (k0_off1 i) := ⟨![0, 512 * tile i], off1_eq i⟩
instance (i : grid0.Coords) : ClosedOff (k0_off2 i) := ⟨![0, 512 * tile i], off2_eq i⟩
instance (i : grid0.Coords) : ClosedOff (k0_off3 i) := ⟨![256, 512 * tile i], off3_eq i⟩

/-- A block of the activations, whole or its rows from `o` on. -/
abbrev allRows (x0 : Vec F S512x8192 .bf16) : Vec F S512x8192 .bf16 := VecWindow.window x0 ![0, 0] ![512, 8192] inb_S512x8192_S512x8192_0_0
abbrev upRows (x0 : Vec F S512x8192 .bf16) : Vec F S256x8192 .bf16 := VecWindow.window x0 ![0, 0] ![256, 8192] inb_S512x8192_S256x8192_0_0
abbrev loRows (x0 : Vec F S512x8192 .bf16) : Vec F S256x8192 .bf16 := VecWindow.window x0 ![256, 0] ![256, 8192] inb_S512x8192_S256x8192_256_0
/-- A block of the weight, whole. -/
abbrev cols (x2 : Vec F S8192x512 .bf16) : Vec F S8192x512 .bf16 := VecWindow.window x2 ![0, 0] ![8192, 512] inb_S8192x512_S8192x512_0_0
/-- The upper and the lower rows of a 512-row block. -/
abbrev up (x : Vec F S512x2048 .f32) : Vec F S256x2048 .f32 := VecWindow.window x ![0, 0] ![256, 2048] inb_S512x2048_S256x2048_0_0
abbrev lo (x : Vec F S512x2048 .f32) : Vec F S256x2048 .f32 := VecWindow.window x ![256, 0] ![256, 2048] inb_S512x2048_S256x2048_256_0
/-- The gains, whole. -/
abbrev gains (x3 : Vec F S1x2048 .f32) : Vec F S1x2048 .f32 := VecWindow.window x3 ![0, 0] ![1, 2048] inb_S1x2048_S1x2048_0_0

/-- A grid point before a row block's last stores one column tile of the product. -/
def stepTile (i : grid0.Coords) (x0 : Vec F S512x8192 .bf16) (x2 : Vec F S8192x512 .bf16) (y : Vec F S512x2048 .f32) : Vec F S512x2048 .f32 :=
  VecWindow.put y ![0, 512 * tile i] ![512, 512] (k0_pay1 (allRows x0) (cols x2))

/-- The last grid point of a row block completes the product of the upper rows … -/
def topTile (i : grid0.Coords) (x0 : Vec F S512x8192 .bf16) (x2 : Vec F S8192x512 .bf16) (y : Vec F S512x2048 .f32) : Vec F S512x2048 .f32 :=
  VecWindow.put y ![0, 512 * tile i] ![256, 512] (k0_pay3 (upRows x0) (cols x2))

/-- … normalises them in place … -/
def topNorm (x1 : Vec F S512x2048 .f32) (x3 : Vec F S1x2048 .f32) (y : Vec F S512x2048 .f32) : Vec F S512x2048 .f32 :=
  VecWindow.put y ![0, 0] ![256, 2048] (k0_pay4 (up y) (up x1) (gains x3))

/-- … completes the product of the lower rows … -/
def botTile (i : grid0.Coords) (x0 : Vec F S512x8192 .bf16) (x2 : Vec F S8192x512 .bf16) (y : Vec F S512x2048 .f32) : Vec F S512x2048 .f32 :=
  VecWindow.put y ![256, 512 * tile i] ![256, 512] (k0_pay5 (loRows x0) (cols x2))

/-- … and normalises these. -/
def botNorm (x1 : Vec F S512x2048 .f32) (x3 : Vec F S1x2048 .f32) (y : Vec F S512x2048 .f32) : Vec F S512x2048 .f32 :=
  VecWindow.put y ![256, 0] ![256, 2048] (k0_pay2 (k0_pay6 (lo y)) (lo x1) (gains x3))

/-- The last grid point of a row block. -/
def stepLast (i : grid0.Coords) (x0 : Vec F S512x8192 .bf16) (x1 : Vec F S512x2048 .f32) (x2 : Vec F S8192x512 .bf16) (x3 : Vec F S1x2048 .f32)
    (y : Vec F S512x2048 .f32) : Vec F S512x2048 .f32 :=
  botNorm x1 x3 (botTile i x0 x2 (topNorm x1 x3 (topTile i x0 x2 y)))

/-- What a grid point makes of the output block it finds. -/
def step (i : grid0.Coords) (x0 : Vec F S512x8192 .bf16) (x1 : Vec F S512x2048 .f32) (x2 : Vec F S8192x512 .bf16) (x3 : Vec F S1x2048 .f32)
    (y : Vec F S512x2048 .f32) : Vec F S512x2048 .f32 :=
  if k0_cond1 i = 1#1 then stepTile i x0 x2 y else stepLast i x0 x1 x2 x3 y

/-- The body at `i` run on five whole buffers leaves the inputs and makes `o` of the output. -/
def RunsTo (i : grid0.Coords) (o : Vec F S512x8192 .bf16 → Vec F S512x2048 .f32 → Vec F S8192x512 .bf16 → Vec F S1x2048 .f32 → Vec F S512x2048 .f32 → Vec F S512x2048 .f32) : Prop :=
  ∀ (c : Dev nD) (arg2 : Memref sig .tc .vmem S512x8192 .bf16) (harg2 : arg2.IsWhole) (arg3 : Memref sig .tc .vmem S512x2048 .f32) (harg3 : arg3.IsWhole)
    (arg4 : Memref sig .tc .vmem S8192x512 .bf16) (harg4 : arg4.IsWhole) (arg5 : Memref sig .tc .vmem S1x2048 .f32) (harg5 : arg5.IsWhole)
    (arg6 : Memref sig .tc .vmem S512x2048 .f32) (harg6 : arg6.IsWhole)
    (x0 : Vec F S512x8192 .bf16) (x1 : Vec F S512x2048 .f32) (x2 : Vec F S8192x512 .bf16) (x3 : Vec F S1x2048 .f32) (y : Vec F S512x2048 .f32)
    (E : Set ℕ) (K : PUnit → sProp 𝕄),
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (o x0 x1 x2 x3 y)) -∗ K ⟨⟩))
      ⊢ wp frame (wpE (defs₀ (F := F)) Variants.none c none) E (cc0_ffn_down i arg2 harg2 arg3 harg3 arg4 harg4 arg5 harg5 arg6 harg6) K

/-- A store over earlier ones puts its payload over what they left. -/
theorem read_put {s : Shape} {e : EltTy} (μ : Memref sig .tc .vmem s e) (f : μ.view.ty.Contents (Elt F)) (L : List (View.Piece (Elt F) s e))
    {off off' size : Fin s.rank → ℕ} (inb : ∀ a, off a + size a ≤ s.size a) (ho : off = off') {Y : Vec F s e}
    (h : μ.view.read (Elt F) (μ.view.writes (Elt F) f L) = Y) (w : (Rect.unit off size inb).shape.Idx → Elt F e) :
    μ.view.read (Elt F) (μ.view.writes (Elt F) f (⟨Rect.unit off size inb, w⟩ :: L)) = VecWindow.put Y off' size w := by
  rw [View.read_writes_cons_put _ _ _ _ _ ho, h]

/-- A store whose payload is computed from a window of what the earlier ones left. -/
theorem read_put_of {s : Shape} {e : EltTy} (μ : Memref sig .tc .vmem s e) (f : μ.view.ty.Contents (Elt F)) (L : List (View.Piece (Elt F) s e))
    {off size : Fin s.rank → ℕ} (inb : ∀ a, off a + size a ≤ s.size a) {Y : Vec F s e}
    (h : μ.view.read (Elt F) (μ.view.writes (Elt F) f L) = Y)
    (g : ((Rect.unit off size inb).shape.Idx → Elt F e) → (Rect.unit off size inb).shape.Idx → Elt F e) :
    μ.view.read (Elt F) (μ.view.writes (Elt F) f (⟨Rect.unit off size inb,
        g (μ.view.readAt (Elt F) (Rect.unit off size inb).toLoadRect (μ.view.writes (Elt F) f L))⟩ :: L))
      = VecWindow.put Y off size (g (VecWindow.window Y off size inb)) := by
  rw [View.read_writes_cons_put _ _ _ _ _ rfl, View.readAt_unit _ _ inb rfl inb, h]

set_option maxHeartbeats 4000000 in
/-- A point before a row block's last. -/
theorem run_tile (i : grid0.Coords) (h1 : k0_cond1 i = 1#1) (h2 : ¬ k0_cond2 i = 1#1) : RunsTo (F := F) i fun x0 _ x2 _ y => stepTile i x0 x2 y := by
  intro c arg2 harg2 arg3 harg3 arg4 harg4 arg5 harg5 arg6 harg6 x0 x1 x2 x3 y E K
  simp only [cc0_ffn_down_eq_skeleton]; unfold cc0_ffn_down_skel
  unfold owns
  iintro ⟨⟨%f0, %hf0, H0⟩, ⟨%f1, %hf1, H1⟩, ⟨%f2, %hf2, H2⟩, ⟨%f3, %hf3, H3⟩, ⟨%f4, %hf4, H4⟩, Hk⟩
  sl_exec (disch := first | sl_exact h1 | sl_exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr; swap; · iexact H4
  ipureintro
  subst hf0 hf2 hf4
  exact read_put arg6 _ _ _ (off1_eq i) rfl _

set_option maxHeartbeats 4000000 in
/-- A row block's last point. -/
theorem run_last (i : grid0.Coords) (h1 : ¬ k0_cond1 i = 1#1) (h2 : k0_cond2 i = 1#1) :
    RunsTo (F := F) i fun x0 x1 x2 x3 y => stepLast i x0 x1 x2 x3 y := by
  intro c arg2 harg2 arg3 harg3 arg4 harg4 arg5 harg5 arg6 harg6 x0 x1 x2 x3 y E K
  simp only [cc0_ffn_down_eq_skeleton]; unfold cc0_ffn_down_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, Hk⟩
  sl_exec (disch := first | sl_exact h1 | sl_exact h2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr; swap; · iexact H4
  ipureintro
  subst hf0 hf1 hf2 hf3 hf4
  refine read_put_of arg6 _ _ inb_S512x2048_S256x2048_256_0 (Y := botTile i _ _ (topNorm _ _ (topTile i _ _ _))) ?_ (fun v => k0_pay2 (k0_pay6 v) _ _)
  refine read_put arg6 _ _ _ (off3_eq i) (Y := topNorm _ _ (topTile i _ _ _)) ?_ _
  refine read_put_of arg6 _ _ inb_S512x2048_S256x2048_0_0 (Y := topTile i _ _ _) ?_ (fun v => k0_pay4 v _ _)
  exact read_put arg6 _ _ _ (off2_eq i) rfl _

theorem run (i : grid0.Coords) : RunsTo (F := F) i (step i) := by
  unfold step
  rcases cond_cases i with ⟨h1, h2⟩ | ⟨h1, h2⟩
  · simp only [if_pos h1]; exact run_tile i h1 h2
  · simp only [if_neg h1]; exact run_last i h1 h2

end Cert.Kernel3Ideal.FfnDown

end
-- ==== Proof.FfnDownFrame.lean ====
/- The pipeline of the feed-forward block's second product, over any floats: every execution ends, leaves the arguments, and
   fills the output buffer as the points' functions say. -/
module

public import proofs.«01_k».proof.Proof.FfnDownRun

@[expose] public section

set_option maxRecDepth 16384

noncomputable section

namespace Cert.Kernel3Ideal.FfnDown

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks of a point, which the body leaves in place; what the output buffer holds is said by `rdat` below. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fun _ => Classical.arbitrary _
  Φ _ := Pipeline.ΦA spec0 c
  q _ := fullShare
  owed _ := 0

/-- The output block after point `t`, from what the point found in it. -/
def stepAt (c : Dev nD) (t : Fin cfg0.N) (y : Vec F S512x2048 .f32) : Vec F S512x2048 .f32 :=
  step (grid0.coords t) (iblk m c 0 t) (iblk m c 1 t) (iblk m c 2 t) (iblk m c 3 t) y

/-- The proof data: a point changes the output block it finds by `stepAt`. A row block's first points leave columns of the
    buffer as the write-back before left them, so that the contents have no closed form before the last. -/
def rdat (c : Dev nD) : RDat τ (Elt F) Unit ℕ (UR sig nD τ) ℕ cfg0 c :=
  (dats m 0 c).toR.override fun w => match w with
    | ⟨4, _⟩ => some fun t Y X => X = stepAt m c t Y
    | _ => none

theorem A_eq (c : Dev nD) (w : Fin cfg0.W) : (rdat m c).A w = V m c (Pipeline.arrRef spec0 w) := rfl

theorem finds_0 (c : Dev nD) (t : Fin cfg0.N) (Y) (h : (rdat m c).Finds 0 t Y) : Y = iblk m c 0 t := by
  obtain ⟨d, rfl⟩ := (dats m 0 c).toR_finds 0 t Y (((dats m 0 c).toR.override_finds rfl t Y).mp h)
  exact before0_0_of m (dats m 0 c) rfl (fun _ => rfl) t d
theorem finds_1 (c : Dev nD) (t : Fin cfg0.N) (Y) (h : (rdat m c).Finds 1 t Y) : Y = iblk m c 1 t := by
  obtain ⟨d, rfl⟩ := (dats m 0 c).toR_finds 1 t Y (((dats m 0 c).toR.override_finds rfl t Y).mp h)
  exact before0_1_of m (dats m 0 c) rfl (fun _ => rfl) t d
theorem finds_2 (c : Dev nD) (t : Fin cfg0.N) (Y) (h : (rdat m c).Finds 2 t Y) : Y = iblk m c 2 t := by
  obtain ⟨d, rfl⟩ := (dats m 0 c).toR_finds 2 t Y (((dats m 0 c).toR.override_finds rfl t Y).mp h)
  exact before0_2_of m (dats m 0 c) rfl (fun _ => rfl) t d
theorem finds_3 (c : Dev nD) (t : Fin cfg0.N) (Y) (h : (rdat m c).Finds 3 t Y) : Y = iblk m c 3 t := by
  obtain ⟨d, rfl⟩ := (dats m 0 c).toR_finds 3 t Y (((dats m 0 c).toR.override_finds rfl t Y).mp h)
  exact before0_3_of m (dats m 0 c) rfl (fun _ => rfl) t d

theorem body_row (t : Fin cfg0.N) : defs₀ (F := F) .tc cfg0.body (cfg0.bodyArgs t (cfg0.slots t)) = bodyAt0 t := by
  unfold defs₀; rw [Defs.onTc_tc]

/-- What a point is handed and hands back, the inputs at their blocks. -/
theorem sound_body (c : Dev nD) (t : Fin cfg0.N) (y : Vec F S512x2048 .f32) :
    iprop((rdat m c).Φ t.castSucc ∗ (rdat m c).owesAt () t.castSucc
        ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare y)
      ⊢ wp frame (wpE (defs₀ (F := F)) Variants.none c none) Set.univ (bodyAt0 t) fun _ =>
        iprop((rdat m c).Φ t.castSucc ∗ (rdat m c).owesAt () t.castSucc
        ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (stepAt m c t y)) := by
  iintro ⟨HΦ, Ho, H0, H1, H2, H3, H4⟩
  iapply (run (F := F) (grid0.coords t) c)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- A buffer held at named contents is held at some contents in a relation, if these are. -/
theorem owns_of {sp : Space} {s : Shape} {e : EltTy} (c : Dev nD) (μ : Memref sig .tc sp s e) (X : Vec F s e) (R : Vec F s e → Prop) (h : R X) :
    (owns (c : Thread nD τ) μ fullShare X : sProp 𝕄) ⊢ iprop(∃ X', ⌜R X'⌝ ∗ owns (c : Thread nD τ) μ fullShare X') := by
  iintro H
  iexists X; isplitr; · ipureintro; exact h
  iexact H

theorem obligation (c : Dev nD) : (rdat m c).BodyObligation (defs₀ (F := F)) Variants.none () Set.univ := fun t Y hY => by
  have h0 := finds_0 m c t _ (hY 0)
  have h1 := finds_1 m c t _ (hY 1)
  have h2 := finds_2 m c t _ (hY 2)
  have h3 := finds_3 m c t _ (hY 3)
  have hΦ : (rdat m c).Φ t.succ = (rdat m c).Φ t.castSucc := rfl
  have ho : (rdat m c).owesAt () t.succ = (rdat m c).owesAt () t.castSucc := rfl
  rw [bigSep_W0, bigSep_W0, body_row, h0, h1, h2, h3, hΦ, ho]
  refine triple_restated (sound_body m c t (Y 4)) rfl .rfl fun _ => ?_
  iintro ⟨HΦ, Ho, H0, H1, H2, H3, H4⟩
  isplitl [HΦ]; · iexact HΦ
  isplitl [Ho]; · iexact Ho
  isplitl [H0]; · iapply (owns_of c _ _ _ ?_); swap; · iexact H0
                  exact rfl
  isplitl [H1]; · iapply (owns_of c _ _ _ ?_); swap; · iexact H1
                  exact rfl
  isplitl [H2]; · iapply (owns_of c _ _ _ ?_); swap; · iexact H2
                  exact rfl
  isplitl [H3]; · iapply (owns_of c _ _ _ ?_); swap; · iexact H3
                  exact rfl
  iapply (owns_of c _ _ _ ?_); swap; · iexact H4
  exact rfl

set_option backward.isDefEq.respectTransparency.types false in
/-- Every execution ends, the arrays at what the proof data allow and every counter at zero. -/
theorem run_quiet : θ_run defs (onTc (τ := τ) (main (F := F))) (s₀ m ρ) (fun r => RDat.FramePost cfg0 (rdat m) (V m) r ∧ r.2.sem = fun _ => 0) :=
  RDat.θ_run_frame (Q' := _) cfgs (0 : Fin 1) launch0 defs₀ Variants.none (rdat m) m ρ main
    (hbody := obligation m) (hshare := fun _ w => by fin_cases w <;> rfl)
    (howed := fun _ _ => rfl) (V := V m) (hmain := hmain m Variants.none) (hA := A_eq m) (hΦ := fun _ _ => rfl)

/-- The arguments are as they were. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨h.1.arr_in c 0 rfl, h.1.arr_in c 1 rfl, h.1.arr_in c 2 rfl, h.1.arr_in c 3 rfl⟩, h.2⟩) (run_quiet m ρ)

end Cert.Kernel3Ideal.FfnDown

end
-- ==== Proof.FfnDownStep.lean ====
/- What the points of the feed-forward block's second product store, element by element over the extended reals. -/
module

public import proofs.«01_k».proof.Proof.FfnDownFrame
public import Idealize.ShloMosaic.Lib.Pipeline.ValueKit
public import Idealize.ShloMosaic.Lib.Pointwise

@[expose] public section

set_option maxRecDepth 16384

noncomputable section

namespace Cert.Kernel3Ideal.FfnDown

open Cert.Kernel3Ideal Cert.Kernel3Ideal.Gen Idealize.ShloMosaic Idealize.ShloMosaic.TcCoe Idealize.SL.Sem

/-- The residual plus the normalised entry `a` of the row `s`, times the gain. -/
def normed (a : EReal) (s : Fin 2048 → EReal) (x g : EReal) : EReal :=
  x + a * Ideal.rsqrt (Ideal.div (∑ q, s q * s q) (Ideal.ofBits FTy.f32 1157627904#32) + Ideal.ofBits FTy.f32 897988541#32) * g

/-- The product of a block of activations and a block of weight columns. -/
def prod (x0 : Vec Ideal S512x8192 .bf16) (x2 : Vec Ideal S8192x512 .bf16) (r j : Fin 512) : EReal := ∑ k : Fin 8192, x0 (ix2 r k) * x2 (ix2 k j)

/-- The element at row `r` and column `k` of an output block with a rectangle stored over it. -/
theorem put_at {r0 c0 h w : ℕ} (Y : Vec Ideal S512x2048 .f32) (p : Vec Ideal ⟨2, ![h, w]⟩ .f32) (r : Fin 512) (k : Fin 2048) :
    VecWindow.put Y ![r0, c0] ![h, w] p (ix2 r k)
      = if hh : (r0 ≤ r.val ∧ r.val < r0 + h) ∧ c0 ≤ k.val ∧ k.val < c0 + w then
          p (ix2 ⟨r.val - r0, by omega⟩ ⟨k.val - c0, by omega⟩) else Y (ix2 r k) := by
  unfold VecWindow.put
  by_cases hh : (r0 ≤ r.val ∧ r.val < r0 + h) ∧ c0 ≤ k.val ∧ k.val < c0 + w
  · rw [dif_pos hh, dif_pos (Fin.forall_fin_two.mpr hh)]
    refine congrArg p (funext fun a => ?_)
    fin_cases a <;> rfl
  · rw [dif_neg hh, dif_neg fun hc => hh (Fin.forall_fin_two.mp hc)]

/-- A window of unit stride at its own indices. -/
theorem window_at {n0 n1 r0 c0 h w : ℕ} {α : Type} (x : (⟨2, ![n0, n1]⟩ : Shape).Idx → α) (inb : ∀ a, (![r0, c0] : Fin 2 → ℕ) a + (![h, w] : Fin 2 → ℕ) a ≤ (⟨2, ![n0, n1]⟩ : Shape).size a)
    (r : Fin h) (k : Fin w) :
    VecWindow.window x ![r0, c0] ![h, w] inb (ix2 r k)
      = x (ix2 ⟨r0 + r.val, by have : r0 + h ≤ n0 := inb 0; omega⟩ ⟨c0 + k.val, by have : c0 + w ≤ n1 := inb 1; omega⟩) :=
  congrArg x (funext fun a => by
    refine Fin.ext ?_
    fin_cases a
    · show r0 + 1 * r.val = r0 + r.val; omega
    · show c0 + 1 * k.val = c0 + k.val; omega)

theorem allRows_at (x0 : Vec Ideal S512x8192 .bf16) (r : Fin 512) (k : Fin 8192) : allRows x0 (ix2 r k) = x0 (ix2 r k) :=
  (window_at x0 _ r k).trans (by simp only [Nat.zero_add])
theorem upRows_at (x0 : Vec Ideal S512x8192 .bf16) (r : Fin 256) (k : Fin 8192) : upRows x0 (ix2 r k) = x0 (ix2 ⟨r.val, by omega⟩ k) :=
  (window_at x0 _ r k).trans (by simp only [Nat.zero_add])
theorem loRows_at (x0 : Vec Ideal S512x8192 .bf16) (r : Fin 256) (k : Fin 8192) : loRows x0 (ix2 r k) = x0 (ix2 ⟨256 + r.val, by omega⟩ k) :=
  (window_at x0 _ r k).trans (by simp only [Nat.zero_add])
theorem cols_at (x2 : Vec Ideal S8192x512 .bf16) (k : Fin 8192) (j : Fin 512) : cols x2 (ix2 k j) = x2 (ix2 k j) :=
  (window_at x2 _ k j).trans (by simp only [Nat.zero_add])
theorem up_at (x : Vec Ideal S512x2048 .f32) (r : Fin 256) (k : Fin 2048) : up x (ix2 r k) = x (ix2 ⟨r.val, by omega⟩ k) :=
  (window_at x _ r k).trans (by simp only [Nat.zero_add])
theorem lo_at (x : Vec Ideal S512x2048 .f32) (r : Fin 256) (k : Fin 2048) : lo x (ix2 r k) = x (ix2 ⟨256 + r.val, by omega⟩ k) :=
  (window_at x _ r k).trans (by simp only [Nat.zero_add])
theorem gains_at (x : Vec Ideal S1x2048 .f32) (k : Fin 2048) : gains x (ix2 0 k) = x (ix2 0 k) :=
  (window_at x _ 0 k).trans (by simp only [Nat.zero_add])

theorem pay1_apply (a : Vec Ideal S512x8192 .bf16) (b : Vec Ideal S8192x512 .bf16) (r j : Fin 512) :
    k0_pay1 a b (ix2 r j) = ∑ k : Fin 8192, a (ix2 r k) * b (ix2 k j) := by
  open_payloads
  pointwise
theorem pay3_apply (a : Vec Ideal S256x8192 .bf16) (b : Vec Ideal S8192x512 .bf16) (r : Fin 256) (j : Fin 512) :
    k0_pay3 a b (ix2 r j) = ∑ k : Fin 8192, a (ix2 r k) * b (ix2 k j) := by
  open_payloads
  pointwise
theorem pay5_apply (a : Vec Ideal S256x8192 .bf16) (b : Vec Ideal S8192x512 .bf16) (r : Fin 256) (j : Fin 512) :
    k0_pay5 a b (ix2 r j) = ∑ k : Fin 8192, a (ix2 r k) * b (ix2 k j) := by
  open_payloads
  pointwise
theorem pay4_apply (v x : Vec Ideal S256x2048 .f32) (g : Vec Ideal S1x2048 .f32) (r : Fin 256) (k : Fin 2048) :
    k0_pay4 v x g (ix2 r k) = normed (v (ix2 r k)) (fun q => v (ix2 r q)) (x (ix2 r k)) (g (ix2 0 k)) := by
  open_payloads
  pointwise
  rfl
theorem pay2_apply (v x : Vec Ideal S256x2048 .f32) (g : Vec Ideal S1x2048 .f32) (r : Fin 256) (k : Fin 2048) :
    k0_pay2 (k0_pay6 v) x g (ix2 r k) = normed (v (ix2 r k)) (fun q => v (ix2 r q)) (x (ix2 r k)) (g (ix2 0 k)) := by
  open_payloads
  pointwise
  rfl

theorem normed_congr {a a' : EReal} {s s' : Fin 2048 → EReal} {x x' g g' : EReal} (ha : a = a') (hs : ∀ q, s q = s' q) (hx : x = x') (hg : g = g') :
    normed a s x g = normed a' s' x' g' := by
  rw [ha, funext hs, hx, hg]

theorem tile_lt : ∀ i : grid0.Coords, tile i < 4 := by decide +kernel

/-- The column of the whole block that is column `j` of the point's tile. -/
def colOf (i : grid0.Coords) (j : Fin 512) : Fin 2048 := ⟨512 * tile i + j.val, by have := tile_lt i; omega⟩

section
variable (i : grid0.Coords) (x0 : Vec Ideal S512x8192 .bf16) (x1 : Vec Ideal S512x2048 .f32) (x2 : Vec Ideal S8192x512 .bf16) (x3 : Vec Ideal S1x2048 .f32)
  (Y : Vec Ideal S512x2048 .f32) (f : Fin 512 → Fin 2048 → EReal)

theorem topNorm_apply (r : Fin 512) (k : Fin 2048) :
    topNorm x1 x3 Y (ix2 r k) = if r.val < 256 then normed (Y (ix2 r k)) (fun q => Y (ix2 r q)) (x1 (ix2 r k)) (x3 (ix2 0 k)) else Y (ix2 r k) := by
  unfold topNorm
  rw [put_at]
  by_cases hc : r.val < 256
  · rw [if_pos hc, dif_pos (by omega), pay4_apply]
    exact normed_congr (up_at Y ⟨r.val, hc⟩ k) (fun q => up_at Y ⟨r.val, hc⟩ q) (up_at x1 ⟨r.val, hc⟩ k) (gains_at x3 k)
  · rw [if_neg hc, dif_neg (by omega)]

theorem botNorm_apply (r : Fin 512) (k : Fin 2048) :
    botNorm x1 x3 Y (ix2 r k) = if 256 ≤ r.val then normed (Y (ix2 r k)) (fun q => Y (ix2 r q)) (x1 (ix2 r k)) (x3 (ix2 0 k)) else Y (ix2 r k) := by
  unfold botNorm
  rw [put_at]
  by_cases hc : 256 ≤ r.val
  · rw [if_pos hc, dif_pos (by omega), pay2_apply]
    have e : ∀ (Z : Vec Ideal S512x2048 .f32) q, lo Z (ix2 (⟨r.val - 256, by omega⟩ : Fin 256) q) = Z (ix2 r q) := fun Z q =>
      (lo_at Z ⟨r.val - 256, by omega⟩ q).trans (congrArg (fun r' => Z (ix2 r' q)) (Fin.ext (by show 256 + (r.val - 256) = r.val; omega)))
    exact normed_congr (e Y k) (fun q => e Y q) (e x1 k) (gains_at x3 k)
  · rw [if_neg hc, dif_neg (by omega)]

variable (hp : ∀ r j, prod x0 x2 r j = f r (colOf i j))
include hp

/-- A tile's point stores the product in its columns and leaves the others. -/
theorem stepTile_apply (r : Fin 512) (k : Fin 2048) :
    stepTile i x0 x2 Y (ix2 r k) = if k.val / 512 = tile i then f r k else Y (ix2 r k) := by
  unfold stepTile
  rw [put_at]
  by_cases hc : k.val / 512 = tile i
  · have e : f r k = prod x0 x2 r ⟨k.val - 512 * tile i, by omega⟩ := by
      rw [hp]; congr 1; exact Fin.ext (by show k.val = 512 * tile i + (k.val - 512 * tile i); omega)
    rw [if_pos hc, dif_pos (by omega), pay1_apply, e]
    exact Finset.sum_congr rfl fun q _ => congrArg₂ (· * ·) (allRows_at x0 r q) (cols_at x2 q ⟨k.val - 512 * tile i, by omega⟩)
  · rw [if_neg hc, dif_neg (by omega)]

theorem topTile_apply (r : Fin 512) (k : Fin 2048) :
    topTile i x0 x2 Y (ix2 r k) = if r.val < 256 ∧ k.val / 512 = tile i then f r k else Y (ix2 r k) := by
  unfold topTile
  rw [put_at]
  by_cases hc : r.val < 256 ∧ k.val / 512 = tile i
  · have e : f r k = prod x0 x2 r ⟨k.val - 512 * tile i, by omega⟩ := by
      rw [hp]; congr 1; exact Fin.ext (by show k.val = 512 * tile i + (k.val - 512 * tile i); omega)
    rw [if_pos hc, dif_pos (by omega), pay3_apply, e]
    exact Finset.sum_congr rfl fun q _ => congrArg₂ (· * ·) (upRows_at x0 ⟨r.val, hc.1⟩ q) (cols_at x2 q ⟨k.val - 512 * tile i, by omega⟩)
  · rw [if_neg hc, dif_neg (by omega)]

theorem botTile_apply (r : Fin 512) (k : Fin 2048) :
    botTile i x0 x2 Y (ix2 r k) = if 256 ≤ r.val ∧ k.val / 512 = tile i then f r k else Y (ix2 r k) := by
  unfold botTile
  rw [put_at]
  by_cases hc : 256 ≤ r.val ∧ k.val / 512 = tile i
  · have e : f r k = prod x0 x2 r ⟨k.val - 512 * tile i, by omega⟩ := by
      rw [hp]; congr 1; exact Fin.ext (by show k.val = 512 * tile i + (k.val - 512 * tile i); omega)
    have e' : (⟨256 + (r.val - 256), by omega⟩ : Fin 512) = r := Fin.ext (by show 256 + (r.val - 256) = r.val; omega)
    rw [if_pos hc, dif_pos (by omega), pay5_apply, e]
    exact Finset.sum_congr rfl fun q _ => congrArg₂ (· * ·) ((loRows_at x0 ⟨r.val - 256, by omega⟩ q).trans (by rw [e'])) (cols_at x2 q ⟨k.val - 512 * tile i, by omega⟩)
  · rw [if_neg hc, dif_neg (by omega)]

/-- The last point of a row block whose other columns hold the product leaves the normalised product added to the residual. -/
theorem stepLast_apply (hY : ∀ r k, k.val / 512 ≠ tile i → Y (ix2 r k) = f r k) (r : Fin 512) (k : Fin 2048) :
    stepLast i x0 x1 x2 x3 Y (ix2 r k) = normed (f r k) (f r) (x1 (ix2 r k)) (x3 (ix2 0 k)) := by
  have etop : ∀ q, r.val < 256 → topTile i x0 x2 Y (ix2 r q) = f r q := fun q h => by
    rw [topTile_apply i x0 x2 Y f hp]
    split
    · rfl
    · exact hY _ _ (by omega)
  have ebot : ∀ q, ¬ r.val < 256 → botTile i x0 x2 (topNorm x1 x3 (topTile i x0 x2 Y)) (ix2 r q) = f r q := fun q h => by
    rw [botTile_apply i x0 x2 _ f hp]
    split
    · rfl
    · rw [topNorm_apply, if_neg h, topTile_apply i x0 x2 Y f hp, if_neg (by omega)]
      exact hY _ _ (by omega)
  unfold stepLast
  by_cases h : r.val < 256
  · rw [botNorm_apply, if_neg (by omega), botTile_apply i x0 x2 _ f hp, if_neg (by omega), topNorm_apply, if_pos h]
    simp only [etop _ h]
  · rw [botNorm_apply, if_pos (by omega)]
    simp only [ebot _ h]

end

end Cert.Kernel3Ideal.FfnDown

end
-- ==== Proof.FfnDown.lean ====
/- The feed-forward block's second product, normalised and added to the residual. For each of 32 blocks of 512 rows the
   kernel walks four tiles of 512 columns, forwards in even blocks and backwards in odd ones. The first three points of a
   block each store one tile of the product in the output buffer; the last completes and normalises the upper 256 rows,
   then the lower ones. Every element of the result is therefore the residual plus the normalised inner product times the
   gain, which is what the reference computes. -/
module

public import proofs.«01_k».proof.Defs
public import proofs.«01_k».proof.Proof.FfnDownStep
public import proofs.«01_k».proof.Proof.Gen.Kernel3.Frame
public import proofs.«01_k».proof.Proof.Gen.Reference3Ideal.Run
public import Idealize.ShloMosaic.Lib.Pipeline.ArrRel
public import Idealize.ShloMosaic.Lib.Quiescent

@[expose] public section

set_option maxRecDepth 16384

noncomputable section

namespace Cert.Kernel3Ideal.FfnDown

open Cert.Kernel3Ideal Cert.Kernel3Ideal.Gen Idealize.ShloMosaic Idealize.ShloMosaic.TcCoe Idealize.SL.Sem
open Idealize.ShloMosaic.Pipeline (Dat RDat)

variable (m : (ℓ : Loc nD τ sig) → Buf (Elt Ideal) ℓ) (ρ : Dev nD → PrngReg)

/-- The activations, the residual, the weight and the gain, as launched. -/
abbrev acts (c : Dev nD) : Vec Ideal S16384x8192 .bf16 := m ((c : Thread nD τ).loc main_arg0)
abbrev resid (c : Dev nD) : Vec Ideal S16384x2048 .f32 := m ((c : Thread nD τ).loc main_arg1)
abbrev weight (c : Dev nD) : Vec Ideal S8192x2048 .bf16 := m ((c : Thread nD τ).loc main_arg2)
abbrev gain (c : Dev nD) : Vec Ideal S1x2048 .f32 := m ((c : Thread nD τ).loc main_arg3)

/-- The product at row `R` and column `k`. -/
def ff (c : Dev nD) (R : Fin 16384) (k : Fin 2048) : EReal := ∑ q : Fin 8192, acts m c (ix2 R q) * weight m c (ix2 q k)

/-- The result array. -/
def G (c : Dev nD) : Vec Ideal S16384x2048 .f32 := fun i =>
  normed (ff m c (i 0) (i 1)) (ff m c (i 0)) (resid m c i) (gain m c (ix2 0 (i 1)))

theorem idx : ∀ t : Fin cfg0.N, win0_0.index t = ![t.val / 4, 0] ∧ win0_1.index t = ![t.val / 4, 0]
    ∧ win0_2.index t = ![0, tile (grid0.coords t)] ∧ win0_3.index t = ![0, 0] ∧ win0_4.index t = ![t.val / 4, 0] := by
  decide +kernel

theorem tile_at : ∀ t : Fin cfg0.N, tile (grid0.coords t) = if t.val / 4 % 2 = 0 then t.val % 4 else 3 - t.val % 4 := by decide +kernel

theorem cond_at : ∀ t : Fin cfg0.N, k0_cond1 (grid0.coords t) = 1#1 ↔ t.val % 4 ≠ 3 := by decide +kernel

theorem t_lt (t : Fin cfg0.N) : t.val < 128 := by have : cfg0.N = 128 := N_0; omega

/-- The row of the arrays that is row `r` of point `t`'s block. -/
def rowOf (t : Fin cfg0.N) (r : Fin 512) : Fin 16384 := ⟨512 * (t.val / 4) + r.val, by have := t_lt t; omega⟩

theorem blk_0 (c : Dev nD) (t : Fin cfg0.N) (r : Fin 512) (k : Fin 8192) : iblk m c 0 t (ix2 r k) = acts m c (ix2 (rowOf t r) k) := by
  unfold rowOf
  blk_ext [iblk, V, idx t]
theorem blk_1 (c : Dev nD) (t : Fin cfg0.N) (r : Fin 512) (k : Fin 2048) : iblk m c 1 t (ix2 r k) = resid m c (ix2 (rowOf t r) k) := by
  unfold rowOf
  blk_ext [iblk, V, idx t]
theorem blk_2 (c : Dev nD) (t : Fin cfg0.N) (k : Fin 8192) (j : Fin 512) : iblk m c 2 t (ix2 k j) = weight m c (ix2 k (colOf (grid0.coords t) j)) := by
  unfold colOf
  blk_ext [iblk, V, idx t]
theorem blk_3 (c : Dev nD) (t : Fin cfg0.N) (k : Fin 2048) : iblk m c 3 t (ix2 0 k) = gain m c (ix2 0 k) := by
  blk_ext [iblk, V, idx t]

/-- The product of a point's blocks is its part of the whole product. -/
theorem prod_at (c : Dev nD) (t : Fin cfg0.N) (r j : Fin 512) :
    prod (iblk m c 0 t) (iblk m c 2 t) r j = ff m c (rowOf t r) (colOf (grid0.coords t) j) :=
  Finset.sum_congr rfl fun k _ => congrArg₂ (· * ·) (blk_0 m c t r k) (blk_2 m c t k j)

/-- A point before a row block's last. -/
theorem stepAt_tile (c : Dev nD) (t : Fin cfg0.N) (ht : t.val % 4 ≠ 3) (Y : Vec Ideal S512x2048 .f32) (r : Fin 512) (k : Fin 2048) :
    stepAt m c t Y (ix2 r k) = if k.val / 512 = tile (grid0.coords t) then ff m c (rowOf t r) k else Y (ix2 r k) := by
  unfold stepAt step
  rw [if_pos ((cond_at t).mpr ht)]
  exact stepTile_apply (grid0.coords t) _ _ Y (fun r k => ff m c (rowOf t r) k) (prod_at m c t) r k

/-- A row block's last point. -/
theorem stepAt_last (c : Dev nD) (t : Fin cfg0.N) (ht : t.val % 4 = 3) (Y : Vec Ideal S512x2048 .f32)
    (hY : ∀ (r : Fin 512) (k : Fin 2048), k.val / 512 ≠ tile (grid0.coords t) → Y (ix2 r k) = ff m c (rowOf t r) k) (r : Fin 512) (k : Fin 2048) :
    stepAt m c t Y (ix2 r k) = normed (ff m c (rowOf t r) k) (ff m c (rowOf t r)) (resid m c (ix2 (rowOf t r) k)) (gain m c (ix2 0 k)) := by
  unfold stepAt step
  rw [if_neg fun h => (cond_at t).mp h ht]
  refine (stepLast_apply (grid0.coords t) _ _ _ _ Y (fun r k => ff m c (rowOf t r) k) (prod_at m c t) hY r k).trans ?_
  rw [blk_1, blk_3]

/-- What a point leaves in the output buffer is made of what it found. -/
theorem leaves_iff (c : Dev nD) (t : Fin cfg0.N) (X : Vec Ideal S512x2048 .f32) (h : (rdat m c).Leaves 4 t X) :
    ∃ Y, (rdat m c).Finds 4 t Y ∧ X = stepAt m c t Y := h

theorem fetch_4 : ∀ t : Fin cfg0.N, (cfg0.win 4).fetch t = false := by decide +kernel

/-- A point that does not begin a row block finds what the point before it left. -/
theorem finds_prev (c : Dev nD) (t : Fin cfg0.N) (ht : t.val % 4 ≠ 0) (Y : Vec Ideal S512x2048 .f32) (h : (rdat m c).Finds 4 t Y) :
    ∃ Z, (rdat m c).Finds 4 ⟨t.val - 1, by omega⟩ Z ∧ Y = stepAt m c ⟨t.val - 1, by omega⟩ Z := by
  rcases ((rdat m c).finds_of_pos (fetch_4 t) (by omega) Y).mp h with hf | hl
  · exact absurd ((flush0_4 _).mp hf) (by show ¬ (t.val - 1) % 4 = 3; omega)
  · exact leaves_iff m c _ Y hl

/-- What a row block's last point leaves. -/
theorem leaves_last (c : Dev nD) (t : Fin cfg0.N) (ht : t.val % 4 = 3) (X : Vec Ideal S512x2048 .f32) (h : (rdat m c).Leaves 4 t X) (r : Fin 512) (k : Fin 2048) :
    X (ix2 r k) = normed (ff m c (rowOf t r) k) (ff m c (rowOf t r)) (resid m c (ix2 (rowOf t r) k)) (gain m c (ix2 0 k)) := by
  have hN : cfg0.N = 128 := N_0
  have ht' := t_lt t
  obtain ⟨Y1, h1, rfl⟩ := leaves_iff m c t X h
  obtain ⟨Y2, h2, rfl⟩ := finds_prev m c t (by omega) Y1 h1
  obtain ⟨Y3, h3, rfl⟩ := finds_prev m c ⟨t.val - 1, by omega⟩ (by show (t.val - 1) % 4 ≠ 0; omega) Y2 h2
  obtain ⟨Y4, h4, rfl⟩ := finds_prev m c ⟨t.val - 1 - 1, by omega⟩ (by show (t.val - 1 - 1) % 4 ≠ 0; omega) Y3 h3
  refine stepAt_last m c t ht _ (fun r k hk => ?_) r k
  have e1 : rowOf ⟨t.val - 1, by omega⟩ r = rowOf t r := Fin.ext (by show 512 * ((t.val - 1) / 4) + r.val = 512 * (t.val / 4) + r.val; omega)
  have e2 : rowOf ⟨t.val - 1 - 1, by omega⟩ r = rowOf t r := Fin.ext (by show 512 * ((t.val - 1 - 1) / 4) + r.val = 512 * (t.val / 4) + r.val; omega)
  have e3 : rowOf ⟨t.val - 1 - 1 - 1, by omega⟩ r = rowOf t r := Fin.ext (by show 512 * ((t.val - 1 - 1 - 1) / 4) + r.val = 512 * (t.val / 4) + r.val; omega)
  rw [tile_at] at hk
  rw [stepAt_tile m c _ (by show (t.val - 1) % 4 ≠ 3; omega), stepAt_tile m c _ (by show (t.val - 1 - 1) % 4 ≠ 3; omega),
    stepAt_tile m c _ (by show (t.val - 1 - 1 - 1) % 4 ≠ 3; omega), tile_at, tile_at, tile_at, e1, e2, e3]
  dsimp only
  have hq : k.val / 512 < 4 := by omega
  have d1 : (t.val - 1) / 4 = t.val / 4 := by omega
  have d2 : (t.val - 1 - 1) / 4 = t.val / 4 := by omega
  have d3 : (t.val - 1 - 1 - 1) / 4 = t.val / 4 := by omega
  have r1 : (t.val - 1) % 4 = 2 := by omega
  have r2 : (t.val - 1 - 1) % 4 = 1 := by omega
  have r3 : (t.val - 1 - 1 - 1) % 4 = 0 := by omega
  rw [d1, d2, d3, r1, r2, r3]
  rw [ht] at hk
  generalize ff m c (rowOf t r) k = z
  split_ifs at hk ⊢ <;> first | rfl | (exfalso; omega)

/-- The result array holds `G`, whatever of the allowed contents the points left. -/
theorem final (c : Dev nD) (after : (w : Fin cfg0.W) → Fin cfg0.N → (cfg0.win w).block.Idx → Elt Ideal (cfg0.win w).elt)
    (h : ∀ w u, (cfg0.win w).flush u = true → (rdat m c).Leaves w u (after w u)) : ((rdat m c).withAfter after).arrAt 4 cfg0.N = G m c := by
  refine ((rdat m c).withAfter after).arrAt_eq_of_covers 4 _ (by decide +kernel) fun t hf y => ?_
  refine Eq.trans ?_ ((leaves_last m c t ((flush0_4 t).mp hf) _ (h 4 t hf) (y 0) (y 1)).trans ?_)
  · exact congrArg (after 4 t) (funext fun a => by fin_cases a <;> rfl)
  · have e0 : ((cfg0.win 4).blk t).view.emb y = ix2 (rowOf t (y 0)) (y 1) := by
      unfold rowOf
      blk_ext [idx t]
    rw [e0]
    rfl

/-- The run with the result array known, the arguments unchanged. -/
theorem run_value : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨by
      obtain ⟨after, ha, hm⟩ := RDat.FramePost.exists_exact h.1 c
      exact (hm 4).trans (final m c after ha),
    h.1.arr_in c 0 rfl, h.1.arr_in c 1 rfl, h.1.arr_in c 2 rfl, h.1.arr_in c 3 rfl⟩) (run_quiet m ρ)

end Cert.Kernel3Ideal.FfnDown

/-! ## The claims about this call -/

namespace Cert.Proof.FfnDown

open Idealize.ShloMosaic Idealize.ShloMosaic.TcCoe Idealize.SL.Sem Cert.Kernel3Ideal.FfnDown

theorem frame_ideal : Cert.quiescent_Kernel3Ideal := fun m ρ _ => run_frame (F := Ideal) m ρ

/-- The program on bits and the one on extended reals have the same text, so that on bits their bodies are the same. -/
theorem bodies_eq : Cert.Kernel3.defs₀ (F := Bits) = Cert.Kernel3Ideal.defs₀ (F := Bits) := by
  refine congrArg Defs.onTc (funext fun l => funext fun a => ?_)
  fin_cases l
  rfl

theorem defs_eq : Cert.Kernel3.defs (F := Bits) = Cert.Kernel3Ideal.defs (F := Bits) := congrArg (Pipeline.defs _) bodies_eq

theorem frame : Cert.quiescent_Kernel3 := fun m ρ _ => by
  have h := run_frame (F := Bits) m ρ
  rw [← defs_eq] at h
  exact h

/-- The reference is a list of host operations and declares no semaphore. -/
theorem frame_reference : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem preserves : Cert.preserves_Kernel3_Kernel3Ideal := trivial

/-- Both programs end with the normalised product added to the residual, from equal arguments. -/
theorem algebraic : Cert.algebraic_Kernel3Ideal_Reference3Ideal := by
  intro m ρ m' ρ' _ hagree
  refine ⟨fun c => G m c, run_value m ρ, ?_⟩
  refine (θ_run Cert.Reference3Ideal.defs _ _).mono (fun _ h c => ⟨(h c).1.trans ?_, (h c).2⟩)
    (Cert.Reference3Ideal.Value.run (F := Ideal) m' ρ')
  obtain ⟨h0, h1, h2, h3⟩ := hagree c
  rw [h0, h1, h2, h3]
  funext i
  pointwise
  rfl

end Cert.Proof.FfnDown

end
-- ==== Proof.InProjRun.lean ====
/- One grid point of the input projection, run on whatever its buffers hold. The first point of a row block normalises its
   rows into a scratch buffer; every point multiplies these by one tile of the weight, 128 rows at a time, and stores the
   product, passed through the tile's own function, into one of the two output buffers. -/
module

public import proofs.«01_k».proof.Proof.Gen.Kernel4Ideal.Frame
public import proofs.«01_k».proof.Proof.Gen.Kernel4Ideal.Skeleton
public import Idealize.ShloMosaic.Lib.VecWindow

@[expose] public section

set_option maxRecDepth 16384

noncomputable section

namespace Cert.Kernel4Ideal.InProj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column tile of a grid point: up in even row blocks, down in odd ones. -/
def tile (i : grid0.Coords) : ℕ := if (i 0).val % 2 = 0 then (i 1).val else 10 - (i 1).val

/-- The test for the first point of a row block, as the body spells it. -/
def first (i : grid0.Coords) : BitVec 1 := Scalar.cmpi .ne (Scalar.extui (Scalar.cmpi .eq (BitVec.ofNat 32 (i 1).val) 0#32)) 0#32

theorem first_iff : ∀ i : grid0.Coords, first i = 1#1 ↔ (i 1).val = 0 := by decide +kernel
theorem cond2_iff : ∀ i : grid0.Coords, k0_cond2 i = 1#1 ↔ tile i < 4 := by decide +kernel
theorem cond3_iff : ∀ i : grid0.Coords, k0_cond3 i = 1#1 ↔ tile i = 4 := by decide +kernel
theorem cond4_iff : ∀ i : grid0.Coords, k0_cond4 i = 1#1 ↔ 5 ≤ tile i ∧ tile i < 8 := by decide +kernel
theorem cond5_iff : ∀ i : grid0.Coords, k0_cond5 i = 1#1 ↔ tile i = 8 := by decide +kernel
theorem cond6_iff : ∀ i : grid0.Coords, k0_cond6 i = 1#1 ↔ 9 ≤ tile i := by decide +kernel

/-- The `n`-th 128 rows of the normalised block. -/
def rowsAt (h : Vec F S1024x2048 .bf16) (n : ℕ) (hn : n < 8) : Vec F S128x2048 .bf16 :=
  VecWindow.window h ![128 * n, 0] ![128, 2048] (Fin.forall_fin_two.mpr ⟨show 128 * n + 128 ≤ 1024 by omega, show 0 + 2048 ≤ 2048 by omega⟩)

/-- An output buffer with the first `wd` columns of its first `n` blocks of 128 rows filled by a function of the same rows of
    the normalised block. -/
def fillRows {e : EltTy} (wd : ℕ) (P : Vec F S128x2048 .bf16 → Vec F ⟨2, ![128, wd]⟩ e) (h : Vec F S1024x2048 .bf16) (y : Vec F S1024x1024 e) :
    (n : ℕ) → n ≤ 8 → Vec F S1024x1024 e
  | 0, _ => y
  | n + 1, hn => VecWindow.put (fillRows wd P h y n (Nat.le_of_succ_le hn)) ![128 * n, 0] ![128, wd] (P (rowsAt h n hn))

/-- The normalised rows. -/
def normRows (x : Vec F S1024x2048 .f32) (g : Vec F S1x2048 .f32) : Vec F S1024x2048 .bf16 := k0_pay66 x g
/-- The leading columns of a weight tile, all that the array's last tile has. -/
def leftCols (w : Vec F S2048x1024 .f32) : Vec F S2048x512 .f32 := VecWindow.window w ![0, 0] ![2048, 512] inb_S2048x1024_S2048x512_0_0

/-- What 128 rows become, by the tile. -/
def scaled (i : grid0.Coords) (w : Vec F S2048x1024 .f32) (h : Vec F S128x2048 .bf16) : Vec F S128x1024 .bf16 := k0_pay70 i (k0_pay6 w) h
def mixed (w : Vec F S2048x1024 .f32) (h : Vec F S128x2048 .bf16) : Vec F S128x1024 .bf16 := k0_pay19 w h
def gated (w : Vec F S2048x1024 .f32) (h : Vec F S128x2048 .bf16) : Vec F S128x1024 .bf16 := k0_pay2 (k0_pay32 w) h
def gatedLeft (w : Vec F S2048x512 .f32) (h : Vec F S128x2048 .bf16) : Vec F S128x512 .bf16 := k0_pay4 (k0_pay39 w) h
def forgotten (w : Vec F S2048x1024 .f32) (l : Vec F S2x1024 .f32) (h : Vec F S128x2048 .bf16) : Vec F S128x1024 .f32 :=
  k0_pay5 (k0_pay65 (k0_pay46 w) h) l

/-- What a point makes of the scratch buffer and of the two output buffers. -/
def newRows (i : grid0.Coords) (x : Vec F S1024x2048 .f32) (g : Vec F S1x2048 .f32) (h : Vec F S1024x2048 .bf16) : Vec F S1024x2048 .bf16 :=
  if first i = 1#1 then normRows x g else h
def newP (i : grid0.Coords) (w : Vec F S2048x1024 .f32) (h : Vec F S1024x2048 .bf16) (y : Vec F S1024x1024 .bf16) : Vec F S1024x1024 .bf16 :=
  if tile i < 4 then fillRows 1024 (scaled i w) h y 8 le_rfl
  else if tile i = 4 then fillRows 1024 (mixed w) h y 8 le_rfl
  else if tile i < 8 then fillRows 1024 (gated w) h y 8 le_rfl
  else if tile i = 8 then fillRows 512 (gatedLeft (leftCols w)) h y 8 le_rfl
  else y
def newF (i : grid0.Coords) (w : Vec F S2048x1024 .f32) (l : Vec F S2x1024 .f32) (h : Vec F S1024x2048 .bf16) (z : Vec F S1024x1024 .f32) : Vec F S1024x1024 .f32 :=
  if 9 ≤ tile i then fillRows 1024 (forgotten w l) h z 8 le_rfl else z

/-- The body at `i` run on seven whole buffers leaves the inputs and changes the others as above. -/
def Runs (i : grid0.Coords) : Prop :=
  ∀ (c : Dev nD) (arg2 : Memref sig .tc .vmem S1024x2048 .f32) (harg2 : arg2.IsWhole) (arg3 : Memref sig .tc .vmem S1x2048 .f32) (harg3 : arg3.IsWhole)
    (arg4 : Memref sig .tc .vmem S2048x1024 .f32) (harg4 : arg4.IsWhole) (arg5 : Memref sig .tc .vmem S2x1024 .f32) (harg5 : arg5.IsWhole)
    (arg6 : Memref sig .tc .vmem S1024x1024 .bf16) (harg6 : arg6.IsWhole) (arg7 : Memref sig .tc .vmem S1024x1024 .f32) (harg7 : arg7.IsWhole)
    (arg8 : Memref sig .tc .vmem S1024x2048 .bf16) (harg8 : arg8.IsWhole)
    (x : Vec F S1024x2048 .f32) (g : Vec F S1x2048 .f32) (w : Vec F S2048x1024 .f32) (l : Vec F S2x1024 .f32)
    (y : Vec F S1024x1024 .bf16) (z : Vec F S1024x1024 .f32) (h : Vec F S1024x2048 .bf16)
    (E : Set ℕ) (K : PUnit → sProp 𝕄),
    iprop(owns (c : Thread nD τ) arg2 fullShare x ∗ owns (c : Thread nD τ) arg3 fullShare g ∗ owns (c : Thread nD τ) arg4 fullShare w
        ∗ owns (c : Thread nD τ) arg5 fullShare l ∗ owns (c : Thread nD τ) arg6 fullShare y ∗ owns (c : Thread nD τ) arg7 fullShare z
        ∗ owns (c : Thread nD τ) arg8 fullShare h
        ∗ (iprop(owns (c : Thread nD τ) arg2 fullShare x ∗ owns (c : Thread nD τ) arg3 fullShare g ∗ owns (c : Thread nD τ) arg4 fullShare w
            ∗ owns (c : Thread nD τ) arg5 fullShare l ∗ owns (c : Thread nD τ) arg6 fullShare (newP i w (newRows i x g h) y)
            ∗ owns (c : Thread nD τ) arg7 fullShare (newF i w l (newRows i x g h) z)
            ∗ owns (c : Thread nD τ) arg8 fullShare (newRows i x g h)) -∗ K ⟨⟩))
      ⊢ wp frame (wpE (defs₀ (F := F)) Variants.none c none) E
          (cc0_in_proj i arg2 harg2 arg3 harg3 arg4 harg4 arg5 harg5 arg6 harg6 arg7 harg7 arg8 harg8) K

/-- One more block of rows stored. -/
theorem read_rows {e : EltTy} {wd : ℕ} (μ : Memref sig .tc .vmem S1024x1024 e) (f : μ.view.ty.Contents (Elt F)) (L : List (View.Piece (Elt F) S1024x1024 e))
    (ν : Memref sig .tc .vmem S1024x2048 .bf16) (k : ν.view.ty.Contents (Elt F)) {h : Vec F S1024x2048 .bf16} (hk : ν.view.read (Elt F) k = h)
    (P : Vec F S128x2048 .bf16 → Vec F ⟨2, ![128, wd]⟩ e) (y : Vec F S1024x1024 e) (n : ℕ) (hn : n + 1 ≤ 8)
    {off off' : Fin 2 → ℕ} (inb : ∀ a, off a + (![128, wd] : Fin 2 → ℕ) a ≤ S1024x1024.size a) (ho : off = ![128 * n, 0])
    (inb' : ∀ a, off' a + (![128, 2048] : Fin 2 → ℕ) a ≤ S1024x2048.size a) (ho' : off' = ![128 * n, 0])
    (hL : μ.view.read (Elt F) (μ.view.writes (Elt F) f L) = fillRows wd P h y n (Nat.le_of_succ_le hn))
    (p : Vec F ⟨2, ![128, wd]⟩ e) (hp : p = P (ν.view.readAt (Elt F) (Rect.unit (s := S1024x2048) off' ![128, 2048] inb').toLoadRect k)) :
    μ.view.read (Elt F) (μ.view.writes (Elt F) f (⟨Rect.unit off ![128, wd] inb, p⟩ :: L)) = fillRows wd P h y (n + 1) hn := by
  rw [View.read_writes_cons_put _ _ _ _ _ ho, hL, hp]
  subst ho' hk
  rfl

/-- Eight blocks of rows stored. -/
theorem read_all {e : EltTy} {wd : ℕ} (μ : Memref sig .tc .vmem S1024x1024 e) (f : μ.view.ty.Contents (Elt F))
    (ν : Memref sig .tc .vmem S1024x2048 .bf16) (k : ν.view.ty.Contents (Elt F)) {h : Vec F S1024x2048 .bf16} (hk : ν.view.read (Elt F) k = h)
    (P : Vec F S128x2048 .bf16 → Vec F ⟨2, ![128, wd]⟩ e) (p0 p1 p2 p3 p4 p5 p6 p7 : Vec F ⟨2, ![128, wd]⟩ e)
    (i0 : ∀ a, (![0, 0] : Fin 2 → ℕ) a + (![128, wd] : Fin 2 → ℕ) a ≤ S1024x1024.size a) (j0 : ∀ a, (![0, 0] : Fin 2 → ℕ) a + (![128, 2048] : Fin 2 → ℕ) a ≤ S1024x2048.size a)
    (h0 : p0 = P (ν.view.readAt (Elt F) (Rect.unit (s := S1024x2048) ![0, 0] ![128, 2048] j0).toLoadRect k))
    (i1 : ∀ a, (![128, 0] : Fin 2 → ℕ) a + (![128, wd] : Fin 2 → ℕ) a ≤ S1024x1024.size a) (j1 : ∀ a, (![128, 0] : Fin 2 → ℕ) a + (![128, 2048] : Fin 2 → ℕ) a ≤ S1024x2048.size a)
    (h1 : p1 = P (ν.view.readAt (Elt F) (Rect.unit (s := S1024x2048) ![128, 0] ![128, 2048] j1).toLoadRect k))
    (i2 : ∀ a, (![256, 0] : Fin 2 → ℕ) a + (![128, wd] : Fin 2 → ℕ) a ≤ S1024x1024.size a) (j2 : ∀ a, (![256, 0] : Fin 2 → ℕ) a + (![128, 2048] : Fin 2 → ℕ) a ≤ S1024x2048.size a)
    (h2 : p2 = P (ν.view.readAt (Elt F) (Rect.unit (s := S1024x2048) ![256, 0] ![128, 2048] j2).toLoadRect k))
    (i3 : ∀ a, (![384, 0] : Fin 2 → ℕ) a + (![128, wd] : Fin 2 → ℕ) a ≤ S1024x1024.size a) (j3 : ∀ a, (![384, 0] : Fin 2 → ℕ) a + (![128, 2048] : Fin 2 → ℕ) a ≤ S1024x2048.size a)
    (h3 : p3 = P (ν.view.readAt (Elt F) (Rect.unit (s := S1024x2048) ![384, 0] ![128, 2048] j3).toLoadRect k))
    (i4 : ∀ a, (![512, 0] : Fin 2 → ℕ) a + (![128, wd] : Fin 2 → ℕ) a ≤ S1024x1024.size a) (j4 : ∀ a, (![512, 0] : Fin 2 → ℕ) a + (![128, 2048] : Fin 2 → ℕ) a ≤ S1024x2048.size a)
    (h4 : p4 = P (ν.view.readAt (Elt F) (Rect.unit (s := S1024x2048) ![512, 0] ![128, 2048] j4).toLoadRect k))
    (i5 : ∀ a, (![640, 0] : Fin 2 → ℕ) a + (![128, wd] : Fin 2 → ℕ) a ≤ S1024x1024.size a) (j5 : ∀ a, (![640, 0] : Fin 2 → ℕ) a + (![128, 2048] : Fin 2 → ℕ) a ≤ S1024x2048.size a)
    (h5 : p5 = P (ν.view.readAt (Elt F) (Rect.unit (s := S1024x2048) ![640, 0] ![128, 2048] j5).toLoadRect k))
    (i6 : ∀ a, (![768, 0] : Fin 2 → ℕ) a + (![128, wd] : Fin 2 → ℕ) a ≤ S1024x1024.size a) (j6 : ∀ a, (![768, 0] : Fin 2 → ℕ) a + (![128, 2048] : Fin 2 → ℕ) a ≤ S1024x2048.size a)
    (h6 : p6 = P (ν.view.readAt (Elt F) (Rect.unit (s := S1024x2048) ![768, 0] ![128, 2048] j6).toLoadRect k))
    (i7 : ∀ a, (![896, 0] : Fin 2 → ℕ) a + (![128, wd] : Fin 2 → ℕ) a ≤ S1024x1024.size a) (j7 : ∀ a, (![896, 0] : Fin 2 → ℕ) a + (![128, 2048] : Fin 2 → ℕ) a ≤ S1024x2048.size a)
    (h7 : p7 = P (ν.view.readAt (Elt F) (Rect.unit (s := S1024x2048) ![896, 0] ![128, 2048] j7).toLoadRect k)) :
    μ.view.read (Elt F) (μ.view.writes (Elt F) f [⟨Rect.unit ![896, 0] ![128, wd] i7, p7⟩, ⟨Rect.unit ![768, 0] ![128, wd] i6, p6⟩, ⟨Rect.unit ![640, 0] ![128, wd] i5, p5⟩, ⟨Rect.unit ![512, 0] ![128, wd] i4, p4⟩, ⟨Rect.unit ![384, 0] ![128, wd] i3, p3⟩, ⟨Rect.unit ![256, 0] ![128, wd] i2, p2⟩, ⟨Rect.unit ![128, 0] ![128, wd] i1, p1⟩, ⟨Rect.unit ![0, 0] ![128, wd] i0, p0⟩])
      = fillRows wd P h (μ.view.read (Elt F) f) 8 le_rfl :=
  read_rows μ f _ ν k hk P _ 7 (by omega) i7 rfl j7 rfl (read_rows μ f _ ν k hk P _ 6 (by omega) i6 rfl j6 rfl (read_rows μ f _ ν k hk P _ 5 (by omega) i5 rfl j5 rfl (read_rows μ f _ ν k hk P _ 4 (by omega) i4 rfl j4 rfl (read_rows μ f _ ν k hk P _ 3 (by omega) i3 rfl j3 rfl (read_rows μ f _ ν k hk P _ 2 (by omega) i2 rfl j2 rfl (read_rows μ f _ ν k hk P _ 1 (by omega) i1 rfl j1 rfl (read_rows μ f _ ν k hk P _ 0 (by omega) i0 rfl j0 rfl rfl p0 h0) p1 h1) p2 h2) p3 h3) p4 h4) p5 h5) p6 h6) p7 h7

/-- A store of a whole buffer. -/
theorem read_whole (ν : Memref sig .tc .vmem S1024x2048 .bf16) (k : ν.view.ty.Contents (Elt F)) (p : Vec F S1024x2048 .bf16) :
    ν.view.read (Elt F) (ν.view.writes (Elt F) k [⟨Rect.unit ![0, 0] S1024x2048.size inb_S1024x2048_S1024x2048_0_0, p⟩]) = p := by
  rw [View.read_writes_cons_put _ _ _ _ _ rfl]
  generalize ν.view.read (Elt F) (ν.view.writes (Elt F) k []) = Y
  funext y
  refine Eq.trans (congrArg (VecWindow.put Y ![0, 0] S1024x2048.size p) ?_)
    (congrFun (VecWindow.window_put_same Y ![0, 0] S1024x2048.size inb_S1024x2048_S1024x2048_0_0 p) y)
  refine funext fun a => Fin.ext ?_
  show (y a).val = (![0, 0] : Fin 2 → ℕ) a + 1 * (y a).val
  have : (![0, 0] : Fin 2 → ℕ) a = 0 := by fin_cases a <;> rfl
  omega

/-- The first point of a row block leaves its normalised rows in the scratch buffer. -/
theorem scratch_first (μ : Memref sig .tc .vmem S1024x2048 .f32) (f : μ.view.ty.Contents (Elt F)) (μ' : Memref sig .tc .vmem S1x2048 .f32)
    (f' : μ'.view.ty.Contents (Elt F)) (ν : Memref sig .tc .vmem S1024x2048 .bf16) (k : ν.view.ty.Contents (Elt F)) (i : grid0.Coords) (hi : first i = 1#1)
    (h : Vec F S1024x2048 .bf16) :
    ν.view.read (Elt F) (ν.view.writes (Elt F) k [⟨Rect.unit ![0, 0] S1024x2048.size inb_S1024x2048_S1024x2048_0_0,
        k0_pay66 (μ.view.readAt (Elt F) (Rect.unit ![0, 0] S1024x2048.size inb_S1024x2048_S1024x2048_0_0).toLoadRect f)
          (μ'.view.readAt (Elt F) (Rect.unit ![0, 0] S1x2048.size inb_S1x2048_S1x2048_0_0).toLoadRect f')⟩])
      = newRows i (μ.view.read (Elt F) f) (μ'.view.read (Elt F) f') h := by
  unfold newRows
  rw [read_whole, if_pos hi, View.readAt_full, View.readAt_full]
  rfl

set_option maxHeartbeats 400000 in
/-- A tile of the first four. -/
theorem run_scaled (i : grid0.Coords) (ht : tile i < 4) : Runs (F := F) i := by
  intro c arg2 harg2 arg3 harg3 arg4 harg4 arg5 harg5 arg6 harg6 arg7 harg7 arg8 harg8 x g w l y z h E K
  have h2 : k0_cond2 i = 1#1 := (cond2_iff i).mpr ht
  have h3 : ¬ k0_cond3 i = 1#1 := fun hc => by have := (cond3_iff i).mp hc; omega
  have h4 : ¬ k0_cond4 i = 1#1 := fun hc => by have := (cond4_iff i).mp hc; omega
  have h5 : ¬ k0_cond5 i = 1#1 := fun hc => by have := (cond5_iff i).mp hc; omega
  have h6 : ¬ k0_cond6 i = 1#1 := fun hc => by have := (cond6_iff i).mp hc; omega
  simp only [cc0_in_proj_eq_skeleton]; unfold cc0_in_proj_skel
  simp only [k0_part16_eq_skeleton]; unfold k0_part16_skel
  simp only [k0_part1_eq_skeleton, k0_part2_eq_skeleton, k0_part3_eq_skeleton]; unfold k0_part1_skel k0_part2_skel k0_part3_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  by_cases h1 : first i = 1#1
  case' pos =>
    obtain ⟨k, hkd, hk⟩ : ∃ k, _ = k ∧ arg8.view.read (Elt F) k = newRows i (arg2.view.read (Elt F) f2) (arg3.view.read (Elt F) f3) (arg8.view.read (Elt F) f8) :=
      ⟨_, rfl, scratch_first arg2 f2 arg3 f3 arg8 arg8.view.junk i h1 _⟩
  case' neg =>
    obtain ⟨k, hkd, hk⟩ : ∃ k, f8 = k ∧ arg8.view.read (Elt F) k = newRows i (arg2.view.read (Elt F) f2) (arg3.view.read (Elt F) f3) (arg8.view.read (Elt F) f8) :=
      ⟨f8, rfl, (if_neg h1).symm⟩
  all_goals
    sl_exec (disch := first | sl_exact h1 | sl_exact h2 | sl_exact h3 | sl_exact h4 | sl_exact h5 | sl_exact h6)
    sl_step
    iapply Hk
    isplitl [H2]
    · iexists _; isplitr; · ipureintro; exact rfl
      iexact H2
    isplitl [H3]
    · iexists _; isplitr; · ipureintro; exact rfl
      iexact H3
    isplitl [H4]
    · iexists _; isplitr; · ipureintro; exact rfl
      iexact H4
    isplitl [H5]
    · iexists _; isplitr; · ipureintro; exact rfl
      iexact H5
    isplitl [H6]
    · iexists _; isplitr; swap; · iexact H6
      ipureintro
      unfold newP; rw [if_pos ht, ← View.readAt_full arg4.view f4 inb_S2048x1024_S2048x1024_0_0]
      refine read_all arg6 _ arg8 k hk (scaled i _) _ _ _ _ _ _ _ _ _ inb_S1024x2048_S128x2048_0_0 ?_ _ inb_S1024x2048_S128x2048_128_0 ?_ _ inb_S1024x2048_S128x2048_256_0 ?_ _ inb_S1024x2048_S128x2048_384_0 ?_ _ inb_S1024x2048_S128x2048_512_0 ?_ _ inb_S1024x2048_S128x2048_640_0 ?_ _ inb_S1024x2048_S128x2048_768_0 ?_ _ inb_S1024x2048_S128x2048_896_0 ?_
      all_goals subst hkd; exact rfl
    isplitl [H7]
    · iexists _; isplitr; swap; · iexact H7
      ipureintro
      exact (if_neg (by omega)).symm
    iexists _; isplitr; swap; · iexact H8
    ipureintro
    first
      | (have h1' : first i = 1#1 := h1
         exact scratch_first arg2 f2 arg3 f3 arg8 f8 i h1' _)
      | (rw [← hkd] at hk; exact hk)

set_option maxHeartbeats 400000 in
/-- The tile of keys, values and gates. -/
theorem run_mixed (i : grid0.Coords) (ht : tile i = 4) : Runs (F := F) i := by
  intro c arg2 harg2 arg3 harg3 arg4 harg4 arg5 harg5 arg6 harg6 arg7 harg7 arg8 harg8 x g w l y z h E K
  have h2 : ¬ k0_cond2 i = 1#1 := fun hc => by have := (cond2_iff i).mp hc; omega
  have h3 : k0_cond3 i = 1#1 := (cond3_iff i).mpr ht
  have h4 : ¬ k0_cond4 i = 1#1 := fun hc => by have := (cond4_iff i).mp hc; omega
  have h5 : ¬ k0_cond5 i = 1#1 := fun hc => by have := (cond5_iff i).mp hc; omega
  have h6 : ¬ k0_cond6 i = 1#1 := fun hc => by have := (cond6_iff i).mp hc; omega
  simp only [cc0_in_proj_eq_skeleton]; unfold cc0_in_proj_skel
  simp only [k0_part16_eq_skeleton]; unfold k0_part16_skel
  simp only [k0_part4_eq_skeleton, k0_part5_eq_skeleton, k0_part6_eq_skeleton]; unfold k0_part4_skel k0_part5_skel k0_part6_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  by_cases h1 : first i = 1#1
  case' pos =>
    obtain ⟨k, hkd, hk⟩ : ∃ k, _ = k ∧ arg8.view.read (Elt F) k = newRows i (arg2.view.read (Elt F) f2) (arg3.view.read (Elt F) f3) (arg8.view.read (Elt F) f8) :=
      ⟨_, rfl, scratch_first arg2 f2 arg3 f3 arg8 arg8.view.junk i h1 _⟩
  case' neg =>
    obtain ⟨k, hkd, hk⟩ : ∃ k, f8 = k ∧ arg8.view.read (Elt F) k = newRows i (arg2.view.read (Elt F) f2) (arg3.view.read (Elt F) f3) (arg8.view.read (Elt F) f8) :=
      ⟨f8, rfl, (if_neg h1).symm⟩
  all_goals
    sl_exec (disch := first | sl_exact h1 | sl_exact h2 | sl_exact h3 | sl_exact h4 | sl_exact h5 | sl_exact h6)
    sl_step
    iapply Hk
    isplitl [H2]
    · iexists _; isplitr; · ipureintro; exact rfl
      iexact H2
    isplitl [H3]
    · iexists _; isplitr; · ipureintro; exact rfl
      iexact H3
    isplitl [H4]
    · iexists _; isplitr; · ipureintro; exact rfl
      iexact H4
    isplitl [H5]
    · iexists _; isplitr; · ipureintro; exact rfl
      iexact H5
    isplitl [H6]
    · iexists _; isplitr; swap; · iexact H6
      ipureintro
      unfold newP; rw [if_neg (by omega), if_pos ht, ← View.readAt_full arg4.view f4 inb_S2048x1024_S2048x1024_0_0]
      refine read_all arg6 _ arg8 k hk (mixed _) _ _ _ _ _ _ _ _ _ inb_S1024x2048_S128x2048_0_0 ?_ _ inb_S1024x2048_S128x2048_128_0 ?_ _ inb_S1024x2048_S128x2048_256_0 ?_ _ inb_S1024x2048_S128x2048_384_0 ?_ _ inb_S1024x2048_S128x2048_512_0 ?_ _ inb_S1024x2048_S128x2048_640_0 ?_ _ inb_S1024x2048_S128x2048_768_0 ?_ _ inb_S1024x2048_S128x2048_896_0 ?_
      all_goals subst hkd; exact rfl
    isplitl [H7]
    · iexists _; isplitr; swap; · iexact H7
      ipureintro
      exact (if_neg (by omega)).symm
    iexists _; isplitr; swap; · iexact H8
    ipureintro
    first
      | (have h1' : first i = 1#1 := h1
         exact scratch_first arg2 f2 arg3 f3 arg8 f8 i h1' _)
      | (rw [← hkd] at hk; exact hk)

set_option maxHeartbeats 400000 in
/-- A tile of gates. -/
theorem run_gated (i : grid0.Coords) (ht : 5 ≤ tile i ∧ tile i < 8) : Runs (F := F) i := by
  intro c arg2 harg2 arg3 harg3 arg4 harg4 arg5 harg5 arg6 harg6 arg7 harg7 arg8 harg8 x g w l y z h E K
  have h2 : ¬ k0_cond2 i = 1#1 := fun hc => by have := (cond2_iff i).mp hc; omega
  have h3 : ¬ k0_cond3 i = 1#1 := fun hc => by have := (cond3_iff i).mp hc; omega
  have h4 : k0_cond4 i = 1#1 := (cond4_iff i).mpr ht
  have h5 : ¬ k0_cond5 i = 1#1 := fun hc => by have := (cond5_iff i).mp hc; omega
  have h6 : ¬ k0_cond6 i = 1#1 := fun hc => by have := (cond6_iff i).mp hc; omega
  simp only [cc0_in_proj_eq_skeleton]; unfold cc0_in_proj_skel
  simp only [k0_part16_eq_skeleton]; unfold k0_part16_skel
  simp only [k0_part7_eq_skeleton, k0_part8_eq_skeleton]; unfold k0_part7_skel k0_part8_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  by_cases h1 : first i = 1#1
  case' pos =>
    obtain ⟨k, hkd, hk⟩ : ∃ k, _ = k ∧ arg8.view.read (Elt F) k = newRows i (arg2.view.read (Elt F) f2) (arg3.view.read (Elt F) f3) (arg8.view.read (Elt F) f8) :=
      ⟨_, rfl, scratch_first arg2 f2 arg3 f3 arg8 arg8.view.junk i h1 _⟩
  case' neg =>
    obtain ⟨k, hkd, hk⟩ : ∃ k, f8 = k ∧ arg8.view.read (Elt F) k = newRows i (arg2.view.read (Elt F) f2) (arg3.view.read (Elt F) f3) (arg8.view.read (Elt F) f8) :=
      ⟨f8, rfl, (if_neg h1).symm⟩
  all_goals
    sl_exec (disch := first | sl_exact h1 | sl_exact h2 | sl_exact h3 | sl_exact h4 | sl_exact h5 | sl_exact h6)
    sl_step
    iapply Hk
    isplitl [H2]
    · iexists _; isplitr; · ipureintro; exact rfl
      iexact H2
    isplitl [H3]
    · iexists _; isplitr; · ipureintro; exact rfl
      iexact H3
    isplitl [H4]
    · iexists _; isplitr; · ipureintro; exact rfl
      iexact H4
    isplitl [H5]
    · iexists _; isplitr; · ipureintro; exact rfl
      iexact H5
    isplitl [H6]
    · iexists _; isplitr; swap; · iexact H6
      ipureintro
      unfold newP; rw [if_neg (by omega), if_neg (by omega), if_pos ht.2, ← View.readAt_full arg4.view f4 inb_S2048x1024_S2048x1024_0_0]
      refine read_all arg6 _ arg8 k hk (gated _) _ _ _ _ _ _ _ _ _ inb_S1024x2048_S128x2048_0_0 ?_ _ inb_S1024x2048_S128x2048_128_0 ?_ _ inb_S1024x2048_S128x2048_256_0 ?_ _ inb_S1024x2048_S128x2048_384_0 ?_ _ inb_S1024x2048_S128x2048_512_0 ?_ _ inb_S1024x2048_S128x2048_640_0 ?_ _ inb_S1024x2048_S128x2048_768_0 ?_ _ inb_S1024x2048_S128x2048_896_0 ?_
      all_goals subst hkd; exact rfl
    isplitl [H7]
    · iexists _; isplitr; swap; · iexact H7
      ipureintro
      exact (if_neg (by omega)).symm
    iexists _; isplitr; swap; · iexact H8
    ipureintro
    first
      | (have h1' : first i = 1#1 := h1
         exact scratch_first arg2 f2 arg3 f3 arg8 f8 i h1' _)
      | (rw [← hkd] at hk; exact hk)

set_option maxHeartbeats 400000 in
/-- The last tile of gates, of which the array has only the left half. -/
theorem run_gatedLeft (i : grid0.Coords) (ht : tile i = 8) : Runs (F := F) i := by
  intro c arg2 harg2 arg3 harg3 arg4 harg4 arg5 harg5 arg6 harg6 arg7 harg7 arg8 harg8 x g w l y z h E K
  have h2 : ¬ k0_cond2 i = 1#1 := fun hc => by have := (cond2_iff i).mp hc; omega
  have h3 : ¬ k0_cond3 i = 1#1 := fun hc => by have := (cond3_iff i).mp hc; omega
  have h4 : ¬ k0_cond4 i = 1#1 := fun hc => by have := (cond4_iff i).mp hc; omega
  have h5 : k0_cond5 i = 1#1 := (cond5_iff i).mpr ht
  have h6 : ¬ k0_cond6 i = 1#1 := fun hc => by have := (cond6_iff i).mp hc; omega
  simp only [cc0_in_proj_eq_skeleton]; unfold cc0_in_proj_skel
  simp only [k0_part16_eq_skeleton]; unfold k0_part16_skel
  simp only [k0_part9_eq_skeleton, k0_part10_eq_skeleton]; unfold k0_part9_skel k0_part10_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  by_cases h1 : first i = 1#1
  case' pos =>
    obtain ⟨k, hkd, hk⟩ : ∃ k, _ = k ∧ arg8.view.read (Elt F) k = newRows i (arg2.view.read (Elt F) f2) (arg3.view.read (Elt F) f3) (arg8.view.read (Elt F) f8) :=
      ⟨_, rfl, scratch_first arg2 f2 arg3 f3 arg8 arg8.view.junk i h1 _⟩
  case' neg =>
    obtain ⟨k, hkd, hk⟩ : ∃ k, f8 = k ∧ arg8.view.read (Elt F) k = newRows i (arg2.view.read (Elt F) f2) (arg3.view.read (Elt F) f3) (arg8.view.read (Elt F) f8) :=
      ⟨f8, rfl, (if_neg h1).symm⟩
  all_goals
    sl_exec (disch := first | sl_exact h1 | sl_exact h2 | sl_exact h3 | sl_exact h4 | sl_exact h5 | sl_exact h6)
    sl_step
    iapply Hk
    isplitl [H2]
    · iexists _; isplitr; · ipureintro; exact rfl
      iexact H2
    isplitl [H3]
    · iexists _; isplitr; · ipureintro; exact rfl
      iexact H3
    isplitl [H4]
    · iexists _; isplitr; · ipureintro; exact rfl
      iexact H4
    isplitl [H5]
    · iexists _; isplitr; · ipureintro; exact rfl
      iexact H5
    isplitl [H6]
    · iexists _; isplitr; swap; · iexact H6
      ipureintro
      unfold newP; rw [if_neg (by omega), if_neg (by omega), if_neg (by omega), if_pos ht]
      refine read_all arg6 _ arg8 k hk (gatedLeft (leftCols _)) _ _ _ _ _ _ _ _ _ inb_S1024x2048_S128x2048_0_0 ?_ _ inb_S1024x2048_S128x2048_128_0 ?_ _ inb_S1024x2048_S128x2048_256_0 ?_ _ inb_S1024x2048_S128x2048_384_0 ?_ _ inb_S1024x2048_S128x2048_512_0 ?_ _ inb_S1024x2048_S128x2048_640_0 ?_ _ inb_S1024x2048_S128x2048_768_0 ?_ _ inb_S1024x2048_S128x2048_896_0 ?_
      all_goals subst hkd; exact rfl
    isplitl [H7]
    · iexists _; isplitr; swap; · iexact H7
      ipureintro
      exact (if_neg (by omega)).symm
    iexists _; isplitr; swap; · iexact H8
    ipureintro
    first
      | (have h1' : first i = 1#1 := h1
         exact scratch_first arg2 f2 arg3 f3 arg8 f8 i h1' _)
      | (rw [← hkd] at hk; exact hk)

set_option maxHeartbeats 400000 in
/-- A tile of forget gates. -/
theorem run_forgotten (i : grid0.Coords) (ht : 9 ≤ tile i) : Runs (F := F) i := by
  intro c arg2 harg2 arg3 harg3 arg4 harg4 arg5 harg5 arg6 harg6 arg7 harg7 arg8 harg8 x g w l y z h E K
  have h2 : ¬ k0_cond2 i = 1#1 := fun hc => by have := (cond2_iff i).mp hc; omega
  have h3 : ¬ k0_cond3 i = 1#1 := fun hc => by have := (cond3_iff i).mp hc; omega
  have h4 : ¬ k0_cond4 i = 1#1 := fun hc => by have := (cond4_iff i).mp hc; omega
  have h5 : ¬ k0_cond5 i = 1#1 := fun hc => by have := (cond5_iff i).mp hc; omega
  have h6 : k0_cond6 i = 1#1 := (cond6_iff i).mpr ht
  simp only [cc0_in_proj_eq_skeleton]; unfold cc0_in_proj_skel
  simp only [k0_part16_eq_skeleton]; unfold k0_part16_skel
  simp only [k0_part11_eq_skeleton, k0_part12_eq_skeleton, k0_part13_eq_skeleton, k0_part14_eq_skeleton, k0_part15_eq_skeleton]; unfold k0_part11_skel k0_part12_skel k0_part13_skel k0_part14_skel k0_part15_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2 hf3 hf4 hf5 hf6 hf7 hf8
  by_cases h1 : first i = 1#1
  case' pos =>
    obtain ⟨k, hkd, hk⟩ : ∃ k, _ = k ∧ arg8.view.read (Elt F) k = newRows i (arg2.view.read (Elt F) f2) (arg3.view.read (Elt F) f3) (arg8.view.read (Elt F) f8) :=
      ⟨_, rfl, scratch_first arg2 f2 arg3 f3 arg8 arg8.view.junk i h1 _⟩
  case' neg =>
    obtain ⟨k, hkd, hk⟩ : ∃ k, f8 = k ∧ arg8.view.read (Elt F) k = newRows i (arg2.view.read (Elt F) f2) (arg3.view.read (Elt F) f3) (arg8.view.read (Elt F) f8) :=
      ⟨f8, rfl, (if_neg h1).symm⟩
  all_goals
    sl_exec (disch := first | sl_exact h1 | sl_exact h2 | sl_exact h3 | sl_exact h4 | sl_exact h5 | sl_exact h6)
    sl_step
    iapply Hk
    isplitl [H2]
    · iexists _; isplitr; · ipureintro; exact rfl
      iexact H2
    isplitl [H3]
    · iexists _; isplitr; · ipureintro; exact rfl
      iexact H3
    isplitl [H4]
    · iexists _; isplitr; · ipureintro; exact rfl
      iexact H4
    isplitl [H5]
    · iexists _; isplitr; · ipureintro; exact rfl
      iexact H5
    isplitl [H6]
    · iexists _; isplitr; swap; · iexact H6
      ipureintro
      unfold newP; rw [if_neg (by omega), if_neg (by omega), if_neg (by omega), if_neg (by omega)]
    isplitl [H7]
    · iexists _; isplitr; swap; · iexact H7
      ipureintro
      unfold newF; rw [if_pos ht, ← View.readAt_full arg4.view f4 inb_S2048x1024_S2048x1024_0_0, ← View.readAt_full arg5.view f5 inb_S2x1024_S2x1024_0_0]
      refine read_all arg7 _ arg8 k hk (forgotten _ _) _ _ _ _ _ _ _ _ _ inb_S1024x2048_S128x2048_0_0 ?_ _ inb_S1024x2048_S128x2048_128_0 ?_ _ inb_S1024x2048_S128x2048_256_0 ?_ _ inb_S1024x2048_S128x2048_384_0 ?_ _ inb_S1024x2048_S128x2048_512_0 ?_ _ inb_S1024x2048_S128x2048_640_0 ?_ _ inb_S1024x2048_S128x2048_768_0 ?_ _ inb_S1024x2048_S128x2048_896_0 ?_
      all_goals subst hkd; exact rfl
    iexists _; isplitr; swap; · iexact H8
    ipureintro
    first
      | (have h1' : first i = 1#1 := h1
         exact scratch_first arg2 f2 arg3 f3 arg8 f8 i h1' _)
      | (rw [← hkd] at hk; exact hk)

/-- One grid point. -/
theorem run (i : grid0.Coords) : Runs (F := F) i := by
  by_cases h2 : tile i < 4
  · exact run_scaled i h2
  by_cases h3 : tile i = 4
  · exact run_mixed i h3
  by_cases h4 : tile i < 8
  · exact run_gated i (by omega)
  by_cases h5 : tile i = 8
  · exact run_gatedLeft i h5
  exact run_forgotten i (by omega)

end Cert.Kernel4Ideal.InProj

end
-- ==== Proof.InProjFrame.lean ====
/- The pipeline of the input projection, over any floats: every execution ends, leaves the arguments, and fills the output
   buffers as the points' functions say. -/
module

public import proofs.«01_k».proof.Proof.InProjRun

@[expose] public section

set_option maxRecDepth 16384

noncomputable section

namespace Cert.Kernel4Ideal.InProj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem first_at : ∀ t : Fin cfg0.N, first (grid0.coords t) = 1#1 ↔ t.val % 11 = 0 := by decide +kernel

/-- The first point of `t`'s row block. -/
def start (t : Fin cfg0.N) : Fin cfg0.N := ⟨t.val - t.val % 11, Nat.lt_of_le_of_lt (Nat.sub_le _ _) t.isLt⟩

/-- The normalised rows of `t`'s row block, which the scratch buffer holds after point `t`. -/
def normAt (c : Dev nD) (t : Fin cfg0.N) : Vec F S1024x2048 .bf16 := normRows (iblk m c 0 (start t)) (iblk m c 1 (start t))

theorem newRows_first (c : Dev nD) (t : Fin cfg0.N) (ht : t.val % 11 = 0) (h : Vec F S1024x2048 .bf16) :
    newRows (grid0.coords t) (iblk m c 0 t) (iblk m c 1 t) h = normAt m c t := by
  unfold newRows normAt
  rw [if_pos ((first_at t).mpr ht), show start t = t from Fin.ext (by show t.val - t.val % 11 = t.val; omega)]

theorem newRows_later (c : Dev nD) (t t' : Fin cfg0.N) (ht : t.val % 11 ≠ 0) (he : t'.val + 1 = t.val) :
    newRows (grid0.coords t) (iblk m c 0 t) (iblk m c 1 t) (normAt m c t') = normAt m c t := by
  unfold newRows normAt
  rw [if_neg fun h => ht ((first_at t).mp h), show start t' = start t from Fin.ext (by show t'.val - t'.val % 11 = t.val - t.val % 11; omega)]

/-- What the body keeps from one point to the next: the scratch buffer at its block's rows. -/
def Phi (c : Dev nD) : (n : ℕ) → n ≤ cfg0.N → sProp 𝕄
  | 0, _ => Pipeline.ΦA spec0 c
  | n + 1, h => iprop(owns (c : Thread nD τ) (Memref.whole cc0_scratch0) fullShare (normAt m c ⟨n, h⟩) ∗ ∃ r, prngReg c r)

/-- The input blocks of a point, which the body leaves in place; the weight tile, cut at the array's edge, and the outputs are
    said by `rdat` below. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => fun _ => Classical.arbitrary _
    | ⟨3, _⟩ => iblk m c 3 t
    | ⟨4, _⟩ => fun _ => Classical.arbitrary _
    | ⟨5, _⟩ => fun _ => Classical.arbitrary _
  Φ t := Phi m c t.val (Nat.le_of_lt_succ t.isLt)
  q _ := fullShare
  owed _ := 0

/-- The weight tile of a point, with `d` beyond the array's edge. -/
abbrev wtile (c : Dev nD) (t : Fin cfg0.N) (d : Vec F S2048x1024 .f32) : Vec F S2048x1024 .f32 := (dats m 0 c).fetched 2 t d

/-- The output buffers after point `t`, from what the point found in them. -/
def nextP (c : Dev nD) (t : Fin cfg0.N) (d : Vec F S2048x1024 .f32) (y : Vec F S1024x1024 .bf16) : Vec F S1024x1024 .bf16 :=
  newP (grid0.coords t) (wtile m c t d) (normAt m c t) y
def nextF (c : Dev nD) (t : Fin cfg0.N) (d : Vec F S2048x1024 .f32) (z : Vec F S1024x1024 .f32) : Vec F S1024x1024 .f32 :=
  newF (grid0.coords t) (wtile m c t d) (iblk m c 3 t) (normAt m c t) z

/-- The proof data: the weight tile stays as found, the output buffers change as `nextP` and `nextF` say, at some contents
    of the tile beyond the array's edge. -/
def rdat (c : Dev nD) : RDat τ (Elt F) Unit ℕ (UR sig nD τ) ℕ cfg0 c :=
  (dats m 0 c).toR.override fun w => match w with
    | ⟨2, _⟩ => some fun t Y X => X = Y
    | ⟨4, _⟩ => some fun t Y X => ∃ d, X = nextP m c t d Y
    | ⟨5, _⟩ => some fun t Y X => ∃ d, X = nextF m c t d Y
    | _ => none

theorem A_eq (c : Dev nD) (w : Fin cfg0.W) : (rdat m c).A w = V m c (Pipeline.arrRef spec0 w) := rfl

theorem finds_0 (c : Dev nD) (t : Fin cfg0.N) (Y) (h : (rdat m c).Finds 0 t Y) : Y = iblk m c 0 t := by
  obtain ⟨d, rfl⟩ := (dats m 0 c).toR_finds 0 t Y (((dats m 0 c).toR.override_finds rfl t Y).mp h)
  exact before0_0_of m (dats m 0 c) rfl (fun _ => rfl) t d
theorem finds_1 (c : Dev nD) (t : Fin cfg0.N) (Y) (h : (rdat m c).Finds 1 t Y) : Y = iblk m c 1 t := by
  obtain ⟨d, rfl⟩ := (dats m 0 c).toR_finds 1 t Y (((dats m 0 c).toR.override_finds rfl t Y).mp h)
  exact before0_1_of m (dats m 0 c) rfl (fun _ => rfl) t d
theorem finds_3 (c : Dev nD) (t : Fin cfg0.N) (Y) (h : (rdat m c).Finds 3 t Y) : Y = iblk m c 3 t := by
  obtain ⟨d, rfl⟩ := (dats m 0 c).toR_finds 3 t Y (((dats m 0 c).toR.override_finds rfl t Y).mp h)
  exact before0_3_of m (dats m 0 c) rfl (fun _ => rfl) t d

/-- The tiles' columns, and so the cuts at the array's edge, go by the block index. -/
theorem clip_2 (t t' : Fin cfg0.N) (h : (cfg0.win 2).index t = (cfg0.win 2).index t') :
    (cfg0.win 2).clip (cfg0.grid.coords t) = (cfg0.win 2).clip (cfg0.grid.coords t') :=
  congrArg (fun (ix : Fin 2 → ℕ) (a : Fin 2) => Pipeline.Clip.of (ix a) (S2048x1024.size a) (S2048x10752.size a)) h

theorem finds_2 (c : Dev nD) (t : Fin cfg0.N) (Y) (h : (rdat m c).Finds 2 t Y) : ∃ d, Y = wtile m c t d :=
  (rdat m c).finds_in_eq_fetched 2 rfl (clip_2) (fun _ _ _ h => h) t Y h

theorem body_row (t : Fin cfg0.N) : defs₀ (F := F) .tc cfg0.body (cfg0.bodyArgs t (cfg0.slots t)) = bodyAt0 t := by
  unfold defs₀; rw [Defs.onTc_tc]

theorem PhiA_eq (c : Dev nD) : (Pipeline.ΦA spec0 c : sProp 𝕄)
    = iprop((∃ h, owns (c : Thread nD τ) (Memref.whole cc0_scratch0) fullShare h) ∗ ∃ r, prngReg c r) := by
  unfold Pipeline.ΦA
  rw [scopedRest0_eq]
  simp only [owns_whole]

/-- Before a point the scratch buffer holds something from which the point makes its block's rows. -/
theorem Phi_before (c : Dev nD) (t : Fin cfg0.N) :
    Phi m c t.val (Nat.le_of_lt t.isLt)
      ⊢ iprop(∃ h, ⌜newRows (grid0.coords t) (iblk m c 0 t) (iblk m c 1 t) h = normAt m c t⌝
          ∗ owns (c : Thread nD τ) (Memref.whole cc0_scratch0) fullShare h ∗ ∃ r, prngReg c r) := by
  obtain ⟨n, hn⟩ := t
  cases n with
  | zero =>
    rw [show Phi m c 0 (Nat.le_of_lt hn) = Pipeline.ΦA spec0 c from rfl, PhiA_eq]
    iintro ⟨⟨%h, H⟩, Hg⟩
    iexists h
    isplitr; · ipureintro; exact newRows_first m c ⟨0, hn⟩ rfl h
    isplitl [H]; · iexact H
    iexact Hg
  | succ n =>
    rw [show Phi m c (n + 1) (Nat.le_of_lt hn) = iprop(owns (c : Thread nD τ) (Memref.whole cc0_scratch0) fullShare (normAt m c ⟨n, Nat.le_of_lt hn⟩) ∗ ∃ r, prngReg c r) from rfl]
    iintro ⟨H, Hg⟩
    iexists _
    isplitr; swap
    · isplitl [H]; · iexact H
      iexact Hg
    ipureintro
    by_cases ht : (n + 1) % 11 = 0
    · exact newRows_first m c ⟨n + 1, hn⟩ ht _
    · exact newRows_later m c ⟨n + 1, hn⟩ ⟨n, Nat.le_of_lt hn⟩ ht rfl

/-- What a point is handed and hands back, the inputs at their blocks. -/
theorem sound_body (c : Dev nD) (t : Fin cfg0.N) (d : Vec F S2048x1024 .f32) (y : Vec F S1024x1024 .bf16) (z : Vec F S1024x1024 .f32) :
    iprop(Phi m c t.val (Nat.le_of_lt t.isLt) ∗ (rdat m c).owesAt () t.castSucc
        ∗ owns (c : Thread nD τ) (st0_0 t) fullShare (iblk m c 0 t) ∗ owns (c : Thread nD τ) (st0_1 t) fullShare (iblk m c 1 t)
        ∗ owns (c : Thread nD τ) (st0_2 t) fullShare (wtile m c t d) ∗ owns (c : Thread nD τ) (st0_3 t) fullShare (iblk m c 3 t)
        ∗ owns (c : Thread nD τ) (st0_4 t) fullShare y ∗ owns (c : Thread nD τ) (st0_5 t) fullShare z)
      ⊢ wp frame (wpE (defs₀ (F := F)) Variants.none c none) Set.univ (bodyAt0 t) fun _ =>
        iprop(Phi m c (t.val + 1) t.isLt ∗ (rdat m c).owesAt () t.castSucc
        ∗ owns (c : Thread nD τ) (st0_0 t) fullShare (iblk m c 0 t) ∗ owns (c : Thread nD τ) (st0_1 t) fullShare (iblk m c 1 t)
        ∗ owns (c : Thread nD τ) (st0_2 t) fullShare (wtile m c t d) ∗ owns (c : Thread nD τ) (st0_3 t) fullShare (iblk m c 3 t)
        ∗ owns (c : Thread nD τ) (st0_4 t) fullShare (nextP m c t d y) ∗ owns (c : Thread nD τ) (st0_5 t) fullShare (nextF m c t d z)) := by
  iintro ⟨HΦ, Ho, H0, H1, H2, H3, H4, H5⟩
  ihave HΦ' := (Phi_before m c t) $$ [HΦ]
  · iexact HΦ
  icases HΦ' with ⟨%h, %hh, Hs, Hg⟩
  iapply (run (F := F) (grid0.coords t) c)
  isplitl [H0]; · iexact H0
  isplitl [H1]; · iexact H1
  isplitl [H2]; · iexact H2
  isplitl [H3]; · iexact H3
  isplitl [H4]; · iexact H4
  isplitl [H5]; · iexact H5
  isplitl [Hs]; · iexact Hs
  rw [hh, show Phi m c (t.val + 1) t.isLt = iprop(owns (c : Thread nD τ) (Memref.whole cc0_scratch0) fullShare (normAt m c t) ∗ ∃ r, prngReg c r) from rfl]
  iintro ⟨H0, H1, H2, H3, H4, H5, Hs⟩
  isplitl [Hs Hg]
  · isplitl [Hs]; · iexact Hs
    iexact Hg
  isplitl [Ho]; · iexact Ho
  isplitl [H0]; · iexact H0
  isplitl [H1]; · iexact H1
  isplitl [H2]; · iexact H2
  isplitl [H3]; · iexact H3
  isplitl [H4]; · iexact H4
  iexact H5

/-- A buffer held at named contents is held at some contents in a relation, if these are. -/
theorem owns_of {sp : Space} {s : Shape} {e : EltTy} (c : Dev nD) (μ : Memref sig .tc sp s e) (X : Vec F s e) (R : Vec F s e → Prop) (h : R X) :
    (owns (c : Thread nD τ) μ fullShare X : sProp 𝕄) ⊢ iprop(∃ X', ⌜R X'⌝ ∗ owns (c : Thread nD τ) μ fullShare X') := by
  iintro H
  iexists X; isplitr; · ipureintro; exact h
  iexact H

theorem obligation (c : Dev nD) : (rdat m c).BodyObligation (defs₀ (F := F)) Variants.none () Set.univ := fun t Y hY => by
  have h0 := finds_0 m c t _ (hY 0)
  have h1 := finds_1 m c t _ (hY 1)
  obtain ⟨d, h2⟩ := finds_2 m c t _ (hY 2)
  have h3 := finds_3 m c t _ (hY 3)
  have hΦ : (rdat m c).Φ t.succ = Phi m c (t.val + 1) t.isLt := rfl
  have hΦ' : (rdat m c).Φ t.castSucc = Phi m c t.val (Nat.le_of_lt t.isLt) := rfl
  have ho : (rdat m c).owesAt () t.succ = (rdat m c).owesAt () t.castSucc := rfl
  rw [bigSep_W0, bigSep_W0, body_row, h0, h1, h2, h3, hΦ, hΦ', ho]
  refine triple_restated (sound_body m c t d (Y 4) (Y 5)) rfl .rfl fun _ => ?_
  iintro ⟨HΦ, Ho, H0, H1, H2, H3, H4, H5⟩
  isplitl [HΦ]; · iexact HΦ
  isplitl [Ho]; · iexact Ho
  isplitl [H0]; · iapply (owns_of c _ _ _ ?_); swap; · iexact H0
                  exact rfl
  isplitl [H1]; · iapply (owns_of c _ _ _ ?_); swap; · iexact H1
                  exact rfl
  isplitl [H2]; · iapply (owns_of c _ _ _ ?_); swap; · iexact H2
                  exact rfl
  isplitl [H3]; · iapply (owns_of c _ _ _ ?_); swap; · iexact H3
                  exact rfl
  isplitl [H4]; · iapply (owns_of c _ _ _ ?_); swap; · iexact H4
                  exact ⟨d, rfl⟩
  iapply (owns_of c _ _ _ ?_); swap; · iexact H5
  exact ⟨d, rfl⟩

theorem hin (c : Dev nD) : Pipeline.ΦA spec0 c ⊢ (rdat m c).Φ 0 := Idealize.SL.BI.Entails.refl _

theorem hout (c : Dev nD) : (rdat m c).Φ (Fin.last cfg0.N) ⊢ Pipeline.ΦA spec0 c := by
  have e : ∀ n (hn : n ≤ cfg0.N), n ≠ 0 → Phi m c n hn ⊢ Pipeline.ΦA spec0 c := fun n hn hz => by
    cases n with
    | zero => exact absurd rfl hz
    | succ n =>
      rw [PhiA_eq]
      unfold Phi
      iintro ⟨H, Hg⟩
      isplitl [H]; · iexists _; iexact H
      iexact Hg
  exact e cfg0.N (Nat.le_refl _) (by have : cfg0.N = 176 := N_0; omega)

set_option backward.isDefEq.respectTransparency.types false in
/-- Every execution ends, the arrays at what the proof data allow and every counter at zero. -/
theorem run_quiet : θ_run defs (onTc (τ := τ) (main (F := F))) (s₀ m ρ) (fun r => RDat.FramePost cfg0 (rdat m) (V m) r ∧ r.2.sem = fun _ => 0) :=
  RDat.θ_run_frame_track (Q' := _) cfgs (0 : Fin 1) launch0 defs₀ Variants.none (rdat m) m ρ main
    (hbody := obligation m) (hshare := fun _ w => by fin_cases w <;> rfl)
    (howed := fun _ _ => rfl) (V := V m) (hmain := hmain m Variants.none) (hA := A_eq m) (hin := hin m) (hout := hout m)

/-- The arguments are as they were. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨h.1.arr_in c 0 rfl, h.1.arr_in c 1 rfl, h.1.arr_in c 2 rfl, h.1.arr_in c 3 rfl⟩, h.2⟩) (run_quiet m ρ)

end Cert.Kernel4Ideal.InProj

end
-- ==== Proof.InProjStep.lean ====
/- What the points of the input projection store, element by element over the extended reals. -/
module

public import proofs.«01_k».proof.Proof.InProjFrame
public import Idealize.ShloMosaic.Lib.Pipeline.ValueKit
public import Idealize.ShloMosaic.Lib.Pointwise

@[expose] public section

set_option maxRecDepth 16384

noncomputable section

namespace Cert.Kernel4Ideal.InProj

open Cert.Kernel4Ideal Cert.Kernel4Ideal.Gen Idealize.ShloMosaic Idealize.ShloMosaic.TcCoe Idealize.SL.Sem

/-- The logistic function as both programs compute it. -/
def sigm (a : EReal) : EReal := Ideal.div 1 (1 + Ideal.exp (0 - a))

/-- An entry of the normalised row `x` under the gains `g`. -/
def normed (x g : Fin 2048 → EReal) (k : Fin 2048) : EReal :=
  x k * Ideal.rsqrt (Ideal.div (∑ q, x q * x q) (Ideal.ofBits FTy.f32 1157627904#32) + Ideal.ofBits FTy.f32 897988541#32) * g k

/-- The inner product of a row and a column. -/
def dot (s w : Fin 2048 → EReal) : EReal := ∑ q, s q * w q

/-- The first of two weights: the exponentials of the logits less the larger, normalised. -/
def weight0 (l : Fin 2 → EReal) : EReal :=
  Ideal.div (Ideal.exp (l 0 - Finset.fold max (Ideal.ofBits FTy.f32 4286578688#32) l Finset.univ))
    (∑ x, Ideal.exp (l x - Finset.fold max (Ideal.ofBits FTy.f32 4286578688#32) l Finset.univ))

/-- The logarithm of a forget gate whose lower bound is `b`. -/
def logForget (b a : EReal) : EReal := Ideal.log (b + (1 - b) * sigm a)

theorem norm_at (x : Vec Ideal S1024x2048 .f32) (g : Vec Ideal S1x2048 .f32) (r : Fin 1024) (k : Fin 2048) :
    normRows x g (ix2 r k) = normed (fun q => x (ix2 r q)) (fun q => g (ix2 0 q)) k := by
  unfold normRows
  open_payloads
  pointwise
  rfl

section
variable (h : Vec Ideal S128x2048 .bf16) (r : Fin 128)

theorem mixed_at (w : Vec Ideal S2048x1024 .f32) (k : Fin 1024) : mixed w h (ix2 r k)
    = if k.val < 512 then dot (fun q => h (ix2 r q)) (fun q => w (ix2 q k)) else sigm (dot (fun q => h (ix2 r q)) (fun q => w (ix2 q k))) := by
  unfold mixed
  open_payloads
  pointwise
  split
  · rfl
  · have e : (⟨512 + (k.val - 512), by omega⟩ : Fin 1024) = k := Fin.ext (by show 512 + (k.val - 512) = k.val; omega)
    rw [e]
    rfl
theorem gated_at (w : Vec Ideal S2048x1024 .f32) (k : Fin 1024) : gated w h (ix2 r k) = sigm (dot (fun q => h (ix2 r q)) (fun q => w (ix2 q k))) := by
  unfold gated
  open_payloads
  pointwise
  rfl
theorem gatedLeft_at (w : Vec Ideal S2048x512 .f32) (k : Fin 512) : gatedLeft w h (ix2 r k) = sigm (dot (fun q => h (ix2 r q)) (fun q => w (ix2 q k))) := by
  unfold gatedLeft
  open_payloads
  pointwise
  rfl
theorem forgotten_at (w : Vec Ideal S2048x1024 .f32) (l : Vec Ideal S2x1024 .f32) (k : Fin 1024) :
    forgotten w l h (ix2 r k) = logForget (weight0 fun a => l (ix2 a k)) (dot (fun q => h (ix2 r q)) (fun q => w (ix2 q k))) := by
  unfold forgotten
  open_payloads
  pointwise
  rfl

/-- The last payload of a scaled tile, its two scalars apart. -/
theorem scaled_at' (i : grid0.Coords) (w : Vec Ideal S2048x1024 .f32) (k : Fin 1024) : scaled i w h (ix2 r k)
    = dot (fun q => h (ix2 r q)) (fun q => w (ix2 q k)) * (k0_pay68 (F := Ideal) i * sigm (dot (fun q => h (ix2 r q)) (fun q => w (ix2 q k))) + k0_pay69 (F := Ideal) i) := by
  unfold scaled k0_pay70
  generalize k0_pay68 (F := Ideal) i = u
  generalize k0_pay69 (F := Ideal) i = v
  open_payloads
  pointwise
  rfl

end

/-- The column tile of a grid point, as the body spells it. -/
def tileWord (i : grid0.Coords) : BitVec 32 :=
  let p : BitVec 32 := Scalar.select (Scalar.cmpi .eq 2#32 0#32) 1#32 2#32
  let q : BitVec 32 := Scalar.remsi (BitVec.ofNat 32 (i 0).val) p
  let s : BitVec 32 := Scalar.select (Scalar.andi (Scalar.xori (Scalar.cmpi .slt q 0#32) (Scalar.cmpi .slt p 0#32)) (Scalar.cmpi .ne q 0#32)) (Scalar.addi q p) q
  Scalar.select (Scalar.cmpi .eq s 0#32) (BitVec.ofNat 32 (i 1).val) (Scalar.subi 10#32 (BitVec.ofNat 32 (i 1).val))

theorem tileWord_eq : ∀ i : grid0.Coords, tileWord i = BitVec.ofNat 32 (tile i) := by decide +kernel

/-- The scalars of a scaled tile: the scale goes with the logistic factor in the first and the third tile, and without it in
    the second and the fourth. -/
def scaleOf (b : BitVec 32) : EReal :=
  Scalar.select (Scalar.cmpi .eq b 0#32) (Ideal.ofBits .f32 0x3DB504F3#32) (Scalar.select (Scalar.cmpi .eq b 3#32) (Ideal.ofBits .f32 0x3E38AA3B#32) (Ideal.ofBits .f32 0x3F800000#32))
theorem pay68_eq (i : grid0.Coords) : k0_pay68 (F := Ideal) i
    = Scalar.select (Scalar.ori (Scalar.cmpi .eq (tileWord i) 0#32) (Scalar.cmpi .eq (tileWord i) 2#32)) (scaleOf (tileWord i)) (Ideal.ofBits .f32 0x00000000#32) := rfl
theorem pay69_eq (i : grid0.Coords) : k0_pay69 (F := Ideal) i
    = Scalar.select (Scalar.ori (Scalar.cmpi .eq (tileWord i) 0#32) (Scalar.cmpi .eq (tileWord i) 2#32)) (Ideal.ofBits .f32 0x00000000#32) (scaleOf (tileWord i)) := rfl

/-- What the first four tiles make of a product. -/
def scaledOf (n : ℕ) (a : EReal) : EReal :=
  if n = 0 then a * sigm a * Ideal.ofBits .f32 0x3DB504F3#32
  else if n = 1 then a
  else if n = 2 then a * sigm a
  else a * Ideal.ofBits .f32 0x3E38AA3B#32

theorem zero_bits : Ideal.ofBits .f32 0x00000000#32 = 0 := by pointwise
theorem one_bits : Ideal.ofBits .f32 0x3F800000#32 = 1 := by pointwise

theorem scaled_scalars (i : grid0.Coords) (hi : tile i < 4) (a : EReal) :
    a * (k0_pay68 (F := Ideal) i * sigm a + k0_pay69 (F := Ideal) i) = scaledOf (tile i) a := by
  rw [pay68_eq, pay69_eq, tileWord_eq]
  generalize tile i = n at hi ⊢
  have hn : n = 0 ∨ n = 1 ∨ n = 2 ∨ n = 3 := by omega
  rcases hn with rfl | rfl | rfl | rfl
  · show a * (Ideal.ofBits .f32 0x3DB504F3#32 * sigm a + Ideal.ofBits .f32 0x00000000#32) = a * sigm a * Ideal.ofBits .f32 0x3DB504F3#32
    rw [zero_bits, add_zero, mul_comm _ (sigm a), mul_assoc]
  · show a * (Ideal.ofBits .f32 0x00000000#32 * sigm a + Ideal.ofBits .f32 0x3F800000#32) = a
    rw [zero_bits, one_bits, zero_mul, zero_add, mul_one]
  · show a * (Ideal.ofBits .f32 0x3F800000#32 * sigm a + Ideal.ofBits .f32 0x00000000#32) = a * sigm a
    rw [zero_bits, one_bits, one_mul, add_zero]
  · show a * (Ideal.ofBits .f32 0x00000000#32 * sigm a + Ideal.ofBits .f32 0x3E38AA3B#32) = a * Ideal.ofBits .f32 0x3E38AA3B#32
    rw [zero_bits, zero_mul, zero_add]

theorem scaled_at (i : grid0.Coords) (hi : tile i < 4) (w : Vec Ideal S2048x1024 .f32) (h : Vec Ideal S128x2048 .bf16) (r : Fin 128) (k : Fin 1024) :
    scaled i w h (ix2 r k) = scaledOf (tile i) (dot (fun q => h (ix2 r q)) (fun q => w (ix2 q k))) :=
  (scaled_at' h r i w k).trans (scaled_scalars i hi _)

/-- The element at row `r` and column `k` of an output block with a rectangle stored over it. -/
theorem put_at {e : EltTy} {r0 c0 h w : ℕ} (Y : Vec Ideal S1024x1024 e) (p : Vec Ideal ⟨2, ![h, w]⟩ e) (r k : Fin 1024) :
    VecWindow.put Y ![r0, c0] ![h, w] p (ix2 r k)
      = if hh : (r0 ≤ r.val ∧ r.val < r0 + h) ∧ c0 ≤ k.val ∧ k.val < c0 + w then
          p (ix2 ⟨r.val - r0, by omega⟩ ⟨k.val - c0, by omega⟩) else Y (ix2 r k) := by
  unfold VecWindow.put
  by_cases hh : (r0 ≤ r.val ∧ r.val < r0 + h) ∧ c0 ≤ k.val ∧ k.val < c0 + w
  · rw [dif_pos hh, dif_pos (Fin.forall_fin_two.mpr hh)]
    refine congrArg p (funext fun a => ?_)
    fin_cases a <;> rfl
  · rw [dif_neg hh, dif_neg fun hc => hh (Fin.forall_fin_two.mp hc)]

/-- A window of unit stride at its own indices. -/
theorem window_at {n0 n1 r0 c0 h w : ℕ} {α : Type} (x : (⟨2, ![n0, n1]⟩ : Shape).Idx → α) (inb : ∀ a, (![r0, c0] : Fin 2 → ℕ) a + (![h, w] : Fin 2 → ℕ) a ≤ (⟨2, ![n0, n1]⟩ : Shape).size a)
    (r : Fin h) (k : Fin w) :
    VecWindow.window x ![r0, c0] ![h, w] inb (ix2 r k)
      = x (ix2 ⟨r0 + r.val, by have : r0 + h ≤ n0 := inb 0; omega⟩ ⟨c0 + k.val, by have : c0 + w ≤ n1 := inb 1; omega⟩) :=
  congrArg x (funext fun a => by
    refine Fin.ext ?_
    fin_cases a
    · show r0 + 1 * r.val = r0 + r.val; omega
    · show c0 + 1 * k.val = c0 + k.val; omega)

/-- If the function stored row by row depends on its row alone, so does the buffer filled with it. -/
theorem fillRows_at {e : EltTy} {wd : ℕ} (P : Vec Ideal S128x2048 .bf16 → Vec Ideal ⟨2, ![128, wd]⟩ e) (φ : (Fin 2048 → EReal) → Fin wd → Elt Ideal e)
    (hP : ∀ H (r : Fin 128) (k : Fin wd), P H (ix2 r k) = φ (fun q => H (ix2 r q)) k)
    (h : Vec Ideal S1024x2048 .bf16) (y : Vec Ideal S1024x1024 e) (r k : Fin 1024) (hk : k.val < wd) :
    ∀ (n : ℕ) (hn : n ≤ 8), fillRows wd P h y n hn (ix2 r k) = if r.val < 128 * n then φ (fun q => h (ix2 r q)) ⟨k.val, hk⟩ else y (ix2 r k)
  | 0, _ => by rw [if_neg (by omega)]; rfl
  | n + 1, hn => by
    unfold fillRows
    rw [put_at]
    by_cases hr : 128 * n ≤ r.val ∧ r.val < 128 * n + 128
    · rw [dif_pos ⟨hr, by omega, by omega⟩, if_pos (by omega), hP]
      refine congrArg₂ φ (funext fun q => ?_) (Fin.ext (Nat.sub_zero _))
      unfold rowsAt
      rw [window_at]
      exact congrArg h (congrArg₂ ix2 (Fin.ext (by show 128 * n + (r.val - 128 * n) = r.val; omega)) (Fin.ext (Nat.zero_add _)))
    · rw [dif_neg (by omega), fillRows_at P φ hP h y r k hk n (by omega)]
      by_cases hc : r.val < 128 * n
      · rw [if_pos hc, if_pos (by omega)]
      · rw [if_neg hc, if_neg (by omega)]

/-- What a point makes of a product at a column of its tile of the first output. -/
def outOf (n : ℕ) (k : ℕ) (a : EReal) : EReal := if n < 4 then scaledOf n a else if n = 4 ∧ k < 512 then a else sigm a

/-- The first output's buffer after a point of the first nine tiles. -/
theorem newP_at (i : grid0.Coords) (hi : tile i ≤ 8) (w : Vec Ideal S2048x1024 .f32) (h : Vec Ideal S1024x2048 .bf16) (y : Vec Ideal S1024x1024 .bf16)
    (r k : Fin 1024) (hk : tile i = 8 → k.val < 512) :
    newP i w h y (ix2 r k) = outOf (tile i) k.val (dot (fun q => h (ix2 r q)) (fun q => w (ix2 q k))) := by
  unfold newP outOf
  by_cases h4 : tile i < 4
  · rw [if_pos h4, if_pos h4]
    exact (fillRows_at (scaled i w) (fun s k => scaledOf (tile i) (dot s fun q => w (ix2 q k))) (fun H r k => scaled_at i h4 w H r k)
      h y r k k.isLt 8 le_rfl).trans (if_pos (by omega))
  rw [if_neg h4, if_neg h4]
  by_cases e4 : tile i = 4
  · rw [if_pos e4]
    refine ((fillRows_at (mixed w) (fun s k => if k.val < 512 then dot s (fun q => w (ix2 q k)) else sigm (dot s fun q => w (ix2 q k)))
      (fun H r k => mixed_at H r w k) h y r k k.isLt 8 le_rfl).trans (if_pos (by omega))).trans ?_
    simp only [e4, true_and]
  rw [if_neg e4, if_neg fun c : tile i = 4 ∧ k.val < 512 => e4 c.1]
  by_cases h8 : tile i < 8
  · rw [if_pos h8]
    exact (fillRows_at (gated w) (fun s k => sigm (dot s fun q => w (ix2 q k))) (fun H r k => gated_at H r w k)
      h y r k k.isLt 8 le_rfl).trans (if_pos (by omega))
  have e8 : tile i = 8 := by omega
  rw [if_neg h8, if_pos e8]
  refine ((fillRows_at (gatedLeft (leftCols w)) (fun s k => sigm (dot s fun q => leftCols w (ix2 q k))) (fun H r k => gatedLeft_at H r (leftCols w) k)
    h y r k (hk e8) 8 le_rfl).trans (if_pos (by omega))).trans ?_
  refine congrArg sigm (congrArg (dot _) (funext fun q => ?_))
  unfold leftCols
  rw [window_at]
  exact congrArg w (congrArg₂ ix2 (Fin.ext (Nat.zero_add _)) (Fin.ext (Nat.zero_add _)))

/-- The first output's buffer after a point of the last two tiles. -/
theorem newP_keep (i : grid0.Coords) (hi : 9 ≤ tile i) (w : Vec Ideal S2048x1024 .f32) (h : Vec Ideal S1024x2048 .bf16) (y : Vec Ideal S1024x1024 .bf16) :
    newP i w h y = y := by
  unfold newP; rw [if_neg (by omega), if_neg (by omega), if_neg (by omega), if_neg (by omega)]

/-- The second output's buffer after a point of the last two tiles. -/
theorem newF_at (i : grid0.Coords) (hi : 9 ≤ tile i) (w : Vec Ideal S2048x1024 .f32) (l : Vec Ideal S2x1024 .f32) (h : Vec Ideal S1024x2048 .bf16)
    (z : Vec Ideal S1024x1024 .f32) (r k : Fin 1024) :
    newF i w l h z (ix2 r k) = logForget (weight0 fun a => l (ix2 a k)) (dot (fun q => h (ix2 r q)) (fun q => w (ix2 q k))) := by
  unfold newF
  rw [if_pos hi]
  exact (fillRows_at (forgotten w l) (fun s k => logForget (weight0 fun a => l (ix2 a k)) (dot s fun q => w (ix2 q k)))
    (fun H r k => forgotten_at H r w l k) h z r k k.isLt 8 le_rfl).trans (if_pos (by omega))

/-- The second output's buffer after any other point. -/
theorem newF_keep (i : grid0.Coords) (hi : tile i < 9) (w : Vec Ideal S2048x1024 .f32) (l : Vec Ideal S2x1024 .f32) (h : Vec Ideal S1024x2048 .bf16)
    (z : Vec Ideal S1024x1024 .f32) : newF i w l h z = z := by
  unfold newF; rw [if_neg (by omega)]

/-! ## The results as functions of the arguments -/

/-- The product at row `R` and column `J` of the weight. -/
def pre (x : Vec Ideal S16384x2048 .f32) (g : Vec Ideal S1x2048 .f32) (w : Vec Ideal S2048x10752 .f32) (R : Fin 16384) (J : Fin 10752) : EReal :=
  dot (normed (fun q => x (ix2 R q)) (fun q => g (ix2 0 q))) (fun q => w (ix2 q J))

/-- The weight's column behind a column of the first result: the columns between 2048 and 4096 make the second result. -/
def colP (K : Fin 8704) : Fin 10752 := ⟨if K.val < 2048 then K.val else K.val + 2048, by split <;> omega⟩
def colF (K : Fin 2048) : Fin 10752 := ⟨2048 + K.val, by omega⟩

def outP (x : Vec Ideal S16384x2048 .f32) (g : Vec Ideal S1x2048 .f32) (w : Vec Ideal S2048x10752 .f32) (R : Fin 16384) (K : Fin 8704) : EReal :=
  outOf (K.val / 1024) (K.val % 1024) (pre x g w R (colP K))
def outF (x : Vec Ideal S16384x2048 .f32) (g : Vec Ideal S1x2048 .f32) (w : Vec Ideal S2048x10752 .f32) (l : Vec Ideal S2x2048 .f32) (R : Fin 16384) (K : Fin 2048) : EReal :=
  logForget (weight0 fun a => l (ix2 a K)) (pre x g w R (colF K))

end Cert.Kernel4Ideal.InProj

end
-- ==== Proof.InProjRef.lean ====
/- The reference's results as functions of its arguments, over the extended reals. -/
module

public import proofs.«01_k».proof.Proof.InProjStep
public import proofs.«01_k».proof.Proof.Gen.Reference4Ideal.Run

@[expose] public section

set_option maxRecDepth 16384

noncomputable section

namespace Cert.Reference4Ideal.InProj

open Cert.Reference4Ideal Idealize.ShloMosaic Idealize.ShloMosaic.TcCoe Idealize.SL.Sem
open Cert.Kernel4Ideal.InProj

variable (m : (ℓ : Loc nD τ sig) → Buf (Elt Ideal) ℓ) (c : Dev nD)

abbrev acts : Vec Ideal S16384x2048 .f32 := m ((c.tc : Thread nD τ).loc main_arg0)
abbrev gain : Vec Ideal S1x2048 .f32 := m ((c.tc : Thread nD τ).loc main_arg1)
abbrev weight : Vec Ideal S2048x10752 .f32 := m ((c.tc : Thread nD τ).loc main_arg2)
abbrev logits : Vec Ideal S2x2048 .f32 := m ((c.tc : Thread nD τ).loc main_arg3)

abbrev resP : Vec Ideal S16384x8704 .bf16 := Value.res_main_v58 m c

theorem sigm_eq (a : EReal) : sigm a = Ideal.div 1 (1 + Ideal.exp (-a)) := by unfold sigm; rw [zero_sub]

theorem colP_low (K : Fin 8704) (J : Fin 10752) (h : K.val < 2048) (hJ : J.val = K.val) : colP K = J := Fin.ext ((if_pos h).trans hJ.symm)
theorem colP_high (K : Fin 8704) (J : Fin 10752) (h : 2048 ≤ K.val) (hJ : J.val = K.val + 2048) : colP K = J :=
  Fin.ext ((if_neg (Nat.not_lt.mpr h)).trans hJ.symm)

theorem outOf_copy {n k : ℕ} (a : EReal) (hn : n = 4) (hk : k < 512) : outOf n k a = a := by
  unfold outOf; rw [if_neg (by omega), if_pos ⟨hn, hk⟩]
theorem outOf_gate {n k : ℕ} (a : EReal) (hn : 4 ≤ n) (hk : ¬ (n = 4 ∧ k < 512)) : outOf n k a = sigm a := by
  unfold outOf; rw [if_neg (by omega), if_neg hk]

set_option maxHeartbeats 1000000 in
/-- The first result, at each of its six ranges of columns. -/
theorem resP_at (R : Fin 16384) (K : Fin 8704) : resP m c (ix2 R K) = outP (acts m c) (gain m c) (weight m c) R K := by
  unfold outP resP Value.res_main_v58
  pointwise
  split
  · rw [show K.val / 1024 = 0 by omega, colP_low K ⟨K.val, by omega⟩ (by omega) rfl]
    show _ = _ * sigm _ * _
    rw [sigm_eq]
    rfl
  split
  · rw [show K.val / 1024 = 1 by omega, colP_low K ⟨1024 + (K.val - 1024), by omega⟩ (by omega) (by show 1024 + (K.val - 1024) = K.val; omega)]
    rfl
  split
  · rw [show K.val / 1024 = 2 by omega, colP_high K ⟨4096 + (K.val - 1024 - 1024), by omega⟩ (by omega) (by show 4096 + (K.val - 1024 - 1024) = K.val + 2048; omega)]
    show _ = _ * sigm _
    rw [sigm_eq]
    rfl
  split
  · rw [show K.val / 1024 = 3 by omega, colP_high K ⟨5120 + (K.val - 1024 - 1024 - 1024), by omega⟩ (by omega)
      (by show 5120 + (K.val - 1024 - 1024 - 1024) = K.val + 2048; omega)]
    rfl
  split
  · rename_i h1 h2 h3 h4 h5
    rw [outOf_copy _ (by clear * - h1 h2 h3 h4 h5; omega) (by clear * - h1 h2 h3 h4 h5; omega),
      colP_high K ⟨6144 + (K.val - 1024 - 1024 - 1024 - 1024), by omega⟩ (by omega)
        (by show 6144 + (K.val - 1024 - 1024 - 1024 - 1024) = K.val + 2048; omega)]
    rfl
  · rename_i h1 h2 h3 h4 h5
    rw [outOf_gate _ (by clear * - h1 h2 h3 h4 h5; omega) (by clear * - h1 h2 h3 h4 h5; omega), sigm_eq,
      colP_high K ⟨6656 + (K.val - 1024 - 1024 - 1024 - 1024 - 512), by omega⟩ (by omega)
        (by show 6656 + (K.val - 1024 - 1024 - 1024 - 1024 - 512) = K.val + 2048; omega)]
    rfl

theorem bot_bits : Ideal.ofBits .f32 4286578688#32 = ⊥ := by simp [Ideal.ofBits, Ideal.ieee]

/-- The largest logit of a column, taken once more with minus infinity. -/
theorem max_col (l : Vec Ideal S2x2048 .f32) (K : Fin 2048) :
    max (Ideal.ofBits .f32 4286578688#32) (Finset.fold max (Ideal.ofBits .f32 4286578688#32) l {i | Gen.reducesTo_S2x2048_S2048_d0.drop i = ix1 K})
      = Finset.fold max (Ideal.ofBits .f32 4286578688#32) (fun a => l (ix2 a K)) Finset.univ := by
  rw [bot_bits, max_eq_right bot_le]
  exact Shape.ReducesTo.fold_fiber_r2_a0 _ _ _ _ _

/-- The reference's spelling of the logarithm of a forget gate. -/
theorem forget_eq (l : Vec Ideal S2x2048 .f32) (K : Fin 2048) (M a : EReal) (hM : M = Finset.fold max (Ideal.ofBits .f32 4286578688#32) (fun a => l (ix2 a K)) Finset.univ) :
    Ideal.log (Ideal.div (Ideal.exp (l (ix2 0 K) - M)) (∑ x : Fin 2, Ideal.exp (l (ix2 x K) - M))
        + (1 - Ideal.div (Ideal.exp (l (ix2 0 K) - M)) (∑ x : Fin 2, Ideal.exp (l (ix2 x K) - M))) * Ideal.div 1 (1 + Ideal.exp (-a)))
      = logForget (weight0 fun a => l (ix2 a K)) a := by
  rw [hM, ← sigm_eq]
  rfl

/-- The run, both results known. -/
theorem run_value (ρ : Dev nD → PrngReg) : θ_run defs (onTc (τ := τ) (main (F := Ideal))) ⟨m, fun _ => 0, ρ⟩ fun r => ∀ c : Dev nD,
      r.2.mem ((c.tc : Thread nD τ).loc main_v58) = (fun i => outP (acts m c) (gain m c) (weight m c) (i 0) (i 1))
      ∧ r.2.mem ((c.tc : Thread nD τ).loc main_v47) = (fun i => outF (acts m c) (gain m c) (weight m c) (logits m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨((h c).1).trans ?_, ((h c).2.1).trans ?_, (h c).2.2⟩) (Value.run (F := Ideal) m ρ)
  · funext i
    exact (congrArg (resP m c) (funext fun a => by fin_cases a <;> rfl)).trans (resP_at m c (i 0) (i 1))
  · funext i
    clear h
    obtain ⟨R, K, rfl⟩ : ∃ (R : Fin 16384) (K : Fin 2048), i = ix2 R K := ⟨i 0, i 1, funext fun a => by fin_cases a <;> rfl⟩
    pointwise
    exact forget_eq (logits m c) K _ _ (max_col (logits m c) K)

end Cert.Reference4Ideal.InProj

end
-- ==== Proof.InProj.lean ====
/- The input projection. For each of 16 blocks of 1024 rows the kernel normalises the rows once and walks eleven tiles of the
   weight's columns, forwards in even blocks and backwards in odd ones. Nine tiles make the first result, each with its own
   closing function; the weight's last tile is cut at the array's edge, and so is the result's. Two tiles make the second
   result, the logarithms of the forget gates. An output block that is not stored at once is carried to the point that stores
   it. Every element is therefore its column's closing function of the inner product of the normalised row with one column
   of the weight, which is what the reference computes. -/
module

public import proofs.«01_k».proof.Defs
public import proofs.«01_k».proof.Proof.InProjRef
public import proofs.«01_k».proof.Proof.Gen.Kernel4.Frame
public import Idealize.ShloMosaic.Lib.Pipeline.ArrRel
public import Idealize.ShloMosaic.Lib.Quiescent

@[expose] public section

set_option maxRecDepth 16384

noncomputable section

namespace Cert.Kernel4Ideal.InProj

open Cert.Kernel4Ideal Cert.Kernel4Ideal.Gen Idealize.ShloMosaic Idealize.ShloMosaic.TcCoe Idealize.SL.Sem
open Idealize.ShloMosaic.Pipeline (Dat RDat)

variable (m : (ℓ : Loc nD τ sig) → Buf (Elt Ideal) ℓ) (ρ : Dev nD → PrngReg)

/-- The activations, the gain, the weight and the logits of the lower bounds, as launched. -/
abbrev acts (c : Dev nD) : Vec Ideal S16384x2048 .f32 := m ((c : Thread nD τ).loc main_arg0)
abbrev gain (c : Dev nD) : Vec Ideal S1x2048 .f32 := m ((c : Thread nD τ).loc main_arg1)
abbrev weight (c : Dev nD) : Vec Ideal S2048x10752 .f32 := m ((c : Thread nD τ).loc main_arg2)
abbrev logits (c : Dev nD) : Vec Ideal S2x2048 .f32 := m ((c : Thread nD τ).loc main_arg3)

/-- The two result arrays. -/
def GP (c : Dev nD) : Vec Ideal S16384x8704 .bf16 := fun i => outP (acts m c) (gain m c) (weight m c) (i 0) (i 1)
def GF (c : Dev nD) : Vec Ideal S16384x2048 .f32 := fun i => outF (acts m c) (gain m c) (weight m c) (logits m c) (i 0) (i 1)

/-! ## The grid -/

/-- A point's tile of the weight, of the first result, and of the second. -/
def wt (t : Fin cfg0.N) : ℕ := if tile (grid0.coords t) < 2 then tile (grid0.coords t) else if tile (grid0.coords t) < 9 then tile (grid0.coords t) + 2 else tile (grid0.coords t) - 7
def pt (t : Fin cfg0.N) : ℕ := min (tile (grid0.coords t)) 8
def ft (t : Fin cfg0.N) : ℕ := tile (grid0.coords t) - 9

theorem tile_at : ∀ t : Fin cfg0.N, tile (grid0.coords t) = if t.val / 11 % 2 = 0 then t.val % 11 else 10 - t.val % 11 := by decide +kernel

theorem idx : ∀ t : Fin cfg0.N, win0_0.index t = ![t.val / 11, 0] ∧ win0_1.index t = ![0, 0] ∧ win0_2.index t = ![0, wt t]
    ∧ win0_3.index t = ![0, ft t] ∧ win0_4.index t = ![t.val / 11, pt t] ∧ win0_5.index t = ![t.val / 11, ft t] := by
  decide +kernel

theorem size_2 : ∀ t : Fin cfg0.N, win0_2.xsize (grid0.coords t) = ![2048, if wt t = 10 then 512 else 1024] := by decide +kernel
theorem size_4 : ∀ t : Fin cfg0.N, win0_4.xsize (grid0.coords t) = ![1024, if pt t = 8 then 512 else 1024] := by decide +kernel

theorem stored_4 : ∀ t : Fin cfg0.N, (cfg0.win 4).flush t = true → tile (grid0.coords t) ≤ 8 ∨ t.val % 22 = 10 := by decide +kernel
theorem kept_4 : ∀ t : Fin cfg0.N, t.val % 22 = 8 ∨ t.val % 22 = 9 → (cfg0.win 4).flush t = false := by decide +kernel
theorem stored_5 : ∀ t : Fin cfg0.N, (cfg0.win 5).flush t = true → 9 ≤ tile (grid0.coords t) ∨ t.val % 22 = 21 := by decide +kernel
theorem kept_5 : ∀ t : Fin cfg0.N, 12 ≤ t.val % 22 ∧ t.val % 22 < 21 → (cfg0.win 5).flush t = false := by decide +kernel
theorem fetch_4 : ∀ t : Fin cfg0.N, (cfg0.win 4).fetch t = false := by decide +kernel
theorem fetch_5 : ∀ t : Fin cfg0.N, (cfg0.win 5).fetch t = false := by decide +kernel

theorem t_lt (t : Fin cfg0.N) : t.val < 176 := by have : cfg0.N = 176 := N_0; omega
theorem tile_lt (t : Fin cfg0.N) : tile (grid0.coords t) ≤ 10 := by rw [tile_at]; split <;> omega
theorem wt_le (t : Fin cfg0.N) : wt t ≤ 10 := by have := tile_lt t; unfold wt; split_ifs <;> omega
theorem ft_le (t : Fin cfg0.N) : ft t ≤ 1 := by have := tile_lt t; unfold ft; omega

/-- The row of the arrays that is row `r` of point `t`'s block. -/
def rowOf (t : Fin cfg0.N) (r : Fin 1024) : Fin 16384 := ⟨1024 * (t.val / 11) + r.val, by have := t_lt t; omega⟩
theorem rowOf_congr (t t' : Fin cfg0.N) (h : t.val / 11 = t'.val / 11) (r : Fin 1024) : rowOf t r = rowOf t' r :=
  Fin.ext (congrArg (fun n => 1024 * n + r.val) h)

/-- The column of the second result, and of the logits, that is column `j` of point `t`'s block. -/
def colOfF (t : Fin cfg0.N) (j : Fin 1024) : Fin 2048 := ⟨1024 * ft t + j.val, by have := ft_le t; omega⟩

/-! ## The blocks -/

theorem blk_0 (c : Dev nD) (t : Fin cfg0.N) (r : Fin 1024) (k : Fin 2048) : iblk m c 0 t (ix2 r k) = acts m c (ix2 (rowOf t r) k) := by
  unfold rowOf
  blk_ext [iblk, V, idx t]
theorem blk_1 (c : Dev nD) (t : Fin cfg0.N) (k : Fin 2048) : iblk m c 1 t (ix2 0 k) = gain m c (ix2 0 k) := by
  blk_ext [iblk, V, idx t]
theorem blk_3 (c : Dev nD) (t : Fin cfg0.N) (a : Fin 2) (j : Fin 1024) : iblk m c 3 t (ix2 a j) = logits m c (ix2 a (colOfF t j)) := by
  unfold colOfF
  blk_ext [iblk, V, idx t]

/-- A weight tile at a column inside the array, whatever lies beyond the edge. -/
theorem wtile_at (c : Dev nD) (t : Fin cfg0.N) (d : Vec Ideal S2048x1024 .f32) (k : Fin 2048) (j : Fin 1024) (J : Fin 10752) (hJ : J.val = 1024 * wt t + j.val) :
    wtile m c t d (ix2 k j) = weight m c (ix2 k J) := by
  have hm : (cfg0.win 2).moved (cfg0.grid.coords t) (ix2 k j) = true := ((cfg0.win 2).moved_iff _ _).mpr (Fin.forall_fin_two.mpr
    ⟨Nat.lt_of_lt_of_eq k.isLt (congrFun (size_2 t) 0).symm, Nat.lt_of_lt_of_eq (by
      show j.val < if wt t = 10 then 512 else 1024
      have := wt_le t
      split <;> omega) (congrFun (size_2 t) 1).symm⟩)
  refine (dif_pos hm).trans (congrArg (weight m c) ?_)
  obtain ⟨n, hn⟩ := J
  obtain rfl : n = 1024 * wt t + j.val := hJ
  blk_ext [idx t]

/-- The normalised rows of a point's block. -/
theorem normAt_at (c : Dev nD) (t : Fin cfg0.N) (r : Fin 1024) (k : Fin 2048) :
    normAt m c t (ix2 r k) = normed (fun q => acts m c (ix2 (rowOf t r) q)) (fun q => gain m c (ix2 0 q)) k := by
  unfold normAt
  refine (norm_at _ _ r k).trans ?_
  have e : rowOf (start t) r = rowOf t r := rowOf_congr _ _ (by show (t.val - t.val % 11) / 11 = t.val / 11; omega) r
  exact congrArg₂ (fun a b => normed a b k) (funext fun q => (blk_0 m c (start t) r q).trans (by rw [e])) (funext fun q => blk_1 m c (start t) q)

/-- The inner product of a block's row with a column of a weight tile. -/
theorem dot_at (c : Dev nD) (t : Fin cfg0.N) (d : Vec Ideal S2048x1024 .f32) (r j : Fin 1024) (J : Fin 10752) (hJ : J.val = 1024 * wt t + j.val) :
    dot (fun q => normAt m c t (ix2 r q)) (fun q => wtile m c t d (ix2 q j)) = pre (acts m c) (gain m c) (weight m c) (rowOf t r) J :=
  congrArg₂ dot (funext fun q => normAt_at m c t r q) (funext fun q => wtile_at m c t d q j J hJ)

/-- A point of the first nine tiles fills the first output's buffer. -/
theorem nextP_at (c : Dev nD) (t : Fin cfg0.N) (ht : tile (grid0.coords t) ≤ 8) (d : Vec Ideal S2048x1024 .f32) (y : Vec Ideal S1024x1024 .bf16)
    (r j : Fin 1024) (K : Fin 8704) (hK : K.val = 1024 * pt t + j.val) :
    nextP m c t d y (ix2 r j) = outP (acts m c) (gain m c) (weight m c) (rowOf t r) K := by
  have hp : pt t = tile (grid0.coords t) := Nat.min_eq_left ht
  rw [hp] at hK
  have hJ : (colP K).val = 1024 * wt t + j.val := by
    unfold colP wt
    show (if K.val < 2048 then K.val else K.val + 2048) = _
    split_ifs <;> omega
  unfold nextP outP
  refine (newP_at _ ht _ _ y r j fun h8 => by omega).trans ?_
  rw [dot_at m c t d r j (colP K) hJ, show K.val / 1024 = tile (grid0.coords t) by omega, show K.val % 1024 = j.val by omega]

/-- A point of the last two tiles fills the second output's buffer. -/
theorem nextF_at (c : Dev nD) (t : Fin cfg0.N) (ht : 9 ≤ tile (grid0.coords t)) (d : Vec Ideal S2048x1024 .f32) (z : Vec Ideal S1024x1024 .f32) (r j : Fin 1024) :
    nextF m c t d z (ix2 r j) = outF (acts m c) (gain m c) (weight m c) (logits m c) (rowOf t r) (colOfF t j) := by
  have hJ : (colF (colOfF t j)).val = 1024 * wt t + j.val := by
    unfold colF colOfF wt ft
    show 2048 + (1024 * (tile (grid0.coords t) - 9) + j.val) = _
    split_ifs <;> omega
  unfold nextF outF
  refine (newF_at _ ht _ _ _ z r j).trans ?_
  rw [dot_at m c t d r j _ hJ]
  exact congrArg (fun l => logForget (weight0 l) _) (funext fun a => blk_3 m c t a j)

/-! ## What the buffers hold when they are stored -/

theorem leaves_4 (c : Dev nD) (t : Fin cfg0.N) (X : Vec Ideal S1024x1024 .bf16) (h : (rdat m c).Leaves 4 t X) :
    ∃ Y, (rdat m c).Finds 4 t Y ∧ ∃ d, X = nextP m c t d Y := h
theorem leaves_5 (c : Dev nD) (t : Fin cfg0.N) (X : Vec Ideal S1024x1024 .f32) (h : (rdat m c).Leaves 5 t X) :
    ∃ Y, (rdat m c).Finds 5 t Y ∧ ∃ d, X = nextF m c t d Y := h

/-- The last two points of an even row block leave the first output's buffer as they found it. -/
theorem carried_4 (c : Dev nD) (t : Fin cfg0.N) (ht : t.val % 22 = 9 ∨ t.val % 22 = 10) (X : Vec Ideal S1024x1024 .bf16) (h : (rdat m c).Leaves 4 t X) :
    (rdat m c).Leaves 4 ⟨t.val - 1, by omega⟩ X := by
  obtain ⟨Y, hY, d, rfl⟩ := leaves_4 m c t X h
  have e : nextP m c t d Y = Y := newP_keep _ (by rw [tile_at, if_pos (by omega)]; omega) _ _ _
  rw [e]
  rcases ((rdat m c).finds_of_pos (fetch_4 t) (by omega) Y).mp hY with hf | hl
  · exact absurd hf (by rw [kept_4 _ (by show (t.val - 1) % 22 = 8 ∨ (t.val - 1) % 22 = 9; omega)]; exact Bool.false_ne_true)
  · exact hl

/-- The first output's buffer where it is stored. -/
theorem stored_P (c : Dev nD) (t : Fin cfg0.N) (ht : (cfg0.win 4).flush t = true) (X : Vec Ideal S1024x1024 .bf16) (h : (rdat m c).Leaves 4 t X)
    (r j : Fin 1024) (K : Fin 8704) (hK : K.val = 1024 * pt t + j.val) :
    X (ix2 r j) = outP (acts m c) (gain m c) (weight m c) (rowOf t r) K := by
  rcases stored_4 t ht with h8 | h10
  · obtain ⟨Y, -, d, rfl⟩ := leaves_4 m c t X h
    exact nextP_at m c t h8 d Y r j K hK
  · have h1 := carried_4 m c t (Or.inr h10) X h
    have h2 := carried_4 m c ⟨t.val - 1, by omega⟩ (Or.inl (by show (t.val - 1) % 22 = 9; omega)) X h1
    obtain ⟨Y, -, d, rfl⟩ := leaves_4 m c _ X h2
    have e8 : tile (grid0.coords ⟨t.val - 1 - 1, Nat.lt_of_le_of_lt (by omega) t.isLt⟩) = 8 := by
      rw [tile_at, if_pos (by show (t.val - 1 - 1) / 11 % 2 = 0; omega)]
      show (t.val - 1 - 1) % 11 = 8
      omega
    have e10 : pt t = 8 := by unfold pt; rw [tile_at, if_pos (by omega)]; omega
    rw [← rowOf_congr ⟨t.val - 1 - 1, by omega⟩ t (by show (t.val - 1 - 1) / 11 = t.val / 11; omega) r]
    exact nextP_at m c _ e8.le d Y r j K (by unfold pt; rw [e8]; rw [e10] at hK; exact hK)

/-- In an odd row block the second output's buffer keeps what its second point stored in it. -/
theorem kept_F (c : Dev nD) (r j : Fin 1024) : ∀ (n : ℕ) (t : Fin cfg0.N), t.val % 22 = 12 + n → ∀ X : Vec Ideal S1024x1024 .f32, (rdat m c).Leaves 5 t X →
    X (ix2 r j) = outF (acts m c) (gain m c) (weight m c) (logits m c) (rowOf t r) ⟨j.val, by omega⟩
  | 0, t, ht, X, h => by
    obtain ⟨Y, -, d, rfl⟩ := leaves_5 m c t X h
    have e9 : tile (grid0.coords t) = 9 := by rw [tile_at, if_neg (by omega)]; omega
    refine (nextF_at m c t e9.ge d Y r j).trans (congrArg _ (Fin.ext ?_))
    show 1024 * ft t + j.val = j.val
    unfold ft
    rw [e9]
    omega
  | n + 1, t, ht, X, h => by
    obtain ⟨Y, hY, d, rfl⟩ := leaves_5 m c t X h
    have e : nextF m c t d Y = Y := newF_keep _ (by rw [tile_at, if_neg (by omega)]; omega) _ _ _ _
    rw [e, ← rowOf_congr ⟨t.val - 1, by omega⟩ t (by show (t.val - 1) / 11 = t.val / 11; omega) r]
    rcases ((rdat m c).finds_of_pos (fetch_5 t) (by omega) Y).mp hY with hf | hl
    · exact absurd hf (by rw [kept_5 _ (by show 12 ≤ (t.val - 1) % 22 ∧ (t.val - 1) % 22 < 21; omega)]; exact Bool.false_ne_true)
    · exact kept_F c r j n _ (by show (t.val - 1) % 22 = 12 + n; omega) Y hl

/-- The second output's buffer where it is stored. -/
theorem stored_F (c : Dev nD) (t : Fin cfg0.N) (ht : (cfg0.win 5).flush t = true) (X : Vec Ideal S1024x1024 .f32) (h : (rdat m c).Leaves 5 t X) (r j : Fin 1024) :
    X (ix2 r j) = outF (acts m c) (gain m c) (weight m c) (logits m c) (rowOf t r) (colOfF t j) := by
  rcases stored_5 t ht with h9 | h21
  · obtain ⟨Y, -, d, rfl⟩ := leaves_5 m c t X h
    exact nextF_at m c t h9 d Y r j
  · refine (kept_F m c r j 9 t h21 X h).trans (congrArg _ (Fin.ext ?_))
    have e0 : tile (grid0.coords t) = 0 := by rw [tile_at, if_neg (by omega)]; omega
    show j.val = 1024 * ft t + j.val
    unfold ft
    rw [e0]
    omega

/-! ## The result arrays -/

theorem final_P (c : Dev nD) (after : (w : Fin cfg0.W) → Fin cfg0.N → (cfg0.win w).block.Idx → Elt Ideal (cfg0.win w).elt)
    (h : ∀ w u, (cfg0.win w).flush u = true → (rdat m c).Leaves w u (after w u)) : ((rdat m c).withAfter after).arrAt 4 cfg0.N = GP m c := by
  refine ((rdat m c).withAfter after).arrAt_eq_of_covers 4 _ (by decide +kernel) fun t hf y => ?_
  have h0 : (y 0).val < 1024 := Nat.lt_of_lt_of_eq (y 0).isLt (congrFun (size_4 t) 0)
  have h1 : (y 1).val < if pt t = 8 then 512 else 1024 := Nat.lt_of_lt_of_eq (y 1).isLt (congrFun (size_4 t) 1)
  have hp : pt t ≤ 8 := Nat.min_le_right _ _
  have h1' : (y 1).val < 1024 := by split at h1 <;> omega
  have hc : 1024 * pt t + (y 1).val < 8704 := by split at h1 <;> omega
  refine Eq.trans ?_ ((stored_P m c t hf _ (h 4 t hf) ⟨(y 0).val, h0⟩ ⟨(y 1).val, h1'⟩ ⟨1024 * pt t + (y 1).val, hc⟩ rfl).trans ?_)
  · exact congrArg (after 4 t) (funext fun a => by fin_cases a <;> rfl)
  · have e0 : ((cfg0.win 4).blk t).view.emb y = ix2 (rowOf t ⟨(y 0).val, h0⟩) ⟨1024 * pt t + (y 1).val, hc⟩ := by
      unfold rowOf
      blk_ext [idx t]
    rw [e0]
    rfl

theorem final_F (c : Dev nD) (after : (w : Fin cfg0.W) → Fin cfg0.N → (cfg0.win w).block.Idx → Elt Ideal (cfg0.win w).elt)
    (h : ∀ w u, (cfg0.win w).flush u = true → (rdat m c).Leaves w u (after w u)) : ((rdat m c).withAfter after).arrAt 5 cfg0.N = GF m c := by
  refine ((rdat m c).withAfter after).arrAt_eq_of_covers 5 _ (by decide +kernel) fun t hf y => ?_
  refine Eq.trans ?_ ((stored_F m c t hf _ (h 5 t hf) (y 0) (y 1)).trans ?_)
  · exact congrArg (after 5 t) (funext fun a => by fin_cases a <;> rfl)
  · have e0 : ((cfg0.win 5).blk t).view.emb y = ix2 (rowOf t (y 0)) (colOfF t (y 1)) := by
      unfold rowOf colOfF
      blk_ext [idx t]
    rw [e0]
    rfl

/-- The run with the result arrays known, the arguments unchanged. -/
theorem run_value : θ_run defs (onTc (τ := τ) (main (F := Ideal))) ⟨m, fun _ => 0, ρ⟩ fun r => ∀ c : Dev nD,
      r.2.mem ((c : Thread nD τ).loc main_v0_0) = GP m c
      ∧ r.2.mem ((c : Thread nD τ).loc main_v0_1) = GF m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨after, ha, hm⟩ := RDat.FramePost.exists_exact h.1 c
    exact ⟨(hm 4).trans (final_P m c after ha), (hm 5).trans (final_F m c after ha),
      h.1.arr_in c 0 rfl, h.1.arr_in c 1 rfl, h.1.arr_in c 2 rfl, h.1.arr_in c 3 rfl⟩) (run_quiet m ρ)

end Cert.Kernel4Ideal.InProj

/-! ## The claims about this call -/

namespace Cert.Proof.InProj

open Idealize.ShloMosaic Idealize.ShloMosaic.TcCoe Idealize.SL.Sem Cert.Kernel4Ideal.InProj

theorem frame_ideal : Cert.quiescent_Kernel4Ideal := fun m ρ _ => run_frame (F := Ideal) m ρ

/-- The program on bits and the one on extended reals have the same text, so that on bits their bodies are the same. -/
theorem bodies_eq : Cert.Kernel4.defs₀ (F := Bits) = Cert.Kernel4Ideal.defs₀ (F := Bits) := by
  refine congrArg Defs.onTc (funext fun l => funext fun a => ?_)
  fin_cases l
  rfl

theorem defs_eq : Cert.Kernel4.defs (F := Bits) = Cert.Kernel4Ideal.defs (F := Bits) := congrArg (Pipeline.defs _) bodies_eq

theorem frame : Cert.quiescent_Kernel4 := fun m ρ _ => by
  have h := run_frame (F := Bits) m ρ
  rw [← defs_eq] at h
  exact h

/-- The reference is a list of host operations and declares no semaphore. -/
theorem frame_reference : Cert.quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.InProj.run_value m ρ)

theorem preserves : Cert.preserves_Kernel4_Kernel4Ideal := trivial

/-- Both programs end with the same two functions of equal arguments. -/
theorem algebraic : Cert.algebraic_Kernel4Ideal_Reference4Ideal := by
  intro m ρ m' ρ' _ hagree
  refine ⟨fun c => GP m c, fun c => GF m c, run_value m ρ, ?_⟩
  refine (θ_run Cert.Reference4Ideal.defs _ _).mono (fun _ h c => ⟨(h c).1.trans ?_, (h c).2.1.trans ?_, (h c).2.2⟩)
    (Cert.Reference4Ideal.InProj.run_value m' ρ')
  · obtain ⟨h0, h1, h2, -⟩ := hagree c
    unfold Cert.Reference4Ideal.InProj.acts Cert.Reference4Ideal.InProj.gain Cert.Reference4Ideal.InProj.weight
    rw [h0, h1, h2]
    rfl
  · obtain ⟨h0, h1, h2, h3⟩ := hagree c
    unfold Cert.Reference4Ideal.InProj.acts Cert.Reference4Ideal.InProj.gain Cert.Reference4Ideal.InProj.weight Cert.Reference4Ideal.InProj.logits
    rw [h0, h1, h2, h3]
    rfl

end Cert.Proof.InProj

end
-- ==== Proof.MergeRun.lean ====
/- One grid point of the merge, run on whatever its buffers hold: 256 rows in two halves of 128, each stored as the updated
   stream and as its normalised rows. -/
module

public import proofs.«01_k».proof.Proof.Gen.Kernel5Ideal.Frame
public import proofs.«01_k».proof.Proof.Gen.Kernel5Ideal.Skeleton
public import Idealize.ShloMosaic.Lib.VecWindow

@[expose] public section

set_option maxRecDepth 16384

noncomputable section

namespace Cert.Kernel5Ideal.Merge

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The input blocks of a point: the two scans' outputs, the output gates, the attention's output, five tiles of the merge
    gates, the stream, three weights and three rows of gains. -/
structure Ins (F : FTy → Type) where
  of : Vec F S256x1024 .f32
  ob : Vec F S256x1024 .f32
  g : Vec F S256x1024 .bf16
  att : Vec F S256x1024 .bf16
  t0 : Vec F S256x1024 .bf16
  t1 : Vec F S256x1024 .bf16
  t2 : Vec F S256x1024 .bf16
  t3 : Vec F S256x1024 .bf16
  t4 : Vec F S256x1024 .bf16
  x : Vec F S256x2048 .f32
  wa : Vec F S1024x2048 .bf16
  wb : Vec F S1024x2048 .bf16
  wo : Vec F S2048x2048 .bf16
  hgain : Vec F S1x1024 .f32
  gpost : Vec F S1x2048 .f32
  gpre : Vec F S1x2048 .f32

/-- What half of a point works on: the gates' pieces `a0 a1 a2` and `b0 b1 b2`, and 128 rows of every other block. -/
structure Half (F : FTy → Type) where
  a0 : Vec F S128x512 .bf16
  a1 : Vec F S128x1024 .bf16
  a2 : Vec F S128x512 .bf16
  b0 : Vec F S128x512 .bf16
  b1 : Vec F S128x1024 .bf16
  b2 : Vec F S128x512 .bf16
  att : Vec F S128x1024 .bf16
  of : Vec F S128x1024 .f32
  ob : Vec F S128x1024 .f32
  g : Vec F S128x1024 .bf16
  x : Vec F S128x2048 .f32
  wa : Vec F S1024x2048 .bf16
  wb : Vec F S1024x2048 .bf16
  wo : Vec F S2048x2048 .bf16
  hgain : Vec F S1x1024 .f32
  gpost : Vec F S1x2048 .f32
  gpre : Vec F S1x2048 .f32

/-- The first and the second 128 rows. -/
def Ins.upper (B : Ins F) : Half F where
  a0 := VecWindow.window B.t0 ![0, 512] S128x512.size inb_S256x1024_S128x512_0_512
  a1 := VecWindow.window B.t1 ![0, 0] S128x1024.size inb_S256x1024_S128x1024_0_0
  a2 := VecWindow.window B.t2 ![0, 0] S128x512.size inb_S256x1024_S128x512_0_0
  b0 := VecWindow.window B.t2 ![0, 512] S128x512.size inb_S256x1024_S128x512_0_512
  b1 := VecWindow.window B.t3 ![0, 0] S128x1024.size inb_S256x1024_S128x1024_0_0
  b2 := VecWindow.window B.t4 ![0, 0] S128x512.size inb_S256x1024_S128x512_0_0
  att := VecWindow.window B.att ![0, 0] S128x1024.size inb_S256x1024_S128x1024_0_0
  of := VecWindow.window B.of ![0, 0] S128x1024.size inb_S256x1024_S128x1024_0_0
  ob := VecWindow.window B.ob ![0, 0] S128x1024.size inb_S256x1024_S128x1024_0_0
  g := VecWindow.window B.g ![0, 0] S128x1024.size inb_S256x1024_S128x1024_0_0
  x := VecWindow.window B.x ![0, 0] S128x2048.size inb_S256x2048_S128x2048_0_0
  wa := VecWindow.window B.wa ![0, 0] S1024x2048.size inb_S1024x2048_S1024x2048_0_0
  wb := VecWindow.window B.wb ![0, 0] S1024x2048.size inb_S1024x2048_S1024x2048_0_0
  wo := VecWindow.window B.wo ![0, 0] S2048x2048.size inb_S2048x2048_S2048x2048_0_0
  hgain := VecWindow.window B.hgain ![0, 0] S1x1024.size inb_S1x1024_S1x1024_0_0
  gpost := VecWindow.window B.gpost ![0, 0] S1x2048.size inb_S1x2048_S1x2048_0_0
  gpre := VecWindow.window B.gpre ![0, 0] S1x2048.size inb_S1x2048_S1x2048_0_0
def Ins.lower (B : Ins F) : Half F where
  a0 := VecWindow.window B.t0 ![128, 512] S128x512.size inb_S256x1024_S128x512_128_512
  a1 := VecWindow.window B.t1 ![128, 0] S128x1024.size inb_S256x1024_S128x1024_128_0
  a2 := VecWindow.window B.t2 ![128, 0] S128x512.size inb_S256x1024_S128x512_128_0
  b0 := VecWindow.window B.t2 ![128, 512] S128x512.size inb_S256x1024_S128x512_128_512
  b1 := VecWindow.window B.t3 ![128, 0] S128x1024.size inb_S256x1024_S128x1024_128_0
  b2 := VecWindow.window B.t4 ![128, 0] S128x512.size inb_S256x1024_S128x512_128_0
  att := VecWindow.window B.att ![128, 0] S128x1024.size inb_S256x1024_S128x1024_128_0
  of := VecWindow.window B.of ![128, 0] S128x1024.size inb_S256x1024_S128x1024_128_0
  ob := VecWindow.window B.ob ![128, 0] S128x1024.size inb_S256x1024_S128x1024_128_0
  g := VecWindow.window B.g ![128, 0] S128x1024.size inb_S256x1024_S128x1024_128_0
  x := VecWindow.window B.x ![128, 0] S128x2048.size inb_S256x2048_S128x2048_128_0
  wa := VecWindow.window B.wa ![0, 0] S1024x2048.size inb_S1024x2048_S1024x2048_0_0
  wb := VecWindow.window B.wb ![0, 0] S1024x2048.size inb_S1024x2048_S1024x2048_0_0
  wo := VecWindow.window B.wo ![0, 0] S2048x2048.size inb_S2048x2048_S2048x2048_0_0
  hgain := VecWindow.window B.hgain ![0, 0] S1x1024.size inb_S1x1024_S1x1024_0_0
  gpost := VecWindow.window B.gpost ![0, 0] S1x2048.size inb_S1x2048_S1x2048_0_0
  gpre := VecWindow.window B.gpre ![0, 0] S1x2048.size inb_S1x2048_S1x2048_0_0

namespace Half
variable (H : Half F)

/-- The sum of the scans' outputs. -/
def o : FVec F S128x1024 .f32 := k0_pay5 H.of H.ob
/-- The merged rows through the output weight. -/
def out : FVec F S128x2048 .f32 :=
  k0_pay15 (k0_pay3 H.a0 H.a1 H.a2) (k0_pay4 H.b0 H.b1 H.b2 H.att H.wb) H.o (k0_pay6 H.of H.ob)
    (k0_pay9 (k0_pay7 H.of H.ob) (k0_pay8 H.of H.ob)) (k0_pay10 H.o) (k0_pay11 H.o) (k0_pay12 H.o) (k0_pay13 H.o) (k0_pay14 H.o)
    H.hgain H.g H.wa H.wo
def outSq : FVec F S128x2048 .f32 :=
  k0_pay16 (k0_pay3 H.a0 H.a1 H.a2) (k0_pay4 H.b0 H.b1 H.b2 H.att H.wb) H.o (k0_pay6 H.of H.ob)
    (k0_pay9 (k0_pay7 H.of H.ob) (k0_pay8 H.of H.ob)) (k0_pay10 H.o) (k0_pay11 H.o) (k0_pay12 H.o) (k0_pay13 H.o) (k0_pay14 H.o)
    H.hgain H.g H.wa H.wo
/-- The updated stream and its normalised rows. -/
def stream : FVec F S128x2048 .f32 := k0_pay17 H.out H.x H.outSq H.gpost
def rows : FVec F S128x2048 .bf16 := k0_pay18 H.out H.x H.outSq H.gpost H.gpre

/-- The same, as the second half of the body spells them. -/
def o' : FVec F S128x1024 .f32 := k0_pay21 H.of H.ob
def out' : FVec F S128x2048 .f32 :=
  k0_pay32 (k0_pay19 H.a0 H.a1 H.a2) (k0_pay20 H.b0 H.b1 H.b2 H.att H.wb) H.o' (k0_pay22 H.of H.ob) (k0_pay23 H.of H.ob)
    (k0_pay27 (k0_pay24 H.of H.ob) (k0_pay25 H.of H.ob) (k0_pay26 (F := F))) (k0_pay28 H.o') (k0_pay29 H.o') (k0_pay30 H.o') (k0_pay31 H.o')
    H.hgain H.g H.wa H.wo
def stream' : FVec F S128x2048 .f32 := k0_pay1 H.x H.out' (k0_pay33 H.gpost)
def rows' : FVec F S128x2048 .bf16 := k0_pay2 H.x H.out' (k0_pay33 H.gpost) H.gpre

theorem stream_eq : H.stream' = H.stream := rfl
theorem rows_eq : H.rows' = H.rows := rfl

end Half

/-- Two halves stored over a buffer. -/
def stack {e : EltTy} (Y : Vec F S256x2048 e) (p q : Vec F S128x2048 e) : Vec F S256x2048 e :=
  VecWindow.put (VecWindow.put Y ![0, 0] ![128, 2048] p) ![128, 0] ![128, 2048] q

/-- They cover the buffer. -/
theorem stack_any {e : EltTy} (Y Y' : Vec F S256x2048 e) (p q : Vec F S128x2048 e) : stack Y p q = stack Y' p q := by
  funext y
  have h1 : (y 1).val < 2048 := (y 1).isLt
  have h0 : (y 0).val < 256 := (y 0).isLt
  unfold stack VecWindow.put
  by_cases h : (y 0).val < 128
  · have hh : ∀ a : Fin 2, (![0, 0] : Fin 2 → ℕ) a ≤ (y a).val ∧ (y a).val < (![0, 0] : Fin 2 → ℕ) a + (![128, 2048] : Fin 2 → ℕ) a :=
      Fin.forall_fin_two.mpr ⟨⟨Nat.zero_le _, by show _ < 0 + 128; omega⟩, ⟨Nat.zero_le _, by show _ < 0 + 2048; omega⟩⟩
    rw [dif_pos hh, dif_pos hh]
  · have hh : ∀ a : Fin 2, (![128, 0] : Fin 2 → ℕ) a ≤ (y a).val ∧ (y a).val < (![128, 0] : Fin 2 → ℕ) a + (![128, 2048] : Fin 2 → ℕ) a :=
      Fin.forall_fin_two.mpr ⟨⟨by show 128 ≤ _; omega, by show _ < 128 + 128; omega⟩, ⟨Nat.zero_le _, by show _ < 0 + 2048; omega⟩⟩
    rw [dif_pos hh, dif_pos hh]

/-- What a point leaves in its two output buffers. -/
def newX (B : Ins F) (Y : Vec F S256x2048 .f32) : Vec F S256x2048 .f32 := stack Y B.upper.stream B.lower.stream
def newH (B : Ins F) (Y : Vec F S256x2048 .bf16) : Vec F S256x2048 .bf16 := stack Y B.upper.rows B.lower.rows

theorem read_two {e : EltTy} (μ : Memref sig .tc .vmem S256x2048 e) (f : μ.view.ty.Contents (Elt F)) (Y : Vec F S256x2048 e)
    (p q p' q' : Vec F S128x2048 e) (hp : p' = p) (hq : q' = q) :
    μ.view.read (Elt F) (μ.view.writes (Elt F) f [⟨Rect.unit ![128, 0] S128x2048.size inb_S256x2048_S128x2048_128_0, q'⟩, ⟨Rect.unit ![0, 0] S128x2048.size inb_S256x2048_S128x2048_0_0, p'⟩])
      = stack Y p q := by
  subst hp hq
  rw [View.read_writes_cons_put _ _ _ _ _ rfl, View.read_writes_cons_put _ _ _ _ _ rfl]
  exact stack_any _ Y p' q'

set_option maxHeartbeats 1000000 in

/-- The body run on its buffers leaves the inputs and fills the two outputs. -/
theorem run (i : grid0.Coords) (c : Dev nD)
    (arg1 : Memref sig .tc .vmem S256x1024 .f32) (harg1 : arg1.IsWhole) (arg2 : Memref sig .tc .vmem S256x1024 .f32) (harg2 : arg2.IsWhole) (arg3 : Memref
    sig .tc .vmem S256x1024 .bf16) (harg3 : arg3.IsWhole) (arg4 : Memref sig .tc .vmem S256x1024 .bf16) (harg4 : arg4.IsWhole) (arg5 : Memref sig .tc
    .vmem S256x1024 .bf16) (harg5 : arg5.IsWhole) (arg6 : Memref sig .tc .vmem S256x1024 .bf16) (harg6 : arg6.IsWhole) (arg7 : Memref sig .tc .vmem
    S256x1024 .bf16) (harg7 : arg7.IsWhole) (arg8 : Memref sig .tc .vmem S256x1024 .bf16) (harg8 : arg8.IsWhole) (arg9 : Memref sig .tc .vmem S256x1024
    .bf16) (harg9 : arg9.IsWhole) (arg10 : Memref sig .tc .vmem S256x2048 .f32) (harg10 : arg10.IsWhole) (arg11 : Memref sig .tc .vmem S1024x2048 .bf16)
    (harg11 : arg11.IsWhole) (arg12 : Memref sig .tc .vmem S1024x2048 .bf16) (harg12 : arg12.IsWhole) (arg13 : Memref sig .tc .vmem S2048x2048 .bf16)
    (harg13 : arg13.IsWhole) (arg14 : Memref sig .tc .vmem S1x1024 .f32) (harg14 : arg14.IsWhole) (arg15 : Memref sig .tc .vmem S1x2048 .f32) (harg15 :
    arg15.IsWhole) (arg16 : Memref sig .tc .vmem S1x2048 .f32) (harg16 : arg16.IsWhole) (arg17 : Memref sig .tc .vmem S256x2048 .f32) (harg17 :
    arg17.IsWhole) (arg18 : Memref sig .tc .vmem S256x2048 .bf16) (harg18 : arg18.IsWhole) (of : Vec F S256x1024 .f32) (ob : Vec F S256x1024 .f32) (g :
    Vec F S256x1024 .bf16) (att : Vec F S256x1024 .bf16) (t0 : Vec F S256x1024 .bf16) (t1 : Vec F S256x1024 .bf16) (t2 : Vec F S256x1024 .bf16) (t3 : Vec
    F S256x1024 .bf16) (t4 : Vec F S256x1024 .bf16) (x : Vec F S256x2048 .f32) (wa : Vec F S1024x2048 .bf16) (wb : Vec F S1024x2048 .bf16) (wo : Vec F
    S2048x2048 .bf16) (hgain : Vec F S1x1024 .f32) (gpost : Vec F S1x2048 .f32) (gpre : Vec F S1x2048 .f32) (y : Vec F S256x2048 .f32) (z : Vec F
    S256x2048 .bf16)
    (E : Set ℕ) (K : PUnit → sProp 𝕄) :
    iprop(owns (c : Thread nD τ) arg1 fullShare of ∗ owns (c : Thread nD τ) arg2 fullShare ob ∗ owns (c : Thread nD τ) arg3 fullShare g ∗ owns (c : Thread nD τ)
        arg4 fullShare att ∗ owns (c : Thread nD τ) arg5 fullShare t0 ∗ owns (c : Thread nD τ) arg6 fullShare t1 ∗ owns (c : Thread nD τ) arg7 fullShare t2 ∗
        owns (c : Thread nD τ) arg8 fullShare t3 ∗ owns (c : Thread nD τ) arg9 fullShare t4 ∗ owns (c : Thread nD τ) arg10 fullShare x ∗ owns (c : Thread nD
        τ) arg11 fullShare wa ∗ owns (c : Thread nD τ) arg12 fullShare wb ∗ owns (c : Thread nD τ) arg13 fullShare wo ∗ owns (c : Thread nD τ) arg14 fullShare
        hgain ∗ owns (c : Thread nD τ) arg15 fullShare gpost ∗ owns (c : Thread nD τ) arg16 fullShare gpre ∗ owns (c : Thread nD τ) arg17 fullShare y ∗ owns
        (c : Thread nD τ) arg18 fullShare z
        ∗ (iprop(owns (c : Thread nD τ) arg1 fullShare of ∗ owns (c : Thread nD τ) arg2 fullShare ob ∗ owns (c : Thread nD τ) arg3 fullShare g ∗ owns (c : Thread nD τ)
            arg4 fullShare att ∗ owns (c : Thread nD τ) arg5 fullShare t0 ∗ owns (c : Thread nD τ) arg6 fullShare t1 ∗ owns (c : Thread nD τ) arg7 fullShare t2 ∗
            owns (c : Thread nD τ) arg8 fullShare t3 ∗ owns (c : Thread nD τ) arg9 fullShare t4 ∗ owns (c : Thread nD τ) arg10 fullShare x ∗ owns (c : Thread nD
            τ) arg11 fullShare wa ∗ owns (c : Thread nD τ) arg12 fullShare wb ∗ owns (c : Thread nD τ) arg13 fullShare wo ∗ owns (c : Thread nD τ) arg14 fullShare
            hgain ∗ owns (c : Thread nD τ) arg15 fullShare gpost ∗ owns (c : Thread nD τ) arg16 fullShare gpre ∗ owns (c : Thread nD τ) arg17 fullShare (newX
            (Ins.mk of ob g att t0 t1 t2 t3 t4 x wa wb wo hgain gpost gpre) y) ∗ owns (c : Thread nD τ) arg18 fullShare (newH (Ins.mk of ob g att t0 t1 t2 t3 t4 x
            wa wb wo hgain gpost gpre) z)) -∗ K ⟨⟩))
      ⊢ wp frame (wpE (defs₀ (F := F)) Variants.none c none) E
          (cc0_merge_out i arg1 harg1 arg2 harg2 arg3 harg3 arg4 harg4 arg5 harg5 arg6 harg6 arg7 harg7 arg8 harg8 arg9 harg9 arg10 harg10 arg11 harg11 arg12 harg12 arg13 harg13
            arg14 harg14 arg15 harg15 arg16 harg16 arg17 harg17 arg18 harg18) K := by
  simp only [cc0_merge_out_eq_skeleton]; unfold cc0_merge_out_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  subst hf1 hf2 hf3 hf4 hf5 hf6 hf7 hf8 hf9 hf10 hf11 hf12 hf13 hf14 hf15 hf16 hf17 hf18
  sl_exec
  sl_step
  iapply Hk
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; · ipureintro; exact rfl
    iexact H5
  isplitl [H6]
  · iexists _; isplitr; · ipureintro; exact rfl
    iexact H6
  isplitl [H7]
  · iexists _; isplitr; · ipureintro; exact rfl
    iexact H7
  isplitl [H8]
  · iexists _; isplitr; · ipureintro; exact rfl
    iexact H8
  isplitl [H9]
  · iexists _; isplitr; · ipureintro; exact rfl
    iexact H9
  isplitl [H10]
  · iexists _; isplitr; · ipureintro; exact rfl
    iexact H10
  isplitl [H11]
  · iexists _; isplitr; · ipureintro; exact rfl
    iexact H11
  isplitl [H12]
  · iexists _; isplitr; · ipureintro; exact rfl
    iexact H12
  isplitl [H13]
  · iexists _; isplitr; · ipureintro; exact rfl
    iexact H13
  isplitl [H14]
  · iexists _; isplitr; · ipureintro; exact rfl
    iexact H14
  isplitl [H15]
  · iexists _; isplitr; · ipureintro; exact rfl
    iexact H15
  isplitl [H16]
  · iexists _; isplitr; · ipureintro; exact rfl
    iexact H16
  isplitl [H17]
  · iexists _; isplitr; swap; · iexact H17
    ipureintro
    unfold newX
    refine read_two arg17 _ _ _ _ _ _ ?_ ?_
    · simp only [Half.stream, Half.out, Half.outSq, Half.o, Ins.upper]; exact rfl
    · rw [← Half.stream_eq]; simp only [Half.stream', Half.out', Half.o', Ins.lower]; exact rfl
  iexists _; isplitr; swap; · iexact H18
  ipureintro
  unfold newH
  refine read_two arg18 _ _ _ _ _ _ ?_ ?_
  · simp only [Half.rows, Half.out, Half.outSq, Half.o, Ins.upper]; exact rfl
  · rw [← Half.rows_eq]; simp only [Half.rows', Half.out', Half.o', Ins.lower]; exact rfl

end Cert.Kernel5Ideal.Merge

end
-- ==== Proof.MergeFrame.lean ====
/- The pipeline of the merge, over any floats: every execution ends, leaves the arguments, and fills the output
   buffers as the points' functions say. -/
module

public import proofs.«01_k».proof.Proof.MergeRun

@[expose] public section

set_option maxRecDepth 16384

noncomputable section

namespace Cert.Kernel5Ideal.Merge

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks of a point, which the body leaves in place; the last tile of gates, cut at the array's edge, and the
    outputs are said by `rdat` below. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => X0_4 m c t
    | ⟨5, _⟩ => X0_5 m c t
    | ⟨6, _⟩ => X0_6 m c t
    | ⟨7, _⟩ => X0_7 m c t
    | ⟨8, _⟩ => fun _ => Classical.arbitrary _
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => fun _ => Classical.arbitrary _
    | ⟨17, _⟩ => fun _ => Classical.arbitrary _
    | ⟨n + 18, h⟩ => absurd h (Nat.not_lt.mpr (Nat.le_add_left 18 n))
  Φ _ := Pipeline.ΦA spec0 c
  q w := Pipeline.shareOf spec0 w
  owed _ := 0

/-- The last tile of gates of a point, with `d` beyond the array's edge. -/
abbrev gtile (c : Dev nD) (t : Fin cfg0.N) (d : Vec F S256x1024 .bf16) : Vec F S256x1024 .bf16 := (dats m 0 c).fetched 8 t d

/-- All the input blocks of a point. -/
def ins (c : Dev nD) (t : Fin cfg0.N) (d : Vec F S256x1024 .bf16) : Ins F :=
  Ins.mk (iblk m c 0 t) (iblk m c 1 t) (X0_2 m c t) (iblk m c 3 t) (X0_4 m c t) (X0_5 m c t) (X0_6 m c t) (X0_7 m c t) (gtile m c t d) (iblk m c 9 t) (iblk m c 10 t) (iblk m c 11 t) (iblk m c 12 t) (iblk m c 13 t) (iblk m c 14 t) (iblk m c 15 t)

/-- The proof data: the last tile of gates stays as found, the output buffers are filled by the body's functions, at some
    contents of that tile beyond the array's edge. -/
def rdat (c : Dev nD) : RDat τ (Elt F) Unit ℕ (UR sig nD τ) ℕ cfg0 c :=
  (dats m 0 c).toR.override fun w => match w with
    | ⟨8, _⟩ => some fun t Y X => X = Y
    | ⟨16, _⟩ => some fun t Y X => ∃ d, X = newX (ins m c t d) Y
    | ⟨17, _⟩ => some fun t Y X => ∃ d, X = newH (ins m c t d) Y
    | _ => none

theorem A_eq (c : Dev nD) (w : Fin cfg0.W) : (rdat m c).A w = V m c (Pipeline.arrRef spec0 w) := rfl

theorem finds_0 (c : Dev nD) (t : Fin cfg0.N) (Y) (h : (rdat m c).Finds 0 t Y) : Y = iblk m c 0 t := by
  obtain ⟨d, rfl⟩ := (dats m 0 c).toR_finds 0 t Y (((dats m 0 c).toR.override_finds rfl t Y).mp h)
  exact before0_0_of m (dats m 0 c) rfl (fun _ => rfl) t d
theorem finds_1 (c : Dev nD) (t : Fin cfg0.N) (Y) (h : (rdat m c).Finds 1 t Y) : Y = iblk m c 1 t := by
  obtain ⟨d, rfl⟩ := (dats m 0 c).toR_finds 1 t Y (((dats m 0 c).toR.override_finds rfl t Y).mp h)
  exact before0_1_of m (dats m 0 c) rfl (fun _ => rfl) t d
theorem finds_2 (c : Dev nD) (t : Fin cfg0.N) (Y) (h : (rdat m c).Finds 2 t Y) : Y = X0_2 m c t := by
  obtain ⟨d, rfl⟩ := (dats m 0 c).toR_finds 2 t Y (((dats m 0 c).toR.override_finds rfl t Y).mp h)
  exact before0_2_of m (dats m 0 c) rfl (fun _ => rfl) t d
theorem finds_3 (c : Dev nD) (t : Fin cfg0.N) (Y) (h : (rdat m c).Finds 3 t Y) : Y = iblk m c 3 t := by
  obtain ⟨d, rfl⟩ := (dats m 0 c).toR_finds 3 t Y (((dats m 0 c).toR.override_finds rfl t Y).mp h)
  exact before0_3_of m (dats m 0 c) rfl (fun _ => rfl) t d
theorem finds_4 (c : Dev nD) (t : Fin cfg0.N) (Y) (h : (rdat m c).Finds 4 t Y) : Y = X0_4 m c t := by
  obtain ⟨d, rfl⟩ := (dats m 0 c).toR_finds 4 t Y (((dats m 0 c).toR.override_finds rfl t Y).mp h)
  exact before0_4_of m (dats m 0 c) rfl (fun _ => rfl) t d
theorem finds_5 (c : Dev nD) (t : Fin cfg0.N) (Y) (h : (rdat m c).Finds 5 t Y) : Y = X0_5 m c t := by
  obtain ⟨d, rfl⟩ := (dats m 0 c).toR_finds 5 t Y (((dats m 0 c).toR.override_finds rfl t Y).mp h)
  exact before0_5_of m (dats m 0 c) rfl (fun _ => rfl) t d
theorem finds_6 (c : Dev nD) (t : Fin cfg0.N) (Y) (h : (rdat m c).Finds 6 t Y) : Y = X0_6 m c t := by
  obtain ⟨d, rfl⟩ := (dats m 0 c).toR_finds 6 t Y (((dats m 0 c).toR.override_finds rfl t Y).mp h)
  exact before0_6_of m (dats m 0 c) rfl (fun _ => rfl) t d
theorem finds_7 (c : Dev nD) (t : Fin cfg0.N) (Y) (h : (rdat m c).Finds 7 t Y) : Y = X0_7 m c t := by
  obtain ⟨d, rfl⟩ := (dats m 0 c).toR_finds 7 t Y (((dats m 0 c).toR.override_finds rfl t Y).mp h)
  exact before0_7_of m (dats m 0 c) rfl (fun _ => rfl) t d
theorem finds_9 (c : Dev nD) (t : Fin cfg0.N) (Y) (h : (rdat m c).Finds 9 t Y) : Y = iblk m c 9 t := by
  obtain ⟨d, rfl⟩ := (dats m 0 c).toR_finds 9 t Y (((dats m 0 c).toR.override_finds rfl t Y).mp h)
  exact before0_9_of m (dats m 0 c) rfl (fun _ => rfl) t d
theorem finds_10 (c : Dev nD) (t : Fin cfg0.N) (Y) (h : (rdat m c).Finds 10 t Y) : Y = iblk m c 10 t := by
  obtain ⟨d, rfl⟩ := (dats m 0 c).toR_finds 10 t Y (((dats m 0 c).toR.override_finds rfl t Y).mp h)
  exact before0_10_of m (dats m 0 c) rfl (fun _ => rfl) t d
theorem finds_11 (c : Dev nD) (t : Fin cfg0.N) (Y) (h : (rdat m c).Finds 11 t Y) : Y = iblk m c 11 t := by
  obtain ⟨d, rfl⟩ := (dats m 0 c).toR_finds 11 t Y (((dats m 0 c).toR.override_finds rfl t Y).mp h)
  exact before0_11_of m (dats m 0 c) rfl (fun _ => rfl) t d
theorem finds_12 (c : Dev nD) (t : Fin cfg0.N) (Y) (h : (rdat m c).Finds 12 t Y) : Y = iblk m c 12 t := by
  obtain ⟨d, rfl⟩ := (dats m 0 c).toR_finds 12 t Y (((dats m 0 c).toR.override_finds rfl t Y).mp h)
  exact before0_12_of m (dats m 0 c) rfl (fun _ => rfl) t d
theorem finds_13 (c : Dev nD) (t : Fin cfg0.N) (Y) (h : (rdat m c).Finds 13 t Y) : Y = iblk m c 13 t := by
  obtain ⟨d, rfl⟩ := (dats m 0 c).toR_finds 13 t Y (((dats m 0 c).toR.override_finds rfl t Y).mp h)
  exact before0_13_of m (dats m 0 c) rfl (fun _ => rfl) t d
theorem finds_14 (c : Dev nD) (t : Fin cfg0.N) (Y) (h : (rdat m c).Finds 14 t Y) : Y = iblk m c 14 t := by
  obtain ⟨d, rfl⟩ := (dats m 0 c).toR_finds 14 t Y (((dats m 0 c).toR.override_finds rfl t Y).mp h)
  exact before0_14_of m (dats m 0 c) rfl (fun _ => rfl) t d
theorem finds_15 (c : Dev nD) (t : Fin cfg0.N) (Y) (h : (rdat m c).Finds 15 t Y) : Y = iblk m c 15 t := by
  obtain ⟨d, rfl⟩ := (dats m 0 c).toR_finds 15 t Y (((dats m 0 c).toR.override_finds rfl t Y).mp h)
  exact before0_15_of m (dats m 0 c) rfl (fun _ => rfl) t d

/-- The cuts at the array's edge go by the block index. -/
theorem clip_8 (t t' : Fin cfg0.N) (h : (cfg0.win 8).index t = (cfg0.win 8).index t') :
    (cfg0.win 8).clip (cfg0.grid.coords t) = (cfg0.win 8).clip (cfg0.grid.coords t') :=
  congrArg (fun (ix : Fin 2 → ℕ) (a : Fin 2) => Pipeline.Clip.of (ix a) (S256x1024.size a) (S16384x8704.size a)) h

theorem finds_8 (c : Dev nD) (t : Fin cfg0.N) (Y) (h : (rdat m c).Finds 8 t Y) : ∃ d, Y = gtile m c t d :=
  (rdat m c).finds_in_eq_fetched 8 rfl (clip_8) (fun _ _ _ h => h) t Y h

theorem body_row (t : Fin cfg0.N) : defs₀ (F := F) .tc cfg0.body (cfg0.bodyArgs t (cfg0.slots t)) = bodyAt0 t := by
  unfold defs₀; rw [Defs.onTc_tc]

/-- What a point is handed and hands back, the inputs at their blocks. -/
theorem sound_body (c : Dev nD) (t : Fin cfg0.N) (d : Vec F S256x1024 .bf16) (y : Vec F S256x2048 .f32) (z : Vec F S256x2048 .bf16) :
    iprop(Pipeline.ΦA spec0 c ∗ (rdat m c).owesAt () t.castSucc
        ∗ owns (c : Thread nD τ) (st0_0 t) fullShare (iblk m c 0 t) ∗ owns (c : Thread nD τ) (st0_1 t) fullShare (iblk m c 1 t)
        ∗ owns (c : Thread nD τ) (st0_2 t) fullShare (X0_2 m c t) ∗ owns (c : Thread nD τ) (st0_3 t) fullShare (iblk m c 3 t)
        ∗ owns (c : Thread nD τ) (st0_4 t) fullShare (X0_4 m c t) ∗ owns (c : Thread nD τ) (st0_5 t) fullShare (X0_5 m c t)
        ∗ owns (c : Thread nD τ) (st0_6 t) fullShare (X0_6 m c t) ∗ owns (c : Thread nD τ) (st0_7 t) fullShare (X0_7 m c t)
        ∗ owns (c : Thread nD τ) (st0_8 t) fullShare (gtile m c t d) ∗ owns (c : Thread nD τ) (st0_9 t) fullShare (iblk m c 9 t)
        ∗ owns (c : Thread nD τ) (st0_10 t) fullShare (iblk m c 10 t) ∗ owns (c : Thread nD τ) (st0_11 t) fullShare (iblk m c 11 t)
        ∗ owns (c : Thread nD τ) (st0_12 t) fullShare (iblk m c 12 t) ∗ owns (c : Thread nD τ) (st0_13 t) fullShare (iblk m c 13 t)
        ∗ owns (c : Thread nD τ) (st0_14 t) fullShare (iblk m c 14 t) ∗ owns (c : Thread nD τ) (st0_15 t) fullShare (iblk m c 15 t)
        ∗ owns (c : Thread nD τ) (st0_16 t) fullShare y ∗ owns (c : Thread nD τ) (st0_17 t) fullShare z)
      ⊢ wp frame (wpE (defs₀ (F := F)) Variants.none c none) Set.univ (bodyAt0 t) fun _ =>
        iprop(Pipeline.ΦA spec0 c ∗ (rdat m c).owesAt () t.castSucc
        ∗ owns (c : Thread nD τ) (st0_0 t) fullShare (iblk m c 0 t) ∗ owns (c : Thread nD τ) (st0_1 t) fullShare (iblk m c 1 t)
        ∗ owns (c : Thread nD τ) (st0_2 t) fullShare (X0_2 m c t) ∗ owns (c : Thread nD τ) (st0_3 t) fullShare (iblk m c 3 t)
        ∗ owns (c : Thread nD τ) (st0_4 t) fullShare (X0_4 m c t) ∗ owns (c : Thread nD τ) (st0_5 t) fullShare (X0_5 m c t)
        ∗ owns (c : Thread nD τ) (st0_6 t) fullShare (X0_6 m c t) ∗ owns (c : Thread nD τ) (st0_7 t) fullShare (X0_7 m c t)
        ∗ owns (c : Thread nD τ) (st0_8 t) fullShare (gtile m c t d) ∗ owns (c : Thread nD τ) (st0_9 t) fullShare (iblk m c 9 t)
        ∗ owns (c : Thread nD τ) (st0_10 t) fullShare (iblk m c 10 t) ∗ owns (c : Thread nD τ) (st0_11 t) fullShare (iblk m c 11 t)
        ∗ owns (c : Thread nD τ) (st0_12 t) fullShare (iblk m c 12 t) ∗ owns (c : Thread nD τ) (st0_13 t) fullShare (iblk m c 13 t)
        ∗ owns (c : Thread nD τ) (st0_14 t) fullShare (iblk m c 14 t) ∗ owns (c : Thread nD τ) (st0_15 t) fullShare (iblk m c 15 t)
        ∗ owns (c : Thread nD τ) (st0_16 t) fullShare (newX (ins m c t d) y) ∗ owns (c : Thread nD τ) (st0_17 t) fullShare (newH (ins m c t d) z)) := by
  iintro ⟨HΦ, Ho, H0, H1, H2, H3, H4, H5, H6, H7, H8, H9, H10, H11, H12, H13, H14, H15, H16, H17⟩
  iapply (run (F := F) (grid0.coords t) c)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- A buffer held at named contents is held at some contents in a relation, if these are. -/
theorem owns_of {sp : Space} {s : Shape} {e : EltTy} (c : Dev nD) (μ : Memref sig .tc sp s e) (X : Vec F s e) (R : Vec F s e → Prop) (h : R X) :
    (owns (c : Thread nD τ) μ fullShare X : sProp 𝕄) ⊢ iprop(∃ X', ⌜R X'⌝ ∗ owns (c : Thread nD τ) μ fullShare X') := by
  iintro H
  iexists X; isplitr; · ipureintro; exact h
  iexact H

theorem obligation (c : Dev nD) : (rdat m c).BodyObligation (defs₀ (F := F)) Variants.none () Set.univ := fun t Y hY => by
  have h0 := finds_0 m c t _ (hY 0)
  have h1 := finds_1 m c t _ (hY 1)
  have h2 := finds_2 m c t _ (hY 2)
  have h3 := finds_3 m c t _ (hY 3)
  have h4 := finds_4 m c t _ (hY 4)
  have h5 := finds_5 m c t _ (hY 5)
  have h6 := finds_6 m c t _ (hY 6)
  have h7 := finds_7 m c t _ (hY 7)
  obtain ⟨d, h8⟩ := finds_8 m c t _ (hY 8)
  have h9 := finds_9 m c t _ (hY 9)
  have h10 := finds_10 m c t _ (hY 10)
  have h11 := finds_11 m c t _ (hY 11)
  have h12 := finds_12 m c t _ (hY 12)
  have h13 := finds_13 m c t _ (hY 13)
  have h14 := finds_14 m c t _ (hY 14)
  have h15 := finds_15 m c t _ (hY 15)
  have hΦ : (rdat m c).Φ t.succ = Pipeline.ΦA spec0 c := rfl
  have hΦ' : (rdat m c).Φ t.castSucc = Pipeline.ΦA spec0 c := rfl
  have ho : (rdat m c).owesAt () t.succ = (rdat m c).owesAt () t.castSucc := rfl
  rw [bigSep_W0, bigSep_W0, body_row, h0, h1, h2, h3, h4, h5, h6, h7, h8, h9, h10, h11, h12, h13, h14, h15, hΦ, hΦ', ho]
  refine triple_restated (sound_body m c t d (Y 16) (Y 17)) rfl .rfl fun _ => ?_
  iintro ⟨HΦ, Ho, H0, H1, H2, H3, H4, H5, H6, H7, H8, H9, H10, H11, H12, H13, H14, H15, H16, H17⟩
  isplitl [HΦ]; · iexact HΦ
  isplitl [Ho]; · iexact Ho
  isplitl [H0]; · iapply (owns_of c _ _ _ ?_); swap; · iexact H0
                  exact rfl
  isplitl [H1]; · iapply (owns_of c _ _ _ ?_); swap; · iexact H1
                  exact rfl
  isplitl [H2]; · iapply (owns_of c _ _ _ ?_); swap; · iexact H2
                  exact ⟨dflt0_2, congrArg ((cfg0.win 2).fill (cfg0.grid.coords t) dflt0_2) (Pipeline.Window.cut_fill ..).symm⟩
  isplitl [H3]; · iapply (owns_of c _ _ _ ?_); swap; · iexact H3
                  exact rfl
  isplitl [H4]; · iapply (owns_of c _ _ _ ?_); swap; · iexact H4
                  exact ⟨dflt0_4, congrArg ((cfg0.win 4).fill (cfg0.grid.coords t) dflt0_4) (Pipeline.Window.cut_fill ..).symm⟩
  isplitl [H5]; · iapply (owns_of c _ _ _ ?_); swap; · iexact H5
                  exact ⟨dflt0_5, congrArg ((cfg0.win 5).fill (cfg0.grid.coords t) dflt0_5) (Pipeline.Window.cut_fill ..).symm⟩
  isplitl [H6]; · iapply (owns_of c _ _ _ ?_); swap; · iexact H6
                  exact ⟨dflt0_6, congrArg ((cfg0.win 6).fill (cfg0.grid.coords t) dflt0_6) (Pipeline.Window.cut_fill ..).symm⟩
  isplitl [H7]; · iapply (owns_of c _ _ _ ?_); swap; · iexact H7
                  exact ⟨dflt0_7, congrArg ((cfg0.win 7).fill (cfg0.grid.coords t) dflt0_7) (Pipeline.Window.cut_fill ..).symm⟩
  isplitl [H8]; · iapply (owns_of c _ _ _ ?_); swap; · iexact H8
                  exact rfl
  isplitl [H9]; · iapply (owns_of c _ _ _ ?_); swap; · iexact H9
                  exact rfl
  isplitl [H10]; · iapply (owns_of c _ _ _ ?_); swap; · iexact H10
                   exact rfl
  isplitl [H11]; · iapply (owns_of c _ _ _ ?_); swap; · iexact H11
                   exact rfl
  isplitl [H12]; · iapply (owns_of c _ _ _ ?_); swap; · iexact H12
                   exact rfl
  isplitl [H13]; · iapply (owns_of c _ _ _ ?_); swap; · iexact H13
                   exact rfl
  isplitl [H14]; · iapply (owns_of c _ _ _ ?_); swap; · iexact H14
                   exact rfl
  isplitl [H15]; · iapply (owns_of c _ _ _ ?_); swap; · iexact H15
                   exact rfl
  isplitl [H16]; · iapply (owns_of c _ _ _ ?_); swap; · iexact H16
                   exact ⟨d, rfl⟩
  iapply (owns_of c _ _ _ ?_); swap; · iexact H17
  exact ⟨d, rfl⟩

theorem hin (c : Dev nD) : Pipeline.ΦA spec0 c ⊢ (rdat m c).Φ 0 := Idealize.SL.BI.Entails.refl _

theorem hout (c : Dev nD) : (rdat m c).Φ (Fin.last cfg0.N) ⊢ Pipeline.ΦA spec0 c := Idealize.SL.BI.Entails.refl _

set_option backward.isDefEq.respectTransparency.types false in
/-- Every execution ends, the arrays at what the proof data allow and every counter at zero. -/
theorem run_quiet : θ_run defs (onTc (τ := τ) (main (F := F))) (s₀ m ρ) (fun r => RDat.FramePost cfg0 (rdat m) (V m) r ∧ r.2.sem = fun _ => 0) :=
  RDat.θ_run_frame_track_shared (Q' := _) cfgs (0 : Fin 1) launch₀0 defs₀ Variants.none (rdat m) m ρ main
    (hbody := obligation m) (hq := fun _ _ _ => rfl)
    (howed := fun _ _ => rfl) (V := V m) (hmain := hmain m Variants.none) (hA := A_eq m) (hin := hin m) (hout := hout m)

/-- The arguments are as they were. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun _ h => ⟨fun c => ⟨h.1.arr_in c 0 rfl, h.1.arr_in c 1 rfl, h.1.arr_in c 2 rfl, h.1.arr_in c 3 rfl, h.1.arr_in c 9 rfl, h.1.arr_in c 10 rfl, h.1.arr_in c 11 rfl, h.1.arr_in c 12 rfl, h.1.arr_in c 13 rfl, h.1.arr_in c 14 rfl, h.1.arr_in c 15 rfl⟩, h.2⟩) (run_quiet m ρ)

end Cert.Kernel5Ideal.Merge

end
-- ==== Proof.MergeStep.lean ====
/- What a point of the merge stores, element by element over the extended reals. -/
module

public import proofs.«01_k».proof.Proof.MergeFrame
public import Idealize.ShloMosaic.Lib.Pipeline.ValueKit
public import Idealize.ShloMosaic.Lib.Pointwise

@[expose] public section

set_option maxRecDepth 16384

noncomputable section

namespace Cert.Kernel5Ideal.Merge

open Cert.Kernel5Ideal Cert.Kernel5Ideal.Gen Idealize.ShloMosaic Idealize.ShloMosaic.TcCoe Idealize.SL.Sem

/-! ## One token -/

/-- What the merge reads for one token: the sum of the scans' outputs, the attention's output, the output gates, the two
    merge gates, the stream, three weights and three rows of gains. -/
structure Row where
  o : Fin 1024 → EReal
  att : Fin 1024 → EReal
  g : Fin 1024 → EReal
  ga : Fin 2048 → EReal
  gb : Fin 2048 → EReal
  x : Fin 2048 → EReal
  wa : Fin 1024 → Fin 2048 → EReal
  wb : Fin 1024 → Fin 2048 → EReal
  wo : Fin 2048 → Fin 2048 → EReal
  hgain : Fin 1024 → EReal
  gpost : Fin 2048 → EReal
  gpre : Fin 2048 → EReal

/-- The places of the head of 128 that place `q` lies in. -/
def inHead (q : Fin 1024) (x : Fin 128) : Fin 1024 := ⟨q.val / 128 * 128 + x.val, by omega⟩

/-- An entry of a row normalised head by head. -/
def headed (o : Fin 1024 → EReal) (q : Fin 1024) : EReal :=
  o q * Ideal.rsqrt (Ideal.div (∑ x, o (inHead q x) * o (inHead q x)) (Ideal.ofBits FTy.f32 1124073472#32) + Ideal.ofBits FTy.f32 897988541#32)

/-- An entry of the normalised row `x` under the gains `g`. -/
def normed (x g : Fin 2048 → EReal) (k : Fin 2048) : EReal :=
  x k * Ideal.rsqrt (Ideal.div (∑ q, x q * x q) (Ideal.ofBits FTy.f32 1157627904#32) + Ideal.ofBits FTy.f32 897988541#32) * g k

namespace Row
variable (T : Row)

/-- The two branches, each under its gate, together. -/
def merged (k : Fin 2048) : EReal :=
  T.ga k * ∑ q, headed T.o q * T.hgain q * T.g q * T.wa q k + T.gb k * ∑ q, T.att q * T.wb q k
def out (k : Fin 2048) : EReal := ∑ q, T.merged q * T.wo q k
/-- The updated stream and its normalised row. -/
def stream (k : Fin 2048) : EReal := T.x k + normed T.out T.gpost k
def rows (k : Fin 2048) : EReal := normed T.stream T.gpre k

end Row

/-- The token at row `R` of the whole arrays; `p` holds the gates side by side. -/
def tokenRow (of ob : Vec Ideal S16384x1024 .f32) (p : Vec Ideal S16384x8704 .bf16) (att : Vec Ideal S16384x1024 .bf16) (x : Vec Ideal S16384x2048 .f32)
    (wa wb : Vec Ideal S1024x2048 .bf16) (wo : Vec Ideal S2048x2048 .bf16) (hgain : Vec Ideal S1x1024 .f32) (gpost gpre : Vec Ideal S1x2048 .f32)
    (R : Fin 16384) : Row where
  o q := of (ix2 R q) + ob (ix2 R q)
  att q := att (ix2 R q)
  g q := p (ix2 R ⟨2048 + q.val, by omega⟩)
  ga k := p (ix2 R ⟨4608 + k.val, by omega⟩)
  gb k := p (ix2 R ⟨6656 + k.val, by omega⟩)
  x k := x (ix2 R k)
  wa q k := wa (ix2 q k)
  wb q k := wb (ix2 q k)
  wo q k := wo (ix2 q k)
  hgain q := hgain (ix2 0 q)
  gpost k := gpost (ix2 0 k)
  gpre k := gpre (ix2 0 k)

/-! ## A half of a point -/

/-- A row of gates out of its three pieces. -/
def pieces (u : Fin 512 → EReal) (v : Fin 1024 → EReal) (w : Fin 512 → EReal) (k : Fin 2048) : EReal :=
  if h : k.val < 512 then u ⟨k.val, h⟩ else if h' : k.val - 512 < 1024 then v ⟨k.val - 512, h'⟩ else w ⟨k.val - 512 - 1024, by omega⟩

def Half.row (H : Half Ideal) (r : Fin 128) : Row where
  o q := H.of (ix2 r q) + H.ob (ix2 r q)
  att q := H.att (ix2 r q)
  g q := H.g (ix2 r q)
  ga := pieces (fun j => H.a0 (ix2 r j)) (fun j => H.a1 (ix2 r j)) (fun j => H.a2 (ix2 r j))
  gb := pieces (fun j => H.b0 (ix2 r j)) (fun j => H.b1 (ix2 r j)) (fun j => H.b2 (ix2 r j))
  x k := H.x (ix2 r k)
  wa q k := H.wa (ix2 q k)
  wb q k := H.wb (ix2 q k)
  wo q k := H.wo (ix2 q k)
  hgain q := H.hgain (ix2 0 q)
  gpost k := H.gpost (ix2 0 k)
  gpre k := H.gpre (ix2 0 k)

/-- An entry of a normalised head, the places of the head given in any spelling. -/
theorem headed_of (o : Fin 1024 → EReal) (q p : Fin 1024) (f : Fin 128 → Fin 1024) (hp : p = q) (hf : ∀ x, (f x).val = q.val / 128 * 128 + x.val) :
    o p * Ideal.rsqrt (Ideal.div (∑ x, o (f x) * o (f x)) (Ideal.ofBits FTy.f32 1124073472#32) + Ideal.ofBits FTy.f32 897988541#32) = headed o q := by
  obtain rfl := hp
  obtain rfl : f = inHead p := funext fun x => Fin.ext (hf x)
  rfl

section
variable (H : Half Ideal) (r : Fin 128)

set_option maxHeartbeats 1000000 in
theorem out_at (k : Fin 2048) : H.out (ix2 r k) = (H.row r).out k := by
  unfold Half.out Half.o
  open_payloads
  pointwise
  refine Finset.sum_congr rfl fun x _ => congrArg (· * H.wo (ix2 x k)) ((add_comm _ _).trans (congrArg₂ (· + ·) (congrArg₂ (· * ·) rfl ?_) rfl))
  refine Finset.sum_congr rfl fun q _ => congrArg (fun a => a * H.hgain (ix2 0 q) * H.g (ix2 r q) * H.wa (ix2 q x)) ?_
  split_ifs <;>
  exact headed_of (fun q => H.of (ix2 r q) + H.ob (ix2 r q)) q _ _ (Fin.ext (by first | rfl | (show _ + (_ : ℕ) = _; omega)))
    fun y => (by first | (show _ + (_ : ℕ) = _; omega) | (show y.val = _; omega))

theorem stream_at (k : Fin 2048) : H.stream (ix2 r k) = (H.row r).stream k := by
  unfold Half.stream Half.outSq k0_pay16 Row.stream
  rw [← funext (out_at H r)]
  show k0_pay17 H.out H.x (mulf H.out H.out) H.gpost (ix2 r k) = _
  generalize H.out = z
  open_payloads
  pointwise
  rfl

theorem rows_at (k : Fin 2048) : H.rows (ix2 r k) = (H.row r).rows k := by
  unfold Half.rows k0_pay18 Row.rows
  rw [← funext (stream_at H r)]
  unfold Half.stream
  generalize k0_pay17 H.out H.x H.outSq H.gpost = s
  pointwise
  rfl

end

/-! ## A whole point -/

/-- A window of unit stride at its own indices. -/
theorem window_at {n0 n1 r0 c0 h w : ℕ} {α : Type} (x : (⟨2, ![n0, n1]⟩ : Shape).Idx → α) (inb : ∀ a, (![r0, c0] : Fin 2 → ℕ) a + (![h, w] : Fin 2 → ℕ) a ≤ (⟨2, ![n0, n1]⟩ : Shape).size a)
    (r : Fin h) (k : Fin w) (R : Fin n0) (K : Fin n1) (hR : R.val = r0 + r.val) (hK : K.val = c0 + k.val) :
    VecWindow.window x ![r0, c0] ![h, w] inb (ix2 r k) = x (ix2 R K) := by
  refine congrArg x (funext fun a => Fin.ext ?_)
  fin_cases a
  · show r0 + 1 * r.val = R.val; omega
  · show c0 + 1 * k.val = K.val; omega

/-- The 128 rows from row `s` on. -/
theorem inb_half {s h w n0 n1 c0 : ℕ} (h0 : s + h ≤ n0) (h1 : c0 + w ≤ n1) : ∀ a, (![s, c0] : Fin 2 → ℕ) a + (![h, w] : Fin 2 → ℕ) a ≤ (⟨2, ![n0, n1]⟩ : Shape).size a :=
  Fin.forall_fin_two.mpr ⟨h0, h1⟩

def Ins.half (B : Ins Ideal) (s : ℕ) (hs : s + 128 ≤ 256) : Half Ideal where
  a0 := VecWindow.window B.t0 ![s, 512] S128x512.size (inb_half hs (by decide))
  a1 := VecWindow.window B.t1 ![s, 0] S128x1024.size (inb_half hs (by decide))
  a2 := VecWindow.window B.t2 ![s, 0] S128x512.size (inb_half hs (by decide))
  b0 := VecWindow.window B.t2 ![s, 512] S128x512.size (inb_half hs (by decide))
  b1 := VecWindow.window B.t3 ![s, 0] S128x1024.size (inb_half hs (by decide))
  b2 := VecWindow.window B.t4 ![s, 0] S128x512.size (inb_half hs (by decide))
  att := VecWindow.window B.att ![s, 0] S128x1024.size (inb_half hs (by decide))
  of := VecWindow.window B.of ![s, 0] S128x1024.size (inb_half hs (by decide))
  ob := VecWindow.window B.ob ![s, 0] S128x1024.size (inb_half hs (by decide))
  g := VecWindow.window B.g ![s, 0] S128x1024.size (inb_half hs (by decide))
  x := VecWindow.window B.x ![s, 0] S128x2048.size (inb_half hs (by decide))
  wa := VecWindow.window B.wa ![0, 0] S1024x2048.size inb_S1024x2048_S1024x2048_0_0
  wb := VecWindow.window B.wb ![0, 0] S1024x2048.size inb_S1024x2048_S1024x2048_0_0
  wo := VecWindow.window B.wo ![0, 0] S2048x2048.size inb_S2048x2048_S2048x2048_0_0
  hgain := VecWindow.window B.hgain ![0, 0] S1x1024.size inb_S1x1024_S1x1024_0_0
  gpost := VecWindow.window B.gpost ![0, 0] S1x2048.size inb_S1x2048_S1x2048_0_0
  gpre := VecWindow.window B.gpre ![0, 0] S1x2048.size inb_S1x2048_S1x2048_0_0

theorem upper_eq (B : Ins Ideal) : B.upper = B.half 0 (by decide) := rfl
theorem lower_eq (B : Ins Ideal) : B.lower = B.half 128 (by decide) := rfl

def Ins.row (B : Ins Ideal) (r : Fin 256) : Row where
  o q := B.of (ix2 r q) + B.ob (ix2 r q)
  att q := B.att (ix2 r q)
  g q := B.g (ix2 r q)
  ga := pieces (fun j => B.t0 (ix2 r ⟨512 + j.val, by omega⟩)) (fun j => B.t1 (ix2 r j)) (fun j => B.t2 (ix2 r ⟨j.val, by omega⟩))
  gb := pieces (fun j => B.t2 (ix2 r ⟨512 + j.val, by omega⟩)) (fun j => B.t3 (ix2 r j)) (fun j => B.t4 (ix2 r ⟨j.val, by omega⟩))
  x k := B.x (ix2 r k)
  wa q k := B.wa (ix2 q k)
  wb q k := B.wb (ix2 q k)
  wo q k := B.wo (ix2 q k)
  hgain q := B.hgain (ix2 0 q)
  gpost k := B.gpost (ix2 0 k)
  gpre k := B.gpre (ix2 0 k)

theorem half_row (B : Ins Ideal) (s : ℕ) (hs : s + 128 ≤ 256) (r : Fin 128) (R : Fin 256) (hR : R.val = s + r.val) : (B.half s hs).row r = B.row R := by
  unfold Half.row Ins.row Ins.half
  have h0 : ∀ {n : ℕ} (k : Fin n), k.val = 0 + k.val := fun k => (Nat.zero_add k.val).symm
  rw [Row.mk.injEq]
  refine ⟨funext fun q => congrArg₂ (· + ·) (window_at B.of _ r q R q hR (h0 q)) (window_at B.ob _ r q R q hR (h0 q)),
    funext fun q => window_at B.att _ r q R q hR (h0 q), funext fun q => window_at B.g _ r q R q hR (h0 q), ?_, ?_,
    funext fun k => window_at B.x _ r k R k hR (h0 k), funext fun q => funext fun k => window_at B.wa _ q k q k (h0 q) (h0 k),
    funext fun q => funext fun k => window_at B.wb _ q k q k (h0 q) (h0 k), funext fun q => funext fun k => window_at B.wo _ q k q k (h0 q) (h0 k),
    funext fun q => window_at B.hgain _ 0 q 0 q rfl (h0 q), funext fun q => window_at B.gpost _ 0 q 0 q rfl (h0 q),
    funext fun q => window_at B.gpre _ 0 q 0 q rfl (h0 q)⟩
  · congr 1
    · exact funext fun j => window_at B.t0 _ r j R ⟨512 + j.val, by omega⟩ hR rfl
    · exact funext fun j => window_at B.t1 _ r j R j hR (h0 j)
    · exact funext fun j => window_at B.t2 _ r j R ⟨j.val, by omega⟩ hR (h0 j)
  · congr 1
    · exact funext fun j => window_at B.t2 _ r j R ⟨512 + j.val, by omega⟩ hR rfl
    · exact funext fun j => window_at B.t3 _ r j R j hR (h0 j)
    · exact funext fun j => window_at B.t4 _ r j R ⟨j.val, by omega⟩ hR (h0 j)

/-- Two stored halves at row `r`, when both agree with one function of the row and the column. -/
theorem stack_at {e : EltTy} (Y : Vec Ideal S256x2048 e) (p q : Vec Ideal S128x2048 e) (f : Fin 256 → Fin 2048 → Elt Ideal e)
    (hp : ∀ (s : Fin 128) (k : Fin 2048), p (ix2 s k) = f ⟨s.val, by omega⟩ k) (hq : ∀ (s : Fin 128) (k : Fin 2048), q (ix2 s k) = f ⟨128 + s.val, by omega⟩ k)
    (r : Fin 256) (k : Fin 2048) : stack Y p q (ix2 r k) = f r k := by
  unfold stack VecWindow.put
  by_cases h : r.val < 128
  · rw [dif_neg (fun hc => absurd (hc 0).1 (by show ¬ 128 ≤ r.val; omega)), dif_pos (Fin.forall_fin_two.mpr ⟨⟨Nat.zero_le _, by show r.val < 0 + 128; omega⟩, ⟨Nat.zero_le _, by show k.val < 0 + 2048; omega⟩⟩)]
    refine Eq.trans (congrArg p (funext fun a => ?_)) (hp ⟨r.val, h⟩ k)
    fin_cases a <;> rfl
  · rw [dif_pos (Fin.forall_fin_two.mpr ⟨⟨by show 128 ≤ r.val; omega, by show r.val < 128 + 128; omega⟩, ⟨Nat.zero_le _, by show k.val < 0 + 2048; omega⟩⟩)]
    refine (Eq.trans (congrArg q (funext fun a => ?_)) (hq ⟨r.val - 128, by omega⟩ k)).trans (congrArg (f · k) (Fin.ext ?_))
    · fin_cases a <;> rfl
    · show 128 + (r.val - 128) = r.val
      omega

theorem newX_at (B : Ins Ideal) (Y : Vec Ideal S256x2048 .f32) (r : Fin 256) (k : Fin 2048) : newX B Y (ix2 r k) = (B.row r).stream k :=
  stack_at Y _ _ (fun r k => (B.row r).stream k)
    (fun s k => by rw [stream_at, upper_eq, half_row B 0 _ s ⟨s.val, by omega⟩ (Nat.zero_add _).symm])
    (fun s k => by rw [stream_at, lower_eq, half_row B 128 _ s ⟨128 + s.val, by omega⟩ rfl]) r k
theorem newH_at (B : Ins Ideal) (Y : Vec Ideal S256x2048 .bf16) (r : Fin 256) (k : Fin 2048) : newH B Y (ix2 r k) = (B.row r).rows k :=
  stack_at Y _ _ (fun r k => (B.row r).rows k)
    (fun s k => by rw [rows_at, upper_eq, half_row B 0 _ s ⟨s.val, by omega⟩ (Nat.zero_add _).symm])
    (fun s k => by rw [rows_at, lower_eq, half_row B 128 _ s ⟨128 + s.val, by omega⟩ rfl]) r k

end Cert.Kernel5Ideal.Merge

end
-- ==== Proof.MergeRef.lean ====
/- The reference's results as functions of its arguments, over the extended reals. -/
module

public import proofs.«01_k».proof.Proof.MergeStep
public import proofs.«01_k».proof.Proof.Gen.Reference5Ideal.Run

@[expose] public section

set_option maxRecDepth 16384

noncomputable section

namespace Cert.Reference5Ideal.Merge

open Cert.Reference5Ideal Idealize.ShloMosaic Idealize.ShloMosaic.TcCoe Idealize.SL.Sem
open Cert.Kernel5Ideal.Merge

variable (m : (ℓ : Loc nD τ sig) → Buf (Elt Ideal) ℓ) (c : Dev nD)

/-- The reference's token at row `R`. -/
def token (R : Fin 16384) : Row :=
  tokenRow (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) R

abbrev resX : Vec Ideal S16384x2048 .f32 := Value.res_main_v44 m c
abbrev resH : Vec Ideal S16384x2048 .bf16 := Value.res_main_v57 m c

set_option maxHeartbeats 1000000 in
theorem resX_at (R : Fin 16384) (K : Fin 2048) : resX m c (ix2 R K) = (token m c R).stream K := by
  unfold resX Value.res_main_v44
  pointwise
  rfl

set_option maxHeartbeats 1000000 in
theorem resH_at (R : Fin 16384) (K : Fin 2048) : resH m c (ix2 R K) = (token m c R).rows K := by
  unfold resH Value.res_main_v57
  pointwise
  rfl

/-- The run, both results known. -/
theorem run_value (ρ : Dev nD → PrngReg) : θ_run defs (onTc (τ := τ) (main (F := Ideal))) ⟨m, fun _ => 0, ρ⟩ fun r => ∀ c : Dev nD,
      r.2.mem ((c.tc : Thread nD τ).loc main_v44) = (fun i => (token m c (i 0)).stream (i 1))
      ∧ r.2.mem ((c.tc : Thread nD τ).loc main_v57) = (fun i => (token m c (i 0)).rows (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).1).trans (funext fun i => (congrArg (resX m c) (funext fun a => by fin_cases a <;> rfl)).trans (resX_at m c (i 0) (i 1))),
    ((h c).2.1).trans (funext fun i => (congrArg (resH m c) (funext fun a => by fin_cases a <;> rfl)).trans (resH_at m c (i 0) (i 1))), (h c).2.2⟩)
    (Value.run (F := Ideal) m ρ)

end Cert.Reference5Ideal.Merge

end
-- ==== Proof.Merge.lean ====
/- The merge of the two branches. Each of 64 points takes 256 rows in two halves of 128. The kernel writes out the
   normalisation of each of the eight heads, and joins the rows of the two merge gates from five tiles of the array that
   holds all gates; the last tile is cut at that array's edge, and the part of it that lies beyond is never used. An element
   is therefore the same function of one row of every input array that the reference computes, with the two branches added
   in the other order. -/
module

public import proofs.«01_k».proof.Defs
public import proofs.«01_k».proof.Proof.MergeRef
public import proofs.«01_k».proof.Proof.Gen.Kernel5.Frame
public import Idealize.ShloMosaic.Lib.Pipeline.ArrRel
public import Idealize.ShloMosaic.Lib.Quiescent

@[expose] public section

set_option maxRecDepth 16384

noncomputable section

namespace Cert.Kernel5Ideal.Merge

open Cert.Kernel5Ideal Cert.Kernel5Ideal.Gen Idealize.ShloMosaic Idealize.ShloMosaic.TcCoe Idealize.SL.Sem
open Idealize.ShloMosaic.Pipeline (Dat RDat)

variable (m : (ℓ : Loc nD τ sig) → Buf (Elt Ideal) ℓ) (ρ : Dev nD → PrngReg)

/-- The array of all gates, as launched. -/
abbrev gates (c : Dev nD) : Vec Ideal S16384x8704 .bf16 := m ((c : Thread nD τ).loc main_arg2)

/-- The token at row `R` of the launched arrays. -/
def token (c : Dev nD) (R : Fin 16384) : Row :=
  tokenRow (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) R

/-- The two result arrays. -/
def GX (c : Dev nD) : Vec Ideal S16384x2048 .f32 := fun i => (token m c (i 0)).stream (i 1)
def GH (c : Dev nD) : Vec Ideal S16384x2048 .bf16 := fun i => (token m c (i 0)).rows (i 1)

/-! ## The grid -/

theorem idx : ∀ t : Fin cfg0.N, win0_0.index t = ![t.val, 0] ∧ win0_1.index t = ![t.val, 0] ∧ win0_2.index t = ![t.val, 2] ∧ win0_3.index t = ![t.val, 0]
    ∧ win0_4.index t = ![t.val, 4] ∧ win0_5.index t = ![t.val, 5] ∧ win0_6.index t = ![t.val, 6] ∧ win0_7.index t = ![t.val, 7]
    ∧ win0_8.index t = ![t.val, 8] ∧ win0_9.index t = ![t.val, 0] ∧ win0_10.index t = ![0, 0] ∧ win0_11.index t = ![0, 0]
    ∧ win0_12.index t = ![0, 0] ∧ win0_13.index t = ![0, 0] ∧ win0_14.index t = ![0, 0] ∧ win0_15.index t = ![0, 0]
    ∧ win0_16.index t = ![t.val, 0] ∧ win0_17.index t = ![t.val, 0] := by
  decide +kernel

theorem size_8 : ∀ t : Fin cfg0.N, win0_8.xsize (grid0.coords t) = ![256, 512] := by decide +kernel

theorem t_lt (t : Fin cfg0.N) : t.val < 64 := by have : cfg0.N = 64 := N_0; omega

/-- The row of the arrays that is row `r` of point `t`'s blocks. -/
def rowOf (t : Fin cfg0.N) (r : Fin 256) : Fin 16384 := ⟨256 * t.val + r.val, by have := t_lt t; omega⟩

/-! ## The blocks -/

theorem blk_0 (c : Dev nD) (t : Fin cfg0.N) (r : Fin 256) (k : Fin 1024) :
    iblk m c 0 t (ix2 r k) = (m ((c : Thread nD τ).loc main_arg0) : Vec Ideal S16384x1024 .f32) (ix2 (rowOf t r) k) := by
  unfold rowOf
  blk_ext [iblk, V, idx t]
theorem blk_1 (c : Dev nD) (t : Fin cfg0.N) (r : Fin 256) (k : Fin 1024) :
    iblk m c 1 t (ix2 r k) = (m ((c : Thread nD τ).loc main_arg1) : Vec Ideal S16384x1024 .f32) (ix2 (rowOf t r) k) := by
  unfold rowOf
  blk_ext [iblk, V, idx t]
theorem blk_3 (c : Dev nD) (t : Fin cfg0.N) (r : Fin 256) (k : Fin 1024) :
    iblk m c 3 t (ix2 r k) = (m ((c : Thread nD τ).loc main_arg3) : Vec Ideal S16384x1024 .bf16) (ix2 (rowOf t r) k) := by
  unfold rowOf
  blk_ext [iblk, V, idx t]
theorem blk_9 (c : Dev nD) (t : Fin cfg0.N) (r : Fin 256) (k : Fin 2048) :
    iblk m c 9 t (ix2 r k) = (m ((c : Thread nD τ).loc main_arg4) : Vec Ideal S16384x2048 .f32) (ix2 (rowOf t r) k) := by
  unfold rowOf
  blk_ext [iblk, V, idx t]
theorem blk_10 (c : Dev nD) (t : Fin cfg0.N) (q : Fin 1024) (k : Fin 2048) :
    iblk m c 10 t (ix2 q k) = (m ((c : Thread nD τ).loc main_arg5) : Vec Ideal S1024x2048 .bf16) (ix2 q k) := by
  blk_ext [iblk, V, idx t]
theorem blk_11 (c : Dev nD) (t : Fin cfg0.N) (q : Fin 1024) (k : Fin 2048) :
    iblk m c 11 t (ix2 q k) = (m ((c : Thread nD τ).loc main_arg6) : Vec Ideal S1024x2048 .bf16) (ix2 q k) := by
  blk_ext [iblk, V, idx t]
theorem blk_12 (c : Dev nD) (t : Fin cfg0.N) (q : Fin 2048) (k : Fin 2048) :
    iblk m c 12 t (ix2 q k) = (m ((c : Thread nD τ).loc main_arg7) : Vec Ideal S2048x2048 .bf16) (ix2 q k) := by
  blk_ext [iblk, V, idx t]
theorem blk_13 (c : Dev nD) (t : Fin cfg0.N) (q : Fin 1) (k : Fin 1024) :
    iblk m c 13 t (ix2 q k) = (m ((c : Thread nD τ).loc main_arg8) : Vec Ideal S1x1024 .f32) (ix2 q k) := by
  blk_ext [iblk, V, idx t]
theorem blk_14 (c : Dev nD) (t : Fin cfg0.N) (q : Fin 1) (k : Fin 2048) :
    iblk m c 14 t (ix2 q k) = (m ((c : Thread nD τ).loc main_arg9) : Vec Ideal S1x2048 .f32) (ix2 q k) := by
  blk_ext [iblk, V, idx t]
theorem blk_15 (c : Dev nD) (t : Fin cfg0.N) (q : Fin 1) (k : Fin 2048) :
    iblk m c 15 t (ix2 q k) = (m ((c : Thread nD τ).loc main_arg10) : Vec Ideal S1x2048 .f32) (ix2 q k) := by
  blk_ext [iblk, V, idx t]

/-! The tiles of the array of all gates. -/

theorem tile_2 (c : Dev nD) (t : Fin cfg0.N) (r : Fin 256) (j : Fin 1024) (J : Fin 8704) (hJ : J.val = 1024 * 2 + j.val) :
    X0_2 m c t (ix2 r j) = gates m c (ix2 (rowOf t r) J) := by
  unfold X0_2
  refine (dif_pos (moved0_2 t (ix2 r j))).trans (congrArg (gates m c) ?_)
  obtain ⟨n, hn⟩ := J
  obtain rfl : n = 1024 * 2 + j.val := hJ
  unfold rowOf
  blk_ext [idx t]
theorem tile_4 (c : Dev nD) (t : Fin cfg0.N) (r : Fin 256) (j : Fin 1024) (J : Fin 8704) (hJ : J.val = 1024 * 4 + j.val) :
    X0_4 m c t (ix2 r j) = gates m c (ix2 (rowOf t r) J) := by
  unfold X0_4
  refine (dif_pos (moved0_4 t (ix2 r j))).trans (congrArg (gates m c) ?_)
  obtain ⟨n, hn⟩ := J
  obtain rfl : n = 1024 * 4 + j.val := hJ
  unfold rowOf
  blk_ext [idx t]
theorem tile_5 (c : Dev nD) (t : Fin cfg0.N) (r : Fin 256) (j : Fin 1024) (J : Fin 8704) (hJ : J.val = 1024 * 5 + j.val) :
    X0_5 m c t (ix2 r j) = gates m c (ix2 (rowOf t r) J) := by
  unfold X0_5
  refine (dif_pos (moved0_5 t (ix2 r j))).trans (congrArg (gates m c) ?_)
  obtain ⟨n, hn⟩ := J
  obtain rfl : n = 1024 * 5 + j.val := hJ
  unfold rowOf
  blk_ext [idx t]
theorem tile_6 (c : Dev nD) (t : Fin cfg0.N) (r : Fin 256) (j : Fin 1024) (J : Fin 8704) (hJ : J.val = 1024 * 6 + j.val) :
    X0_6 m c t (ix2 r j) = gates m c (ix2 (rowOf t r) J) := by
  unfold X0_6
  refine (dif_pos (moved0_6 t (ix2 r j))).trans (congrArg (gates m c) ?_)
  obtain ⟨n, hn⟩ := J
  obtain rfl : n = 1024 * 6 + j.val := hJ
  unfold rowOf
  blk_ext [idx t]
theorem tile_7 (c : Dev nD) (t : Fin cfg0.N) (r : Fin 256) (j : Fin 1024) (J : Fin 8704) (hJ : J.val = 1024 * 7 + j.val) :
    X0_7 m c t (ix2 r j) = gates m c (ix2 (rowOf t r) J) := by
  unfold X0_7
  refine (dif_pos (moved0_7 t (ix2 r j))).trans (congrArg (gates m c) ?_)
  obtain ⟨n, hn⟩ := J
  obtain rfl : n = 1024 * 7 + j.val := hJ
  unfold rowOf
  blk_ext [idx t]

/-- The last tile at a column inside the array, whatever lies beyond the edge. -/
theorem tile_8 (c : Dev nD) (t : Fin cfg0.N) (d : Vec Ideal S256x1024 .bf16) (r : Fin 256) (j : Fin 1024) (J : Fin 8704) (hJ : J.val = 1024 * 8 + j.val) :
    gtile m c t d (ix2 r j) = gates m c (ix2 (rowOf t r) J) := by
  have hm : (cfg0.win 8).moved (cfg0.grid.coords t) (ix2 r j) = true := ((cfg0.win 8).moved_iff _ _).mpr (Fin.forall_fin_two.mpr
    ⟨Nat.lt_of_lt_of_eq r.isLt (congrFun (size_8 t) 0).symm, Nat.lt_of_lt_of_eq (by show j.val < 512; omega) (congrFun (size_8 t) 1).symm⟩)
  refine (dif_pos hm).trans (congrArg (gates m c) ?_)
  obtain ⟨n, hn⟩ := J
  obtain rfl : n = 1024 * 8 + j.val := hJ
  unfold rowOf
  blk_ext [idx t]

/-- A row of gates joined from three pieces of one row. -/
theorem pieces_of (φ : Fin 2048 → EReal) (u : Fin 512 → EReal) (v : Fin 1024 → EReal) (w : Fin 512 → EReal) (hu : ∀ j, u j = φ ⟨j.val, by omega⟩)
    (hv : ∀ j, v j = φ ⟨512 + j.val, by omega⟩) (hw : ∀ j, w j = φ ⟨1536 + j.val, by omega⟩) : pieces u v w = φ := by
  funext k
  unfold pieces
  split_ifs
  · exact hu _
  · refine (hv _).trans (congrArg φ (Fin.ext ?_))
    show 512 + (k.val - 512) = k.val
    omega
  · refine (hw _).trans (congrArg φ (Fin.ext ?_))
    show 1536 + (k.val - 512 - 1024) = k.val
    omega

/-- A row of a point's blocks is a row of the arrays. -/
theorem ins_row (c : Dev nD) (t : Fin cfg0.N) (d : Vec Ideal S256x1024 .bf16) (r : Fin 256) : (ins m c t d).row r = token m c (rowOf t r) := by
  unfold Ins.row token tokenRow ins
  rw [Row.mk.injEq]
  refine ⟨funext fun q => congrArg₂ (· + ·) (blk_0 m c t r q) (blk_1 m c t r q), funext fun q => blk_3 m c t r q, funext fun q => tile_2 m c t r q _ rfl,
    pieces_of _ _ _ _ (fun j => ?_) (fun j => ?_) (fun j => ?_), pieces_of _ _ _ _ (fun j => ?_) (fun j => ?_) (fun j => ?_),
    funext fun k => blk_9 m c t r k, funext fun q => funext fun k => blk_10 m c t q k, funext fun q => funext fun k => blk_11 m c t q k,
    funext fun q => funext fun k => blk_12 m c t q k, funext fun q => blk_13 m c t 0 q, funext fun q => blk_14 m c t 0 q, funext fun q => blk_15 m c t 0 q⟩
  · exact tile_4 m c t r _ _ (by show 4608 + j.val = 1024 * 4 + (512 + j.val); omega)
  · exact tile_5 m c t r _ _ (by show 4608 + (512 + j.val) = 1024 * 5 + j.val; omega)
  · exact tile_6 m c t r _ _ (by show 4608 + (1536 + j.val) = 1024 * 6 + j.val; omega)
  · exact tile_6 m c t r _ _ (by show 6656 + j.val = 1024 * 6 + (512 + j.val); omega)
  · exact tile_7 m c t r _ _ (by show 6656 + (512 + j.val) = 1024 * 7 + j.val; omega)
  · exact tile_8 m c t d r _ _ (by show 6656 + (1536 + j.val) = 1024 * 8 + j.val; omega)

/-! ## The result arrays -/

theorem leaves_X (c : Dev nD) (t : Fin cfg0.N) (X : Vec Ideal S256x2048 .f32) (h : (rdat m c).Leaves 16 t X) :
    ∃ Y, (rdat m c).Finds 16 t Y ∧ ∃ d, X = newX (ins m c t d) Y := h
theorem stored_X (c : Dev nD) (t : Fin cfg0.N) (X : Vec Ideal S256x2048 .f32) (h : (rdat m c).Leaves 16 t X) (r : Fin 256) (k : Fin 2048) :
    X (ix2 r k) = (token m c (rowOf t r)).stream k := by
  obtain ⟨Y, -, d, rfl⟩ := leaves_X m c t X h
  exact (newX_at _ Y r k).trans (congrArg (fun T : Row => T.stream k) (ins_row m c t d r))
theorem leaves_H (c : Dev nD) (t : Fin cfg0.N) (X : Vec Ideal S256x2048 .bf16) (h : (rdat m c).Leaves 17 t X) :
    ∃ Y, (rdat m c).Finds 17 t Y ∧ ∃ d, X = newH (ins m c t d) Y := h
theorem stored_H (c : Dev nD) (t : Fin cfg0.N) (X : Vec Ideal S256x2048 .bf16) (h : (rdat m c).Leaves 17 t X) (r : Fin 256) (k : Fin 2048) :
    X (ix2 r k) = (token m c (rowOf t r)).rows k := by
  obtain ⟨Y, -, d, rfl⟩ := leaves_H m c t X h
  exact (newH_at _ Y r k).trans (congrArg (fun T : Row => T.rows k) (ins_row m c t d r))

theorem final_X (c : Dev nD) (after : (w : Fin cfg0.W) → Fin cfg0.N → (cfg0.win w).block.Idx → Elt Ideal (cfg0.win w).elt)
    (h : ∀ w u, (cfg0.win w).flush u = true → (rdat m c).Leaves w u (after w u)) : ((rdat m c).withAfter after).arrAt 16 cfg0.N = GX m c := by
  refine ((rdat m c).withAfter after).arrAt_eq_of_covers 16 _ (by decide +kernel) fun t hf y => ?_
  refine Eq.trans ?_ ((stored_X m c t _ (h 16 t hf) (y 0) (y 1)).trans ?_)
  · exact congrArg (after 16 t) (funext fun a => by fin_cases a <;> rfl)
  · have e0 : ((cfg0.win 16).blk t).view.emb y = ix2 (rowOf t (y 0)) (y 1) := by
      unfold rowOf
      blk_ext [idx t]
    rw [e0]
    rfl
theorem final_H (c : Dev nD) (after : (w : Fin cfg0.W) → Fin cfg0.N → (cfg0.win w).block.Idx → Elt Ideal (cfg0.win w).elt)
    (h : ∀ w u, (cfg0.win w).flush u = true → (rdat m c).Leaves w u (after w u)) : ((rdat m c).withAfter after).arrAt 17 cfg0.N = GH m c := by
  refine ((rdat m c).withAfter after).arrAt_eq_of_covers 17 _ (by decide +kernel) fun t hf y => ?_
  refine Eq.trans ?_ ((stored_H m c t _ (h 17 t hf) (y 0) (y 1)).trans ?_)
  · exact congrArg (after 17 t) (funext fun a => by fin_cases a <;> rfl)
  · have e0 : ((cfg0.win 17).blk t).view.emb y = ix2 (rowOf t (y 0)) (y 1) := by
      unfold rowOf
      blk_ext [idx t]
    rw [e0]
    rfl

/-- The run with the result arrays known, the arguments unchanged. -/
theorem run_value : θ_run defs (onTc (τ := τ) (main (F := Ideal))) ⟨m, fun _ => 0, ρ⟩ fun r => ∀ c : Dev nD,
      r.2.mem ((c : Thread nD τ).loc main_v0_0) = GX m c
      ∧ r.2.mem ((c : Thread nD τ).loc main_v0_1) = GH m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => by
    obtain ⟨after, ha, hm⟩ := RDat.FramePost.exists_exact h.1 c
    exact ⟨(hm 16).trans (final_X m c after ha), (hm 17).trans (final_H m c after ha),
      h.1.arr_in c 0 rfl, h.1.arr_in c 1 rfl, h.1.arr_in c 2 rfl, h.1.arr_in c 3 rfl, h.1.arr_in c 9 rfl, h.1.arr_in c 10 rfl,
      h.1.arr_in c 11 rfl, h.1.arr_in c 12 rfl, h.1.arr_in c 13 rfl, h.1.arr_in c 14 rfl, h.1.arr_in c 15 rfl⟩) (run_quiet m ρ)

end Cert.Kernel5Ideal.Merge

/-! ## The claims about this call -/

namespace Cert.Proof.Merge

open Idealize.ShloMosaic Idealize.ShloMosaic.TcCoe Idealize.SL.Sem Cert.Kernel5Ideal.Merge

theorem frame_ideal : Cert.quiescent_Kernel5Ideal := fun m ρ _ => run_frame (F := Ideal) m ρ

/-- The program on bits and the one on extended reals have the same text, so that on bits their bodies are the same. -/
theorem bodies_eq : Cert.Kernel5.defs₀ (F := Bits) = Cert.Kernel5Ideal.defs₀ (F := Bits) := by
  refine congrArg Defs.onTc (funext fun l => funext fun a => ?_)
  fin_cases l
  rfl

theorem defs_eq : Cert.Kernel5.defs (F := Bits) = Cert.Kernel5Ideal.defs (F := Bits) := congrArg (Pipeline.defs _) bodies_eq

theorem frame : Cert.quiescent_Kernel5 := fun m ρ _ => by
  have h := run_frame (F := Bits) m ρ
  rw [← defs_eq] at h
  exact h

/-- The reference is a list of host operations and declares no semaphore. -/
theorem frame_reference : Cert.quiescent_Reference5Ideal := fun m ρ _ =>
  (θ_run Cert.Reference5Ideal.defs _ _).mono
    (fun r h => ⟨fun c => (h c).2.2, Idealize.ShloMosaic.sem_eq_zero_of_no_sems (by decide) r.2⟩)
    (Cert.Reference5Ideal.Merge.run_value m ρ)

theorem preserves : Cert.preserves_Kernel5_Kernel5Ideal := trivial

/-- Both programs end with the same two functions of equal arguments. -/
theorem algebraic : Cert.algebraic_Kernel5Ideal_Reference5Ideal := by
  intro m ρ m' ρ' _ hagree
  have e : ∀ c, Cert.Reference5Ideal.Merge.token m' c = token m c := fun c => by
    obtain ⟨h0, h1, h2, h3, h4, h5, h6, h7, h8, h9, h10⟩ := hagree c
    unfold Cert.Reference5Ideal.Merge.token
    rw [h0, h1, h2, h3, h4, h5, h6, h7, h8, h9, h10]
    rfl
  refine ⟨fun c => GX m c, fun c => GH m c, run_value m ρ, ?_⟩
  refine (θ_run Cert.Reference5Ideal.defs _ _).mono (fun _ h c => ⟨(h c).1.trans ?_, (h c).2.1.trans ?_, (h c).2.2⟩)
    (Cert.Reference5Ideal.Merge.run_value m' ρ')
  · rw [e c]
    rfl
  · rw [e c]
    rfl

end Cert.Proof.Merge

end
-- ==== Proof.lean ====
/- `Cert.Claim`: the frames of each call's kernel, of its idealized kernel and of its reference, and the equality of the two
   idealized programs' results. One module per call proves its part. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Scan
public import proofs.«01_k».proof.Proof.FfnUp
public import proofs.«01_k».proof.Proof.FfnDown
public import proofs.«01_k».proof.Proof.InProj
public import proofs.«01_k».proof.Proof.Merge

@[expose] public section

noncomputable section

namespace Cert.Proof

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts,
  Cert.Kernel3Ideal.Gen.facts, Cert.Reference3Ideal.Gen.facts, Cert.Kernel4.Gen.facts,
  Cert.Kernel4Ideal.Gen.facts, Cert.Reference4Ideal.Gen.facts, Cert.Kernel5.Gen.facts,
  Cert.Kernel5Ideal.Gen.facts, Cert.Reference5Ideal.Gen.facts, Scan.facts,
  Scan.frame, Scan.frame_ideal, Scan.frame_ideal_finite, Scan.frame_reference, Scan.frame_reference_finite,
  FfnUp.frame, FfnUp.frame_ideal, FfnUp.frame_reference, FfnDown.frame, FfnDown.frame_ideal,
  FfnDown.frame_reference, InProj.frame, InProj.frame_ideal, InProj.frame_reference, Merge.frame,
  Merge.frame_ideal, Merge.frame_reference, Scan.preserves, Scan.algebraic, FfnUp.preserves, FfnUp.algebraic,
  FfnDown.preserves, FfnDown.algebraic, InProj.preserves, InProj.algebraic, Merge.preserves, Merge.algebraic⟩

end Cert.Proof

end
